-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts : Cert.Pre_experts.Facts] (m : (ℓ : Loc Cert.Kernel3.nD Cert.Kernel3.τ Cert.Kernel3.sig) → Buf (Elt Bits) ℓ) : Prop :=
  ∀ c : Dev Cert.Kernel3.nD,
    (Cert.Pre_experts.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))) = (fun _ => 1#1)

def Pre_Kernel3Ideal [hPre_experts : Cert.Pre_experts.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts [hPre_experts : Cert.Pre_experts.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_experts : Cert.Pre_experts.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_experts [hReference3Ideal : Cert.Reference3Ideal.Facts] [hPre_experts : Cert.Pre_experts.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v41_0)) (v1 : (c : Dev Cert.Kernel2Ideal.nD) → Buf (Elt Ideal) ((c.tc : Thread Cert.Kernel2Ideal.nD Cert.Kernel2Ideal.τ).loc Cert.Kernel2Ideal.main_v41_1)) (v2 : (c : Dev Cert.Kernel2Ideal.nD) → Buf (Elt Ideal) ((c.tc : Thread Cert.Kernel2Ideal.nD Cert.Kernel2Ideal.τ).loc Cert.Kernel2Ideal.main_v41_2)) (v3 : (c : Dev Cert.Kernel2Ideal.nD) → Buf (Elt Ideal) ((c.tc : Thread Cert.Kernel2Ideal.nD Cert.Kernel2Ideal.τ).loc Cert.Kernel2Ideal.main_v41_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41_0) = v0 c
          ∧ r.2.mem ((c.tc : Thread Cert.Kernel2Ideal.nD Cert.Kernel2Ideal.τ).loc Cert.Kernel2Ideal.main_v41_1) = v1 c
          ∧ r.2.mem ((c.tc : Thread Cert.Kernel2Ideal.nD Cert.Kernel2Ideal.τ).loc Cert.Kernel2Ideal.main_v41_2) = v2 c
          ∧ r.2.mem ((c.tc : Thread Cert.Kernel2Ideal.nD Cert.Kernel2Ideal.τ).loc Cert.Kernel2Ideal.main_v41_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v89) = v0 c
          ∧ r.2.mem ((c.tc : Thread Cert.Reference2Ideal.nD Cert.Reference2Ideal.τ).loc Cert.Reference2Ideal.main_v90) = v1 c
          ∧ r.2.mem ((c.tc : Thread Cert.Reference2Ideal.nD Cert.Reference2Ideal.τ).loc Cert.Reference2Ideal.main_v87) = v2 c
          ∧ r.2.mem ((c.tc : Thread Cert.Reference2Ideal.nD Cert.Reference2Ideal.τ).loc Cert.Reference2Ideal.main_v91) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_experts : Cert.Pre_experts.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts := hPre_experts)
    ∧ quiescent_Kernel3Ideal (hKernel3Ideal := hKernel3Ideal) (hPre_experts := hPre_experts)
    ∧ quiescent_Reference3Ideal (hReference3Ideal := hReference3Ideal)
    ∧ quiescent_Reference3Ideal_pre_experts (hReference3Ideal := hReference3Ideal) (hPre_experts := hPre_experts)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts := hPre_experts)
-- ==== Pre_experts.lean ====
abbrev S304 : Shape := ⟨1, ![304]⟩
abbrev S1 : Shape := ⟨1, ![1]⟩
abbrev S77824x1024 : Shape := ⟨2, ![77824, 1024]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S304 : S_.BroadcastsInDim S304 (![] : Fin 0 → Fin S304.rank)
  reducesTo_S304_S_d0 : S304.ReducesTo [0] S_
  h_S_ : 0 < S_.numel

variable [Facts]

def fn {F : FTy → Type} [FloatOps F] (main_arg0 : IVec S304 32) (main_arg1 : IVec S1 32) (main_arg2 : FVec F S77824x1024 .f32) (main_arg3 : FVec F S32x1024x1024 .f32) (main_arg4 : FVec F S32x1x1024 .f32) (main_arg5 : FVec F S32x1024x1024 .f32) (main_arg6 : FVec F S32x1x1024 .f32) (main_arg7 : FVec F S32x1024x1024 .f32) (main_arg8 : FVec F S32x1x1024 .f32) : IVec S_ 1 :=
  let main_c : IVec S_ 32 := constantI S_ 32 0#32
  let main_v0 : IVec S304 32 := broadcastInDim S304 ![] bcast_S_S304 main_c
  let main_v1 : IVec S304 1 := cmpi .sge main_arg0 main_v0
  let main_c_0 : IVec S_ 32 := constantI S_ 32 32#32
  let main_v2 : IVec S304 32 := broadcastInDim S304 ![] bcast_S_S304 main_c_0
  let main_v3 : IVec S304 1 := cmpi .slt main_arg0 main_v2
  let main_v4 : IVec S304 1 := andi main_v1 main_v3
  let main_c_1 : IVec S_ 1 := constantI S_ 1 1#1
  let main_v5 : IVec S_ 1 := (fun x v => Host.reduce IntOp.andi x v reducesTo_S304_S_d0 h_S_) main_v4 main_c_1
  main_v5
-- ==== Pre_finite.lean ====
abbrev S4x4352x512 : Shape := ⟨3, ![4, 4352, 512]⟩
abbrev S4x4352x256 : Shape := ⟨3, ![4, 4352, 256]⟩
abbrev S_ : Shape := ⟨0, ![]⟩

class Facts : Prop where
  bitsLt_bf16_f32 : FTy.bits .bf16 < FTy.bits .f32
  bcast_S_S4x4352x512 : S_.BroadcastsInDim S4x4352x512 (![] : Fin 0 → Fin S4x4352x512.rank)
  reducesTo_S4x4352x512_S_d0_1_2 : S4x4352x512.ReducesTo [0, 1, 2] S_
  h_S_ : 0 < S_.numel
  bcast_S_S4x4352x256 : S_.BroadcastsInDim S4x4352x256 (![] : Fin 0 → Fin S4x4352x256.rank)
  reducesTo_S4x4352x256_S_d0_1_2 : S4x4352x256.ReducesTo [0, 1, 2] S_
  reducesTo_S_S_d : S_.ReducesTo [] S_

variable [Facts]

def fn {F : FTy → Type} [FloatOps F] (main_arg0 : FVec F S4x4352x512 .bf16) (main_arg1 : FVec F S4x4352x256 .bf16) (main_arg2 : FVec F S_ .f32) : IVec S_ 1 :=
  let main_v0 : FVec F S4x4352x512 .f32 := (extf .f32 · bitsLt_bf16_f32) main_arg0
  let main_v1 : FVec F S4x4352x512 .f32 := Host.absf main_v0
  let main_cst : FVec F S_ .f32 := constant S_ .f32 0x7F800000#32
  let main_v2 : FVec F S4x4352x512 .f32 := broadcastInDim S4x4352x512 ![] bcast_S_S4x4352x512 main_cst
  let main_v3 : IVec S4x4352x512 1 := cmpf .olt main_v1 main_v2
  let main_c : IVec S_ 1 := constantI S_ 1 1#1
  let main_v4 : IVec S_ 1 := (fun x v => Host.reduce IntOp.andi x v reducesTo_S4x4352x512_S_d0_1_2 h_S_) main_v3 main_c
  let main_v5 : FVec F S4x4352x256 .f32 := (extf .f32 · bitsLt_bf16_f32) main_arg1
  let main_v6 : FVec F S4x4352x256 .f32 := Host.absf main_v5
  let main_cst_0 : FVec F S_ .f32 := constant S_ .f32 0x7F800000#32
  let main_v7 : FVec F S4x4352x256 .f32 := broadcastInDim S4x4352x256 ![] bcast_S_S4x4352x256 main_cst_0
  let main_v8 : IVec S4x4352x256 1 := cmpf .olt main_v6 main_v7
  let main_c_1 : IVec S_ 1 := constantI S_ 1 1#1
  let main_v9 : IVec S_ 1 := (fun x v => Host.reduce IntOp.andi x v reducesTo_S4x4352x256_S_d0_1_2 h_S_) main_v8 main_c_1
  let main_v10 : IVec S_ 1 := andi main_v4 main_v9
  let main_v11 : FVec F S_ .f32 := Host.absf main_arg2
  let main_cst_2 : FVec F S_ .f32 := constant S_ .f32 0x7F800000#32
  let main_v12 : IVec S_ 1 := cmpf .olt main_v11 main_cst_2
  let main_c_3 : IVec S_ 1 := constantI S_ 1 1#1
  let main_v13 : IVec S_ 1 := (fun x v => Host.reduce IntOp.andi x v reducesTo_S_S_d h_S_) main_v12 main_c_3
  let main_v14 : IVec S_ 1 := andi main_v10 main_v13
  main_v14
-- ==== Kernel.lean ====
abbrev S4x4352x512 : Shape := ⟨3, ![4, 4352, 512]⟩
abbrev S4x4352x256 : Shape := ⟨3, ![4, 4352, 256]⟩
abbrev S_ : Shape := ⟨0, ![]⟩
abbrev S1x1 : Shape := ⟨2, ![1, 1]⟩
abbrev S4x4096x256 : Shape := ⟨3, ![4, 4096, 256]⟩
abbrev S1x256x128 : Shape := ⟨3, ![1, 256, 128]⟩
abbrev S1x4352x128 : Shape := ⟨3, ![1, 4352, 128]⟩
abbrev S256x128 : Shape := ⟨2, ![256, 128]⟩
abbrev S1x128 : Shape := ⟨2, ![1, 128]⟩
abbrev S512x128 : Shape := ⟨2, ![512, 128]⟩
abbrev S1x1280x128 : Shape := ⟨3, ![1, 1280, 128]⟩
abbrev S1280x128 : Shape := ⟨2, ![1280, 128]⟩
abbrev S512x1280 : Shape := ⟨2, ![512, 1280]⟩
abbrev S512 : Shape := ⟨1, ![512]⟩
abbrev S512x1 : Shape := ⟨2, ![512, 1]⟩
abbrev S1280x256 : Shape := ⟨2, ![1280, 256]⟩
abbrev S512x256 : Shape := ⟨2, ![512, 256]⟩
abbrev S1x512x128 : Shape := ⟨3, ![1, 512, 128]⟩
abbrev S512x512 : Shape := ⟨2, ![512, 512]⟩

abbrev nBuf : Space → Nat
  | .hbm => 5
  | .vmem => 8
  | .smem => 1
  | _ => 0

abbrev bufTy : (tb : Table) → Fin (tcTables nBuf tb) → BufTy
  | .hbm, ⟨0, _⟩ => ⟨S4x4352x512, .bf16⟩
  | .hbm, ⟨1, _⟩ => ⟨S4x4352x256, .bf16⟩
  | .hbm, ⟨2, _⟩ => ⟨S_, .f32⟩
  | .hbm, ⟨3, _⟩ => ⟨S1x1, .f32⟩
  | .hbm, ⟨4, _⟩ => ⟨S4x4096x256, .f32⟩
  | .local _ .vmem, ⟨0, _⟩ => ⟨S1x256x128, .bf16⟩
  | .local _ .vmem, ⟨1, _⟩ => ⟨S1x256x128, .bf16⟩
  | .local _ .vmem, ⟨2, _⟩ => ⟨S1x4352x128, .bf16⟩
  | .local _ .vmem, ⟨3, _⟩ => ⟨S1x4352x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x256x128, .f32⟩
  | .local _ .vmem, ⟨7, _⟩ => ⟨S1x256x128, .f32⟩
  | .local _ .smem, ⟨0, _⟩ => ⟨S1x1, .f32⟩
  | _, _ => ⟨S4x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 2, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x4352x512 : Shape := ⟨3, ![4, 4352, 512]⟩
abbrev S4x4352x256 : Shape := ⟨3, ![4, 4352, 256]⟩
abbrev S_ : Shape := ⟨0, ![]⟩
abbrev S4x4096x256 : Shape := ⟨3, ![4, 4096, 256]⟩
abbrev S4x4096x4x2x32 : Shape := ⟨5, ![4, 4096, 4, 2, 32]⟩
abbrev S4x4352x4x2x32 : Shape := ⟨5, ![4, 4352, 4, 2, 32]⟩
abbrev S4x4352x4x64 : Shape := ⟨4, ![4, 4352, 4, 64]⟩
abbrev S4x4x2x4096x4352 : Shape := ⟨5, ![4, 4, 2, 4096, 4352]⟩
abbrev S4x4x2x4096 : Shape := ⟨4, ![4, 4, 2, 4096]⟩
abbrev S4x4x2x4096x1 : Shape := ⟨5, ![4, 4, 2, 4096, 1]⟩
abbrev S4x4x1x4096x4352 : Shape := ⟨5, ![4, 4, 1, 4096, 4352]⟩
abbrev S4x4x4096x4352 : Shape := ⟨4, ![4, 4, 4096, 4352]⟩
abbrev S4x4x64x4096 : Shape := ⟨4, ![4, 4, 64, 4096]⟩
abbrev S4x4096x4x64 : Shape := ⟨4, ![4, 4096, 4, 64]⟩

abbrev nBuf : Space → Nat
  | .hbm => 36
  | .vmem => 0
  | .smem => 0
  | _ => 0

abbrev bufTy : (tb : Table) → Fin (tcTables nBuf tb) → BufTy
  | .hbm, ⟨0, _⟩ => ⟨S4x4352x512, .bf16⟩
  | .hbm, ⟨1, _⟩ => ⟨S4x4352x256, .bf16⟩
  | .hbm, ⟨2, _⟩ => ⟨S_, .f32⟩
  | .hbm, ⟨3, _⟩ => ⟨S4x4096x256, .bf16⟩
  | .hbm, ⟨4, _⟩ => ⟨S4x4096x256, .f32⟩
  | .hbm, ⟨5, _⟩ => ⟨S4x4096x4x2x32, .f32⟩
  | .hbm, ⟨6, _⟩ => ⟨S4x4352x256, .bf16⟩
  | .hbm, ⟨7, _⟩ => ⟨S4x4352x256, .f32⟩
  | .hbm, ⟨8, _⟩ => ⟨S4x4352x4x2x32, .f32⟩
  | .hbm, ⟨9, _⟩ => ⟨S4x4352x256, .f32⟩
  | .hbm, ⟨10, _⟩ => ⟨S4x4352x4x64, .f32⟩
  | .hbm, ⟨11, _⟩ => ⟨S4x4x2x4096x4352, .f32⟩
  | .hbm, ⟨12, _⟩ => ⟨S_, .f32⟩
  | .hbm, ⟨13, _⟩ => ⟨S4x4x2x4096, .f32⟩
  | .hbm, ⟨14, _⟩ => ⟨S_, .f32⟩
  | .hbm, ⟨15, _⟩ => ⟨S4x4x2x4096, .f32⟩
  | .hbm, ⟨16, _⟩ => ⟨S4x4x2x4096, .f32⟩
  | .hbm, ⟨17, _⟩ => ⟨S4x4x2x4096x1, .f32⟩
  | .hbm, ⟨18, _⟩ => ⟨S4x4x2x4096x4352, .f32⟩
  | .hbm, ⟨19, _⟩ => ⟨S4x4x2x4096x4352, .f32⟩
  | .hbm, ⟨20, _⟩ => ⟨S4x4x2x4096x4352, .f32⟩
  | .hbm, ⟨21, _⟩ => ⟨S_, .f32⟩
  | .hbm, ⟨22, _⟩ => ⟨S4x4x2x4096, .f32⟩
  | .hbm, ⟨23, _⟩ => ⟨S4x4x2x4096x1, .f32⟩
  | .hbm, ⟨24, _⟩ => ⟨S4x4x2x4096x4352, .f32⟩
  | .hbm, ⟨25, _⟩ => ⟨S4x4x2x4096x4352, .f32⟩
  | .hbm, ⟨26, _⟩ => ⟨S4x4x1x4096x4352, .f32⟩
  | .hbm, ⟨27, _⟩ => ⟨S4x4x4096x4352, .f32⟩
  | .hbm, ⟨28, _⟩ => ⟨S4x4x1x4096x4352, .f32⟩
  | .hbm, ⟨29, _⟩ => ⟨S4x4x4096x4352, .f32⟩
  | .hbm, ⟨30, _⟩ => ⟨S4x4x4096x4352, .f32⟩
  | .hbm, ⟨31, _⟩ => ⟨S4x4x4096x4352, .f32⟩
  | .hbm, ⟨32, _⟩ => ⟨S4x4x4096x4352, .f32⟩
  | .hbm, ⟨33, _⟩ => ⟨S4x4x64x4096, .f32⟩
  | .hbm, ⟨34, _⟩ => ⟨S4x4096x4x64, .f32⟩
  | .hbm, ⟨35, _⟩ => ⟨S4x4096x256, .f32⟩
  | _, _ => ⟨S4x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩

abbrev nD : Nat := 1
abbrev τ : Topo := Topo.v7x

variable {F : FTy → Type} [FloatOps F]
-- ==== Kernel2.lean ====
abbrev S4x4352x1024 : Shape := ⟨3, ![4, 4352, 1024]⟩
abbrev S4x2x2x1024 : Shape := ⟨4, ![4, 2, 2, 1024]⟩
abbrev S1024x3488 : Shape := ⟨2, ![1024, 3488]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S128 : Shape := ⟨1, ![128]⟩
abbrev S_ : Shape := ⟨0, ![]⟩
abbrev S256x128 : Shape := ⟨2, ![256, 128]⟩
abbrev S4352x128 : Shape := ⟨2, ![4352, 128]⟩
abbrev S1x128 : Shape := ⟨2, ![1, 128]⟩
abbrev S1024x256 : Shape := ⟨2, ![1024, 256]⟩
abbrev S1024x192 : Shape := ⟨2, ![1024, 192]⟩
abbrev S1024x384 : Shape := ⟨2, ![1024, 384]⟩
abbrev S1024x16 : Shape := ⟨2, ![1024, 16]⟩
abbrev S1024x1152 : Shape := ⟨2, ![1024, 1152]⟩
abbrev S1024x64 : Shape := ⟨2, ![1024, 64]⟩
abbrev S1024x128 : Shape := ⟨2, ![1024, 128]⟩
abbrev S1024x96 : Shape := ⟨2, ![1024, 96]⟩
abbrev S1024x3520 : Shape := ⟨2, ![1024, 3520]⟩
abbrev S1024x3712 : Shape := ⟨2, ![1024, 3712]⟩
abbrev S4x4352x512 : Shape := ⟨3, ![4, 4352, 512]⟩
abbrev S4x4352x256 : Shape := ⟨3, ![4, 4352, 256]⟩
abbrev S4x4352x1408 : Shape := ⟨3, ![4, 4352, 1408]⟩
abbrev S4x4352x1536 : Shape := ⟨3, ![4, 4352, 1536]⟩
abbrev S1x256x1024 : Shape := ⟨3, ![1, 256, 1024]⟩
abbrev S1x1x2x1024 : Shape := ⟨4, ![1, 1, 2, 1024]⟩
abbrev S1x256x512 : Shape := ⟨3, ![1, 256, 512]⟩
abbrev S1x256x256 : Shape := ⟨3, ![1, 256, 256]⟩
abbrev S1x256x1408 : Shape := ⟨3, ![1, 256, 1408]⟩
abbrev S1x256x1536 : Shape := ⟨3, ![1, 256, 1536]⟩
abbrev S256x1024 : Shape := ⟨2, ![256, 1024]⟩
abbrev S1x1x1x1024 : Shape := ⟨4, ![1, 1, 1, 1024]⟩
abbrev S1x1024 : Shape := ⟨2, ![1, 1024]⟩
abbrev S1024x512 : Shape := ⟨2, ![1024, 512]⟩
abbrev S256x512 : Shape := ⟨2, ![256, 512]⟩
abbrev S1x256x128 : Shape := ⟨3, ![1, 256, 128]⟩
abbrev S256x256 : Shape := ⟨2, ![256, 256]⟩
abbrev S1024x1408 : Shape := ⟨2, ![1024, 1408]⟩
abbrev S256x1408 : Shape := ⟨2, ![256, 1408]⟩
abbrev S1024x1536 : Shape := ⟨2, ![1024, 1536]⟩
abbrev S256x1536 : Shape := ⟨2, ![256, 1536]⟩

abbrev nBuf : Space → Nat
  | .hbm => 81
  | .vmem => 17
  | .smem => 0
  | _ => 0

abbrev bufTy : (tb : Table) → Fin (tcTables nBuf tb) → BufTy
  | .hbm, ⟨0, _⟩ => ⟨S4x4352x1024, .f32⟩
  | .hbm, ⟨1, _⟩ => ⟨S4x2x2x1024, .f32⟩
  | .hbm, ⟨2, _⟩ => ⟨S1024x3488, .f32⟩
  | .hbm, ⟨3, _⟩ => ⟨S4096x32, .f32⟩
  | .hbm, ⟨4, _⟩ => ⟨S4096x32, .f32⟩
  | .hbm, ⟨5, _⟩ => ⟨S1x4096x1x32, .f32⟩
  | .hbm, ⟨6, _⟩ => ⟨S1x4096x4x32, .f32⟩
  | .hbm, ⟨7, _⟩ => ⟨S4096x128, .f32⟩
  | .hbm, ⟨8, _⟩ => ⟨S1x4096x1x32, .f32⟩
  | .hbm, ⟨9, _⟩ => ⟨S1x4096x4x32, .f32⟩
  | .hbm, ⟨10, _⟩ => ⟨S4096x128, .f32⟩
  | .hbm, ⟨11, _⟩ => ⟨S128, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S_, .i32⟩
  | .hbm, ⟨27, _⟩ => ⟨S_, .i1⟩
  | .hbm, ⟨28, _⟩ => ⟨S128, .i1⟩
  | .hbm, ⟨29, _⟩ => ⟨S128, .i1⟩
  | .hbm, ⟨30, _⟩ => ⟨S128, .i1⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S_, .f32⟩
  | .hbm, ⟨44, _⟩ => ⟨S256x128, .f32⟩
  | .hbm, ⟨45, _⟩ => ⟨S4352x128, .f32⟩
  | .hbm, ⟨46, _⟩ => ⟨S_, .f32⟩
  | .hbm, ⟨47, _⟩ => ⟨S256x128, .f32⟩
  | .hbm, ⟨48, _⟩ => ⟨S1x128, .f32⟩
  | .hbm, ⟨49, _⟩ => ⟨S4096x128, .f32⟩
  | .hbm, ⟨50, _⟩ => ⟨S4096x128, .f32⟩
  | .hbm, ⟨51, _⟩ => ⟨S4352x128, .f32⟩
  | .hbm, ⟨52, _⟩ => ⟨S1024x256, .f32⟩
  | .hbm, ⟨53, _⟩ => ⟨S1024x256, .f32⟩
  | .hbm, ⟨54, _⟩ => ⟨S1024x256, .f32⟩
  | .hbm, ⟨55, _⟩ => ⟨S1024x192, .f32⟩
  | .hbm, ⟨56, _⟩ => ⟨S1024x192, .f32⟩
  | .hbm, ⟨57, _⟩ => ⟨S1024x384, .f32⟩
  | .hbm, ⟨58, _⟩ => ⟨S1024x16, .f32⟩
  | .hbm, ⟨59, _⟩ => ⟨S1024x16, .f32⟩
  | .hbm, ⟨60, _⟩ => ⟨S1024x384, .f32⟩
  | .hbm, ⟨61, _⟩ => ⟨S1024x1152, .f32⟩
  | .hbm, ⟨62, _⟩ => ⟨S1024x64, .f32⟩
  | .hbm, ⟨63, _⟩ => ⟨S1024x64, .f32⟩
  | .hbm, ⟨64, _⟩ => ⟨S1024x64, .f32⟩
  | .hbm, ⟨65, _⟩ => ⟨S1024x64, .f32⟩
  | .hbm, ⟨66, _⟩ => ⟨S1024x128, .f32⟩
  | .hbm, ⟨67, _⟩ => ⟨S_, .f32⟩
  | .hbm, ⟨68, _⟩ => ⟨S1024x64, .f32⟩
  | .hbm, ⟨69, _⟩ => ⟨S_, .f32⟩
  | .hbm, ⟨70, _⟩ => ⟨S1024x64, .f32⟩
  | .hbm, ⟨71, _⟩ => ⟨S_, .f32⟩
  | .hbm, ⟨72, _⟩ => ⟨S1024x96, .f32⟩
  | .hbm, ⟨73, _⟩ => ⟨S1024x3520, .f32⟩
  | .hbm, ⟨74, _⟩ => ⟨S1024x192, .f32⟩
  | .hbm, ⟨75, _⟩ => ⟨S1024x3712, .f32⟩
  | .hbm, ⟨76, _⟩ => ⟨S1024x3712, .bf16⟩
  | .hbm, ⟨77, _⟩ => ⟨S4x4352x512, .bf16⟩
  | .hbm, ⟨78, _⟩ => ⟨S4x4352x256, .bf16⟩
  | .hbm, ⟨79, _⟩ => ⟨S4x4352x1408, .f32⟩
  | .hbm, ⟨80, _⟩ => ⟨S4x4352x1536, .f32⟩
  | .local _ .vmem, ⟨0, _⟩ => ⟨S1x256x1024, .f32⟩
  | .local _ .vmem, ⟨1, _⟩ => ⟨S1x256x1024, .f32⟩
  | .local _ .vmem, ⟨2, _⟩ => ⟨S1x1x2x1024, .f32⟩
  | .local _ .vmem, ⟨3, _⟩ => ⟨S1x1x2x1024, .f32⟩
  | .local _ .vmem, ⟨4, _⟩ => ⟨S1024x3712, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x256x512, .bf16⟩
  | .local _ .vmem, ⟨10, _⟩ => ⟨S1x256x512, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x1408, .f32⟩
  | .local _ .vmem, ⟨14, _⟩ => ⟨S1x256x1408, .f32⟩
  | .local _ .vmem, ⟨15, _⟩ => ⟨S1x256x1536, .f32⟩
  | .local _ .vmem, ⟨16, _⟩ => ⟨S1x256x1536, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v7 : Ref sig .tc := ⟨.hbm, 33, rfl⟩
abbrev main_c_0 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev main_cst_3 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_4 : Ref sig .tc := ⟨.hbm, 67, rfl⟩
abbrev main_v34 : Ref sig .tc := ⟨.hbm, 68, rfl⟩
abbrev main_cst_5 : Ref sig .tc := ⟨.hbm, 69, rfl⟩
abbrev main_v35 : Ref sig .tc := ⟨.hbm, 70, rfl⟩
abbrev main_cst_6 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41_0 : Ref sig .tc := ⟨.hbm, 77, rfl⟩
abbrev main_v41_1 : Ref sig .tc := ⟨.hbm, 78, rfl⟩
abbrev main_v41_2 : Ref sig .tc := ⟨.hbm, 79, rfl⟩
abbrev main_v41_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x4352x1024 : Shape := ⟨3, ![4, 4352, 1024]⟩
abbrev S4x2x2x1024 : Shape := ⟨4, ![4, 2, 2, 1024]⟩
abbrev S1024x3488 : Shape := ⟨2, ![1024, 3488]⟩
abbrev S4096x32 : Shape := ⟨2, ![4096, 32]⟩
abbrev S4x2x1x1024 : Shape := ⟨4, ![4, 2, 1, 1024]⟩
abbrev S4x2x1024 : Shape := ⟨3, ![4, 2, 1024]⟩
abbrev S4x256x1024 : Shape := ⟨3, ![4, 256, 1024]⟩
abbrev S4x1x1x1024 : Shape := ⟨4, ![4, 1, 1, 1024]⟩
abbrev S4x1x1024 : Shape := ⟨3, ![4, 1, 1024]⟩
abbrev S_ : Shape := ⟨0, ![]⟩
abbrev S4x4096x1024 : Shape := ⟨3, ![4, 4096, 1024]⟩
abbrev S4x4352x3488 : Shape := ⟨3, ![4, 4352, 3488]⟩
abbrev S4x4352x256 : Shape := ⟨3, ![4, 4352, 256]⟩
abbrev S4x256x256 : Shape := ⟨3, ![4, 256, 256]⟩
abbrev S4x4096x256 : Shape := ⟨3, ![4, 4096, 256]⟩
abbrev S4x4096x4x2x2x2x8 : Shape := ⟨7, ![4, 4096, 4, 2, 2, 2, 8]⟩
abbrev S4x4096x4x2x2x1x8 : Shape := ⟨7, ![4, 4096, 4, 2, 2, 1, 8]⟩
abbrev S4x4096x4x2x2x8 : Shape := ⟨6, ![4, 4096, 4, 2, 2, 8]⟩
abbrev S4x4096x4x2x32 : Shape := ⟨5, ![4, 4096, 4, 2, 32]⟩
abbrev S1x4096x1x1x32 : Shape := ⟨5, ![1, 4096, 1, 1, 32]⟩
abbrev S4x4352x192 : Shape := ⟨3, ![4, 4352, 192]⟩
abbrev S4x4352x384 : Shape := ⟨3, ![4, 4352, 384]⟩
abbrev S4x4352x32 : Shape := ⟨3, ![4, 4352, 32]⟩
abbrev S4x4352x64 : Shape := ⟨3, ![4, 4352, 64]⟩
abbrev S4x4352x96 : Shape := ⟨3, ![4, 4352, 96]⟩
abbrev S4x4352x1408 : Shape := ⟨3, ![4, 4352, 1408]⟩
abbrev S4x4352x512 : Shape := ⟨3, ![4, 4352, 512]⟩
abbrev S4x4352x1536 : Shape := ⟨3, ![4, 4352, 1536]⟩

abbrev nBuf : Space → Nat
  | .hbm => 103
  | .vmem => 0
  | .smem => 0
  | _ => 0

abbrev bufTy : (tb : Table) → Fin (tcTables nBuf tb) → BufTy
  | .hbm, ⟨0, _⟩ => ⟨S4x4352x1024, .f32⟩
  | .hbm, ⟨1, _⟩ => ⟨S4x2x2x1024, .f32⟩
  | .hbm, ⟨2, _⟩ => ⟨S1024x3488, .f32⟩
  | .hbm, ⟨3, _⟩ => ⟨S4096x32, .f32⟩
  | .hbm, ⟨4, _⟩ => ⟨S4096x32, .f32⟩
  | .hbm, ⟨5, _⟩ => ⟨S4x2x1x1024, .f32⟩
  | .hbm, ⟨6, _⟩ => ⟨S4x2x1024, .f32⟩
  | .hbm, ⟨7, _⟩ => ⟨S4x2x1x1024, .f32⟩
  | .hbm, ⟨8, _⟩ => ⟨S4x2x1x1024, .f32⟩
  | .hbm, ⟨9, _⟩ => ⟨S4x2x1024, .f32⟩
  | .hbm, ⟨10, _⟩ => ⟨S4x2x1x1024, .f32⟩
  | .hbm, ⟨11, _⟩ => ⟨S4x256x1024, .f32⟩
  | .hbm, ⟨12, _⟩ => ⟨S4x1x1x1024, .f32⟩
  | .hbm, ⟨13, _⟩ => ⟨S4x1x1024, .f32⟩
  | .hbm, ⟨14, _⟩ => ⟨S_, .f32⟩
  | .hbm, ⟨15, _⟩ => ⟨S4x1x1024, .f32⟩
  | .hbm, ⟨16, _⟩ => ⟨S4x1x1024, .f32⟩
  | .hbm, ⟨17, _⟩ => ⟨S4x256x1024, .f32⟩
  | .hbm, ⟨18, _⟩ => ⟨S4x256x1024, .f32⟩
  | .hbm, ⟨19, _⟩ => ⟨S4x1x1x1024, .f32⟩
  | .hbm, ⟨20, _⟩ => ⟨S4x1x1024, .f32⟩
  | .hbm, ⟨21, _⟩ => ⟨S4x256x1024, .f32⟩
  | .hbm, ⟨22, _⟩ => ⟨S4x256x1024, .f32⟩
  | .hbm, ⟨23, _⟩ => ⟨S4x4096x1024, .f32⟩
  | .hbm, ⟨24, _⟩ => ⟨S4x1x1x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x1x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x4352x1024, .f32⟩
  | .hbm, ⟨36, _⟩ => ⟨S4x4352x3488, .f32⟩
  | .hbm, ⟨37, _⟩ => ⟨S4x4352x256, .f32⟩
  | .hbm, ⟨38, _⟩ => ⟨S4x4352x256, .f32⟩
  | .hbm, ⟨39, _⟩ => ⟨S4x4352x256, .f32⟩
  | .hbm, ⟨40, _⟩ => ⟨S4x256x256, .f32⟩
  | .hbm, ⟨41, _⟩ => ⟨S4x4096x256, .f32⟩
  | .hbm, ⟨42, _⟩ => ⟨S4x4096x4x2x2x2x8, .f32⟩
  | .hbm, ⟨43, _⟩ => ⟨S4x4096x4x2x2x1x8, .f32⟩
  | .hbm, ⟨44, _⟩ => ⟨S4x4096x4x2x2x8, .f32⟩
  | .hbm, ⟨45, _⟩ => ⟨S4x4096x4x2x2x8, .f32⟩
  | .hbm, ⟨46, _⟩ => ⟨S4x4096x4x2x2x1x8, .f32⟩
  | .hbm, ⟨47, _⟩ => ⟨S4x4096x4x2x2x8, .f32⟩
  | .hbm, ⟨48, _⟩ => ⟨S4x4096x4x2x2x1x8, .f32⟩
  | .hbm, ⟨49, _⟩ => ⟨S4x4096x4x2x2x1x8, .f32⟩
  | .hbm, ⟨50, _⟩ => ⟨S4x4096x4x2x2x2x8, .f32⟩
  | .hbm, ⟨51, _⟩ => ⟨S4x4096x4x2x32, .f32⟩
  | .hbm, ⟨52, _⟩ => ⟨S4x4096x4x2x32, .f32⟩
  | .hbm, ⟨53, _⟩ => ⟨S1x4096x1x1x32, .f32⟩
  | .hbm, ⟨54, _⟩ => ⟨S4x4096x4x2x32, .f32⟩
  | .hbm, ⟨55, _⟩ => ⟨S4x4096x4x2x32, .f32⟩
  | .hbm, ⟨56, _⟩ => ⟨S1x4096x1x1x32, .f32⟩
  | .hbm, ⟨57, _⟩ => ⟨S4x4096x4x2x32, .f32⟩
  | .hbm, ⟨58, _⟩ => ⟨S4x4096x4x2x32, .f32⟩
  | .hbm, ⟨59, _⟩ => ⟨S4x4096x4x2x32, .f32⟩
  | .hbm, ⟨60, _⟩ => ⟨S4x4096x256, .f32⟩
  | .hbm, ⟨61, _⟩ => ⟨S4x4352x256, .f32⟩
  | .hbm, ⟨62, _⟩ => ⟨S_, .f32⟩
  | .hbm, ⟨63, _⟩ => ⟨S4x4352x256, .f32⟩
  | .hbm, ⟨64, _⟩ => ⟨S4x4352x256, .f32⟩
  | .hbm, ⟨65, _⟩ => ⟨S4x256x256, .f32⟩
  | .hbm, ⟨66, _⟩ => ⟨S4x4096x256, .f32⟩
  | .hbm, ⟨67, _⟩ => ⟨S4x4096x4x2x2x2x8, .f32⟩
  | .hbm, ⟨68, _⟩ => ⟨S4x4096x4x2x2x1x8, .f32⟩
  | .hbm, ⟨69, _⟩ => ⟨S4x4096x4x2x2x8, .f32⟩
  | .hbm, ⟨70, _⟩ => ⟨S4x4096x4x2x2x8, .f32⟩
  | .hbm, ⟨71, _⟩ => ⟨S4x4096x4x2x2x1x8, .f32⟩
  | .hbm, ⟨72, _⟩ => ⟨S4x4096x4x2x2x8, .f32⟩
  | .hbm, ⟨73, _⟩ => ⟨S4x4096x4x2x2x1x8, .f32⟩
  | .hbm, ⟨74, _⟩ => ⟨S4x4096x4x2x2x1x8, .f32⟩
  | .hbm, ⟨75, _⟩ => ⟨S4x4096x4x2x2x2x8, .f32⟩
  | .hbm, ⟨76, _⟩ => ⟨S4x4096x4x2x32, .f32⟩
  | .hbm, ⟨77, _⟩ => ⟨S4x4096x4x2x32, .f32⟩
  | .hbm, ⟨78, _⟩ => ⟨S1x4096x1x1x32, .f32⟩
  | .hbm, ⟨79, _⟩ => ⟨S4x4096x4x2x32, .f32⟩
  | .hbm, ⟨80, _⟩ => ⟨S4x4096x4x2x32, .f32⟩
  | .hbm, ⟨81, _⟩ => ⟨S1x4096x1x1x32, .f32⟩
  | .hbm, ⟨82, _⟩ => ⟨S4x4096x4x2x32, .f32⟩
  | .hbm, ⟨83, _⟩ => ⟨S4x4096x4x2x32, .f32⟩
  | .hbm, ⟨84, _⟩ => ⟨S4x4096x4x2x32, .f32⟩
  | .hbm, ⟨85, _⟩ => ⟨S4x4096x256, .f32⟩
  | .hbm, ⟨86, _⟩ => ⟨S4x4352x256, .f32⟩
  | .hbm, ⟨87, _⟩ => ⟨S4x4352x192, .f32⟩
  | .hbm, ⟨88, _⟩ => ⟨S4x4352x192, .f32⟩
  | .hbm, ⟨89, _⟩ => ⟨S4x4352x384, .f32⟩
  | .hbm, ⟨90, _⟩ => ⟨S4x4352x32, .f32⟩
  | .hbm, ⟨91, _⟩ => ⟨S4x4352x384, .f32⟩
  | .hbm, ⟨92, _⟩ => ⟨S_, .f32⟩
  | .hbm, ⟨93, _⟩ => ⟨S4x4352x64, .f32⟩
  | .hbm, ⟨94, _⟩ => ⟨S_, .f32⟩
  | .hbm, ⟨95, _⟩ => ⟨S4x4352x64, .f32⟩
  | .hbm, ⟨96, _⟩ => ⟨S_, .f32⟩
  | .hbm, ⟨97, _⟩ => ⟨S4x4352x96, .f32⟩
  | .hbm, ⟨98, _⟩ => ⟨S4x4352x1408, .f32⟩
  | .hbm, ⟨99, _⟩ => ⟨S4x4352x512, .f32⟩
  | .hbm, ⟨100, _⟩ => ⟨S4x4352x512, .bf16⟩
  | .hbm, ⟨101, _⟩ => ⟨S4x4352x256, .bf16⟩
  | .hbm, ⟨102, _⟩ => ⟨S4x4352x1536, .f32⟩
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_1 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_cst_2 : Ref sig .tc := ⟨.hbm, 92, rfl⟩
abbrev main_v84 : Ref sig .tc := ⟨.hbm, 93, rfl⟩
abbrev main_cst_3 : Ref sig .tc := ⟨.hbm, 94, rfl⟩
abbrev main_v85 : Ref sig .tc := ⟨.hbm, 95, rfl⟩
abbrev main_cst_4 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩

abbrev nD : Nat := 1
abbrev τ : Topo := Topo.v7x

variable {F : FTy → Type} [FloatOps F]
-- ==== Kernel3.lean ====
abbrev S304 : Shape := ⟨1, ![304]⟩
abbrev S1 : Shape := ⟨1, ![1]⟩
abbrev S77824x1024 : Shape := ⟨2, ![77824, 1024]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 19
  | .smem => 2
  | _ => 0

abbrev bufTy : (tb : Table) → Fin (tcTables nBuf tb) → BufTy
  | .hbm, ⟨0, _⟩ => ⟨S77824x1024, .f32⟩
  | .hbm, ⟨1, _⟩ => ⟨S32x1024x1024, .f32⟩
  | .hbm, ⟨2, _⟩ => ⟨S32x1x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S77824x1024, .f32⟩
  | .local _ .vmem, ⟨0, _⟩ => ⟨S256x1024, .f32⟩
  | .local _ .vmem, ⟨1, _⟩ => ⟨S256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .smem, ⟨0, _⟩ => ⟨S304, .i32⟩
  | .local _ .smem, ⟨1, _⟩ => ⟨S1, .i32⟩
  | _, _ => ⟨S77824x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![304], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def k0_cond3 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S304 : Shape := ⟨1, ![304]⟩
abbrev S1 : Shape := ⟨1, ![1]⟩
abbrev S77824x1024 : Shape := ⟨2, ![77824, 1024]⟩
abbrev S32x1024x1024 : Shape := ⟨3, ![32, 1024, 1024]⟩
abbrev S32x1x1024 : Shape := ⟨3, ![32, 1, 1024]⟩
abbrev S304x256x1024 : Shape := ⟨3, ![304, 256, 1024]⟩
abbrev S_ : Shape := ⟨0, ![]⟩
abbrev S304x1 : Shape := ⟨2, ![304, 1]⟩
abbrev S304x1024x1024 : Shape := ⟨3, ![304, 1024, 1024]⟩
abbrev S304x1x1024 : Shape := ⟨3, ![304, 1, 1024]⟩
abbrev S304x1x1 : Shape := ⟨3, ![304, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S304, .i32⟩
  | .hbm, ⟨1, _⟩ => ⟨S1, .i32⟩
  | .hbm, ⟨2, _⟩ => ⟨S77824x1024, .f32⟩
  | .hbm, ⟨3, _⟩ => ⟨S32x1024x1024, .f32⟩
  | .hbm, ⟨4, _⟩ => ⟨S32x1x1024, .f32⟩
  | .hbm, ⟨5, _⟩ => ⟨S32x1024x1024, .f32⟩
  | .hbm, ⟨6, _⟩ => ⟨S32x1x1024, .f32⟩
  | .hbm, ⟨7, _⟩ => ⟨S32x1024x1024, .f32⟩
  | .hbm, ⟨8, _⟩ => ⟨S32x1x1024, .f32⟩
  | .hbm, ⟨9, _⟩ => ⟨S304x256x1024, .f32⟩
  | .hbm, ⟨10, _⟩ => ⟨S_, .i32⟩
  | .hbm, ⟨11, _⟩ => ⟨S304, .i32⟩
  | .hbm, ⟨12, _⟩ => ⟨S304, .i1⟩
  | .hbm, ⟨13, _⟩ => ⟨S_, .i32⟩
  | .hbm, ⟨14, _⟩ => ⟨S304, .i32⟩
  | .hbm, ⟨15, _⟩ => ⟨S304, .i32⟩
  | .hbm, ⟨16, _⟩ => ⟨S304, .i32⟩
  | .hbm, ⟨17, _⟩ => ⟨S304x1, .i32⟩
  | .hbm, ⟨18, _⟩ => ⟨S304x1024x1024, .f32⟩
  | .hbm, ⟨19, _⟩ => ⟨S304x256x1024, .f32⟩
  | .hbm, ⟨20, _⟩ => ⟨S_, .i32⟩
  | .hbm, ⟨21, _⟩ => ⟨S304, .i32⟩
  | .hbm, ⟨22, _⟩ => ⟨S304, .i1⟩
  | .hbm, ⟨23, _⟩ => ⟨S_, .i32⟩
  | .hbm, ⟨24, _⟩ => ⟨S304, .i32⟩
  | .hbm, ⟨25, _⟩ => ⟨S304, .i32⟩
  | .hbm, ⟨26, _⟩ => ⟨S304, .i32⟩
  | .hbm, ⟨27, _⟩ => ⟨S304x1, .i32⟩
  | .hbm, ⟨28, _⟩ => ⟨S304x1x1024, .f32⟩
  | .hbm, ⟨29, _⟩ => ⟨S304x256x1024, .f32⟩
  | .hbm, ⟨30, _⟩ => ⟨S304x256x1024, .f32⟩
  | .hbm, ⟨31, _⟩ => ⟨S_, .f32⟩
  | .hbm, ⟨32, _⟩ => ⟨S304x256x1024, .f32⟩
  | .hbm, ⟨33, _⟩ => ⟨S304x256x1024, .f32⟩
  | .hbm, ⟨34, _⟩ => ⟨S_, .i32⟩
  | .hbm, ⟨35, _⟩ => ⟨S304, .i32⟩
  | .hbm, ⟨36, _⟩ => ⟨S304, .i1⟩
  | .hbm, ⟨37, _⟩ => ⟨S_, .i32⟩
  | .hbm, ⟨38, _⟩ => ⟨S304, .i32⟩
  | .hbm, ⟨39, _⟩ => ⟨S304, .i32⟩
  | .hbm, ⟨40, _⟩ => ⟨S304, .i32⟩
  | .hbm, ⟨41, _⟩ => ⟨S304x1, .i32⟩
  | .hbm, ⟨42, _⟩ => ⟨S304x1024x1024, .f32⟩
  | .hbm, ⟨43, _⟩ => ⟨S304x256x1024, .f32⟩
  | .hbm, ⟨44, _⟩ => ⟨S_, .i32⟩
  | .hbm, ⟨45, _⟩ => ⟨S304, .i32⟩
  | .hbm, ⟨46, _⟩ => ⟨S304, .i1⟩
  | .hbm, ⟨47, _⟩ => ⟨S_, .i32⟩
  | .hbm, ⟨48, _⟩ => ⟨S304, .i32⟩
  | .hbm, ⟨49, _⟩ => ⟨S304, .i32⟩
  | .hbm, ⟨50, _⟩ => ⟨S304, .i32⟩
  | .hbm, ⟨51, _⟩ => ⟨S304x1, .i32⟩
  | .hbm, ⟨52, _⟩ => ⟨S304x1x1024, .f32⟩
  | .hbm, ⟨53, _⟩ => ⟨S304x256x1024, .f32⟩
  | .hbm, ⟨54, _⟩ => ⟨S304x256x1024, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S304x256x1024, .f32⟩
  | .hbm, ⟨59, _⟩ => ⟨S304x256x1024, .f32⟩
  | .hbm, ⟨60, _⟩ => ⟨S_, .f32⟩
  | .hbm, ⟨61, _⟩ => ⟨S304x256x1024, .f32⟩
  | .hbm, ⟨62, _⟩ => ⟨S304x256x1024, .f32⟩
  | .hbm, ⟨63, _⟩ => ⟨S_, .f32⟩
  | .hbm, ⟨64, _⟩ => ⟨S304x256x1024, .f32⟩
  | .hbm, ⟨65, _⟩ => ⟨S304x256x1024, .f32⟩
  | .hbm, ⟨66, _⟩ => ⟨S304x256x1024, .f32⟩
  | .hbm, ⟨67, _⟩ => ⟨S_, .f32⟩
  | .hbm, ⟨68, _⟩ => ⟨S304x256x1024, .f32⟩
  | .hbm, ⟨69, _⟩ => ⟨S304x256x1024, .f32⟩
  | .hbm, ⟨70, _⟩ => ⟨S304x256x1024, .f32⟩
  | .hbm, ⟨71, _⟩ => ⟨S304x256x1024, .f32⟩
  | .hbm, ⟨72, _⟩ => ⟨S_, .f32⟩
  | .hbm, ⟨73, _⟩ => ⟨S304x256x1024, .f32⟩
  | .hbm, ⟨74, _⟩ => ⟨S304x256x1024, .f32⟩
  | .hbm, ⟨75, _⟩ => ⟨S_, .f32⟩
  | .hbm, ⟨76, _⟩ => ⟨S304x256x1024, .f32⟩
  | .hbm, ⟨77, _⟩ => ⟨S304x256x1024, .f32⟩
  | .hbm, ⟨78, _⟩ => ⟨S304x256x1024, .f32⟩
  | .hbm, ⟨79, _⟩ => ⟨S_, .i32⟩
  | .hbm, ⟨80, _⟩ => ⟨S304, .i32⟩
  | .hbm, ⟨81, _⟩ => ⟨S304, .i1⟩
  | .hbm, ⟨82, _⟩ => ⟨S_, .i32⟩
  | .hbm, ⟨83, _⟩ => ⟨S304, .i32⟩
  | .hbm, ⟨84, _⟩ => ⟨S304, .i32⟩
  | .hbm, ⟨85, _⟩ => ⟨S304, .i32⟩
  | .hbm, ⟨86, _⟩ => ⟨S304x1, .i32⟩
  | .hbm, ⟨87, _⟩ => ⟨S304x1024x1024, .f32⟩
  | .hbm, ⟨88, _⟩ => ⟨S304x256x1024, .f32⟩
  | .hbm, ⟨89, _⟩ => ⟨S_, .i32⟩
  | .hbm, ⟨90, _⟩ => ⟨S304, .i32⟩
  | .hbm, ⟨91, _⟩ => ⟨S304, .i1⟩
  | .hbm, ⟨92, _⟩ => ⟨S_, .i32⟩
  | .hbm, ⟨93, _⟩ => ⟨S304, .i32⟩
  | .hbm, ⟨94, _⟩ => ⟨S304, .i32⟩
  | .hbm, ⟨95, _⟩ => ⟨S304, .i32⟩
  | .hbm, ⟨96, _⟩ => ⟨S304x1, .i32⟩
  | .hbm, ⟨97, _⟩ => ⟨S304x1x1024, .f32⟩
  | .hbm, ⟨98, _⟩ => ⟨S304x256x1024, .f32⟩
  | .hbm, ⟨99, _⟩ => ⟨S304x256x1024, .f32⟩
  | .hbm, ⟨100, _⟩ => ⟨S304, .i32⟩
  | .hbm, ⟨101, _⟩ => ⟨S_, .i32⟩
  | .hbm, ⟨102, _⟩ => ⟨S304, .i32⟩
  | .hbm, ⟨103, _⟩ => ⟨S304, .i1⟩
  | .hbm, ⟨104, _⟩ => ⟨S304x1x1, .i1⟩
  | .hbm, ⟨105, _⟩ => ⟨S_, .f32⟩
  | .hbm, ⟨106, _⟩ => ⟨S_, .f32⟩
  | .hbm, ⟨107, _⟩ => ⟨S304x256x1024, .i1⟩
  | .hbm, ⟨108, _⟩ => ⟨S304x256x1024, .f32⟩
  | .hbm, ⟨109, _⟩ => ⟨S304x256x1024, .f32⟩
  | .hbm, ⟨110, _⟩ => ⟨S77824x1024, .f32⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_11 : Ref sig .tc := ⟨.hbm, 72, rfl⟩
abbrev main_v45 : Ref sig .tc := ⟨.hbm, 73, rfl⟩
abbrev main_v46 : Ref sig .tc := ⟨.hbm, 74, rfl⟩
abbrev main_cst_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_13 : Ref sig .tc := ⟨.hbm, 79, rfl⟩
abbrev main_v50 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_15 : Ref sig .tc := ⟨.hbm, 89, rfl⟩
abbrev main_v58 : Ref sig .tc := ⟨.hbm, 90, rfl⟩
abbrev main_v59 : Ref sig .tc := ⟨.hbm, 91, rfl⟩
abbrev main_c_16 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_17 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v72 : Ref sig .tc := ⟨.hbm, 109, rfl⟩
abbrev main_v73 : Ref sig .tc := ⟨.hbm, 110, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pointwise
public import Idealize.ShloMosaic.Lib.Tactic
public import Idealize.ShloMosaic.Lib.Pipeline.ValueKit

@[expose] public section

set_option maxRecDepth 16384

noncomputable section

/-! What one grid point of the attention kernel stores, written as a few named steps: the masked query rows, the scores
of a key block, one online-softmax step per key block, the quotient, the difference of the two maps. -/

namespace Cert.KernelIdeal.Attn

open Cert.KernelIdeal Cert.KernelIdeal.Gen Idealize.ShloMosaic Idealize.ShloMosaic.TcCoe Idealize.SL.Sem

variable {F : FTy → Type} [FloatOps F]

/-- The query rows kept on the lanes `lo ≤ l < hi` and set to zero elsewhere. -/
def keepLanes (lo hi : BitVec 32) (q : Vec F S1x256x128 .bf16) : FVec F S256x128 .bf16 :=
  select (broadcastTo S256x128 (shapeCast S1x128
      (andi (cmpi .sge (iota .tc S1x128 32 [1] iota_S1x128_d1_w32) (broadcast S1x128 lo))
        (cmpi .slt (iota .tc S1x128 32 [1] iota_S1x128_d1_w32) (broadcast S1x128 hi)))
      shapeCasts_S1x128_S1x128) broadcasts_S1x128_S256x128)
    (shapeCast S256x128 q shapeCasts_S1x256x128_S256x128)
    (broadcast S256x128 (Scalar.ofBits .bf16 0x0000#16))

/-- The two maps' masked queries stacked: map 0 in rows 0–255, map 1 in rows 256–511. -/
def stackMaps (a b c : BitVec 32) (q : Vec F S1x256x128 .bf16) : FVec F S512x128 .bf16 :=
  concatenate S512x128 0 [⟨S256x128, keepLanes a b q⟩, ⟨S256x128, keepLanes b c q⟩]
    concatenates_S256x128_S256x128_S512x128_d0

/-- The scores of the stacked queries against a block of 1280 keys. -/
def scores (q : FVec F S512x128 .bf16) (k : Vec F S1x1280x128 .bf16) : FVec F S512x1280 .f32 :=
  matmul dot_S512x128_S1280x128_S512x1280_1_1_0_0_n_n none q
    (shapeCast S1280x128 k shapeCasts_S1x1280x128_S1280x128) (constant S512x1280 .f32 0x00000000#32)

/-- The largest score of each row of a block of 1280 keys. -/
def rowMax (s : FVec F S512x1280 .f32) : FVec F S512x1 .f32 :=
  shapeCast S512x1 (multiReduction .maximumf [1] S512 s 0xFF800000#32 reduces_S512x1280_S512 (.inl rfl) rfl)
    shapeCasts_S512_S512x1

/-- The exponentials of the scores less the row maximum, times the block's values (lanes 0–127) and times one
(lanes 128–255: the row sums). -/
def weigh (s : FVec F S512x1280 .f32) (m : FVec F S512x1 .f32) (v : Vec F S1x1280x128 .bf16) : FVec F S512x256 .f32 :=
  matmul dot_S512x1280_S1280x256_S512x256_1_0_0_1_n_n none
    (exp (truncf .bf16 (subf s (broadcastTo S512x1280 m broadcasts_S512x1_S512x1280)) bitsLt_bf16_f32))
    (concatenate S1280x256 1 [⟨S1280x128, shapeCast S1280x128 v shapeCasts_S1x1280x128_S1280x128⟩,
      ⟨S1280x128, broadcast S1280x128 (Scalar.ofBits .bf16 0x3F80#16)⟩] concatenates_S1280x128_S1280x128_S1280x256_d1)
    (constant S512x256 .f32 0x00000000#32)

/-- The scores of the stacked queries against the last block, of 512 keys. -/
def scoresL (q : FVec F S512x128 .bf16) (k : Vec F S1x512x128 .bf16) : FVec F S512x512 .f32 :=
  matmul dot_S512x128_S512x128_S512x512_1_1_0_0_n_n none q
    (shapeCast S512x128 k shapeCasts_S1x512x128_S512x128) (constant S512x512 .f32 0x00000000#32)

/-- The largest score of each row of the last block. -/
def rowMaxL (s : FVec F S512x512 .f32) : FVec F S512x1 .f32 :=
  shapeCast S512x1 (multiReduction .maximumf [1] S512 s 0xFF800000#32 reduces_S512x512_S512 (.inl rfl) rfl)
    shapeCasts_S512_S512x1

/-- The last block's exponentials times its values and times one. -/
def weighL (s : FVec F S512x512 .f32) (m : FVec F S512x1 .f32) (v : Vec F S1x512x128 .bf16) : FVec F S512x256 .f32 :=
  matmul dot_S512x512_S512x256_S512x256_1_0_0_1_n_n none
    (exp (truncf .bf16 (subf s (broadcastTo S512x512 m broadcasts_S512x1_S512x512)) bitsLt_bf16_f32))
    (concatenate S512x256 1 [⟨S512x128, shapeCast S512x128 v shapeCasts_S1x512x128_S512x128⟩,
      ⟨S512x128, broadcast S512x128 (Scalar.ofBits .bf16 0x3F80#16)⟩] concatenates_S512x128_S512x128_S512x256_d1)
    (constant S512x256 .f32 0x00000000#32)

/-- Lanes 0–127 of a product: the weighted values. -/
def loHalf (x : FVec F S512x256 .f32) : FVec F S512x128 .f32 :=
  extractStridedSlice S512x128 ![0, 0] x slices_S512x256_o0_0_S512x128

/-- Lanes 128–255 of a product: the row sums. -/
def hiHalf (x : FVec F S512x256 .f32) : FVec F S512x128 .f32 :=
  extractStridedSlice S512x128 ![0, 128] x slices_S512x256_o0_128_S512x128

/-- What was accumulated under the maximum `m`, moved to the maximum `m'`, and the new block's part added. -/
def carry (m m' : FVec F S512x1 .f32) (acc new : FVec F S512x128 .f32) : FVec F S512x128 .f32 :=
  addf (mulf (broadcastTo S512x128 (exp (subf m m')) broadcasts_S512x1_S512x128) acc) new

/-- The running maximum after the first, second, third and last key block. -/
def max1 (q : FVec F S512x128 .bf16) (k0 : Vec F S1x1280x128 .bf16) : FVec F S512x1 .f32 := rowMax (scores q k0)

@[inherit_doc max1]
def max2 (q : FVec F S512x128 .bf16) (k0 k1 : Vec F S1x1280x128 .bf16) : FVec F S512x1 .f32 :=
  maximumf (max1 q k0) (rowMax (scores q k1))

@[inherit_doc max1]
def max3 (q : FVec F S512x128 .bf16) (k0 k1 k2 : Vec F S1x1280x128 .bf16) : FVec F S512x1 .f32 :=
  maximumf (max2 q k0 k1) (rowMax (scores q k2))

@[inherit_doc max1]
def max4 (q : FVec F S512x128 .bf16) (k0 k1 k2 : Vec F S1x1280x128 .bf16) (k3 : Vec F S1x512x128 .bf16) :
    FVec F S512x1 .f32 :=
  maximumf (max3 q k0 k1 k2) (rowMaxL (scoresL q k3))

/-- One of the two accumulated halves (the weighted values, the row sums) over the four key blocks. -/
def accum (half : FVec F S512x256 .f32 → FVec F S512x128 .f32) (q : FVec F S512x128 .bf16)
    (k0 k1 k2 : Vec F S1x1280x128 .bf16) (k3 : Vec F S1x512x128 .bf16)
    (v0 v1 v2 : Vec F S1x1280x128 .bf16) (v3 : Vec F S1x512x128 .bf16) : FVec F S512x128 .f32 :=
  carry (max3 q k0 k1 k2) (max4 q k0 k1 k2 k3)
    (carry (max2 q k0 k1) (max3 q k0 k1 k2)
      (carry (max1 q k0) (max2 q k0 k1)
        (half (weigh (scores q k0) (max1 q k0) v0))
        (half (weigh (scores q k1) (max2 q k0 k1) v1)))
      (half (weigh (scores q k2) (max3 q k0 k1 k2) v2)))
    (half (weighL (scoresL q k3) (max4 q k0 k1 k2 k3) v3))

/-- The softmax-weighted values of both maps of one head. -/
def maps (q : FVec F S512x128 .bf16)
    (k0 k1 k2 : Vec F S1x1280x128 .bf16) (k3 : Vec F S1x512x128 .bf16)
    (v0 v1 v2 : Vec F S1x1280x128 .bf16) (v3 : Vec F S1x512x128 .bf16) : FVec F S512x128 .f32 :=
  divf (accum loHalf q k0 k1 k2 k3 v0 v1 v2 v3) (accum hiHalf q k0 k1 k2 k3 v0 v1 v2 v3)

/-- The first map less `lam` times the second. -/
def differ (lam : Elt F .f32) (o : FVec F S512x128 .f32) : FVec F S256x128 .f32 :=
  subf (extractStridedSlice S256x128 ![0, 0] o slices_S512x128_o0_0_S256x128)
    (mulf (broadcast S256x128 lam) (extractStridedSlice S256x128 ![256, 0] o slices_S512x128_o256_0_S256x128))

/-- What one grid point stores: lanes 0–63 of the first head's result, lanes 64–127 of the second's. -/
def point (lam : Elt F .f32) (q : Vec F S1x256x128 .bf16)
    (k0 k1 k2 : Vec F S1x1280x128 .bf16) (k3 : Vec F S1x512x128 .bf16)
    (v0 v1 v2 : Vec F S1x1280x128 .bf16) (v3 : Vec F S1x512x128 .bf16) : FVec F S1x256x128 .f32 :=
  shapeCast S1x256x128
    (select (broadcastTo S256x128 (shapeCast S1x128
        (cmpi .slt (iota .tc S1x128 32 [1] iota_S1x128_d1_w32) (broadcast S1x128 64#32))
        shapeCasts_S1x128_S1x128) broadcasts_S1x128_S256x128)
      (differ lam (maps (stackMaps 0#32 32#32 64#32 q) k0 k1 k2 k3 v0 v1 v2 v3))
      (differ lam (maps (stackMaps 64#32 96#32 128#32 q) k0 k1 k2 k3 v0 v1 v2 v3)))
    shapeCasts_S256x128_S1x256x128

/-- A one-by-one array has one entry. -/
theorem lam_read (x : Vec F S1x1 .f32) (h : _) :
    View.ld x (Rect.unit ![0, 0] ![1, 1] inb_S1x1_S1x1_0_0) (Shape.Idx.first h) = x (ix2 0 0) := by
  refine congrArg x (funext fun a => ?_)
  match a with
  | ⟨0, _⟩ => exact Subsingleton.elim (α := Fin 1) _ _
  | ⟨1, _⟩ => exact Subsingleton.elim (α := Fin 1) _ _

/-- `point` of the four blocks of the keys and of the values that the body loads. -/
def pointOf (lam : Elt F .f32) (x1 : Vec F S1x256x128 .bf16) (x2 x3 : Vec F S1x4352x128 .bf16) :
    FVec F S1x256x128 .f32 :=
  point lam x1
    (View.ld x2 (Rect.unit ![0, 0, 0] ![1, 1280, 128] inb_S1x4352x128_S1x1280x128_0_0_0))
    (View.ld x2 (Rect.unit ![0, 1280, 0] ![1, 1280, 128] inb_S1x4352x128_S1x1280x128_0_1280_0))
    (View.ld x2 (Rect.unit ![0, 2560, 0] ![1, 1280, 128] inb_S1x4352x128_S1x1280x128_0_2560_0))
    (View.ld x2 (Rect.unit ![0, 3840, 0] ![1, 512, 128] inb_S1x4352x128_S1x512x128_0_3840_0))
    (View.ld x3 (Rect.unit ![0, 0, 0] ![1, 1280, 128] inb_S1x4352x128_S1x1280x128_0_0_0))
    (View.ld x3 (Rect.unit ![0, 1280, 0] ![1, 1280, 128] inb_S1x4352x128_S1x1280x128_0_1280_0))
    (View.ld x3 (Rect.unit ![0, 2560, 0] ![1, 1280, 128] inb_S1x4352x128_S1x1280x128_0_2560_0))
    (View.ld x3 (Rect.unit ![0, 3840, 0] ![1, 512, 128] inb_S1x4352x128_S1x512x128_0_3840_0))

/-- The point's stored block, as the run of the body found it, is `point` of the loaded blocks. -/
theorem out_eq (c : Dev nD) (i : grid0.Coords) (a1 : Memref sig .tc .smem S1x1 .f32) (h1 : a1.IsWhole)
    (a2 : Memref sig .tc .vmem S1x256x128 .bf16) (h2 : a2.IsWhole)
    (a3 : Memref sig .tc .vmem S1x4352x128 .bf16) (h3 : a3.IsWhole)
    (a4 : Memref sig .tc .vmem S1x4352x128 .bf16) (h4 : a4.IsWhole)
    (a5 : Memref sig .tc .vmem S1x256x128 .f32) (h5 : a5.IsWhole)
    (x0 : Vec F S1x1 .f32) (x1 : Vec F S1x256x128 .bf16) (x2 x3 : Vec F S1x4352x128 .bf16) :
    out0_A_4 c i a1 h1 a2 h2 a3 h3 a4 h4 a5 h5 x0 x1 x2 x3 = pointOf (x0 (ix2 0 0)) x1 x2 x3 := by
  frame_out
  refine Eq.trans ?_ (congrArg (fun l => pointOf l x1 x2 x3) (lam_read x0 (by decide)))
  rfl

end Cert.KernelIdeal.Attn

end
-- ==== Proof.Softmax.lean ====
module

public import Idealize.ShloMosaic.Lib.Pointwise

@[expose] public section

noncomputable section

/-! Softmax-weighted sums over the extended reals, for finite scores and values: the online form, block after block under a
running maximum, and the plain form, all scores under one maximum, are the same real number. -/

namespace Cert.Softmax

open Idealize.ShloMosaic

/-- The word `0xFF800000` is minus infinity. -/
theorem ofBits_neg_inf : Ideal.ofBits .f32 0xFF800000#32 = ⊥ := by
  simp [Ideal.ofBits, Ideal.ieee]

/-- A sum of finite numbers is finite, and is the sum of the reals. -/
theorem sum_coe {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

/-- A sum whose terms are finite numbers. -/
theorem sum_eq_coe {ι : Type} (t : Finset ι) (f : ι → EReal) (g : ι → ℝ) (h : ∀ i, f i = (g i : EReal)) :
    (∑ i ∈ t, f i) = ((∑ i ∈ t, g i : ℝ) : EReal) := by
  rw [← sum_coe]; exact Finset.sum_congr rfl fun i _ => h i

/-- The largest of finitely many finite numbers is finite. -/
theorem fold_max_coe {ι : Type} [Fintype ι] [Nonempty ι] (f : ι → EReal) (g : ι → ℝ) (h : ∀ i, f i = (g i : EReal)) :
    ∃ μ : ℝ, Finset.fold max (⊥ : EReal) f Finset.univ = (μ : EReal) := by
  have e : Finset.fold max (⊥ : EReal) f Finset.univ = Finset.univ.sup f := rfl
  obtain ⟨i, -, hi⟩ := Finset.exists_mem_eq_sup Finset.univ Finset.univ_nonempty f
  exact ⟨g i, by rw [e, hi, h]⟩

/-- The exponential of a difference of finite numbers. -/
theorem exp_sub_coe {a b : EReal} {x y : ℝ} (ha : a = x) (hb : b = y) :
    Ideal.exp (a - b) = ((Real.exp (x - y) : ℝ) : EReal) := by
  rw [ha, hb, ← EReal.coe_sub, Ideal.exp_coe]

/-- A quotient of finite numbers, the divisor not zero. -/
theorem div_coe_coe {a b : EReal} {x y : ℝ} (ha : a = x) (hb : b = y) (hy : y ≠ 0) :
    Ideal.div a b = ((x / y : ℝ) : EReal) := by
  rw [ha, hb, Ideal.div_coe hy, ← EReal.coe_mul, mul_one_div]

/-- The online state after the first `n` scores `S` with values `V`: under some finite maximum, the sum of the
exponentials and the weighted sum of the values. -/
def State (S V : ℕ → ℝ) (n : ℕ) (M L A : EReal) : Prop :=
  ∃ μ : ℝ, M = μ ∧ L = ((∑ j ∈ Finset.range n, Real.exp (S j - μ) : ℝ) : EReal)
    ∧ A = ((∑ j ∈ Finset.range n, Real.exp (S j - μ) * V j : ℝ) : EReal)

/-- The state after the first block. -/
theorem State.init {S V : ℕ → ℝ} {B : ℕ} (hB : 0 < B) {s v : Fin B → EReal}
    (hs : ∀ j, s j = (S j.val : ℝ)) (hv : ∀ j, v j = (V j.val : ℝ)) {M : EReal}
    (hM : M = Finset.fold max (⊥ : EReal) s Finset.univ) :
    State S V B M (∑ j, Ideal.exp (s j - M)) (∑ j, Ideal.exp (s j - M) * v j) := by
  haveI : Nonempty (Fin B) := ⟨⟨0, hB⟩⟩
  obtain ⟨μ, hμ⟩ := fold_max_coe s (fun j => S j.val) hs
  have hM' : M = μ := hM.trans hμ
  refine ⟨μ, hM', ?_, ?_⟩
  · rw [Finset.sum_range]
    exact sum_eq_coe _ _ _ fun j => exp_sub_coe (hs j) hM'
  · rw [Finset.sum_range]
    exact sum_eq_coe _ _ _ fun j => by rw [exp_sub_coe (hs j) hM', hv, EReal.coe_mul]

/-- The state after one more block: what was accumulated is moved to the new maximum, the block's part is added. -/
theorem State.step {S V : ℕ → ℝ} {n B : ℕ} (hB : 0 < B) {M L A : EReal} (h : State S V n M L A) {s v : Fin B → EReal}
    (hs : ∀ j, s j = (S (n + j.val) : ℝ)) (hv : ∀ j, v j = (V (n + j.val) : ℝ)) {M' : EReal}
    (hM : M' = max M (Finset.fold max (⊥ : EReal) s Finset.univ)) :
    State S V (n + B) M' (Ideal.exp (M - M') * L + ∑ j, Ideal.exp (s j - M'))
      (Ideal.exp (M - M') * A + ∑ j, Ideal.exp (s j - M') * v j) := by
  haveI : Nonempty (Fin B) := ⟨⟨0, hB⟩⟩
  obtain ⟨ν, hν⟩ := fold_max_coe s (fun j => S (n + j.val)) hs
  obtain ⟨μ, hμ, hL, hA⟩ := h
  have hM' : M' = ((max μ ν : ℝ) : EReal) := by rw [hM, hν, hμ]; exact (EReal.coe_strictMono.monotone.map_max).symm
  refine ⟨max μ ν, hM', ?_, ?_⟩
  · rw [exp_sub_coe hμ hM', hL, sum_eq_coe _ _ _ fun j => exp_sub_coe (hs j) hM', ← EReal.coe_mul, ← EReal.coe_add,
      Finset.sum_range_add, Finset.mul_sum, ← Finset.sum_range fun j => Real.exp (S (n + j) - max μ ν)]
    congr 2
    refine Finset.sum_congr rfl fun j _ => ?_
    rw [← Real.exp_add]; congr 1; ring
  · rw [exp_sub_coe hμ hM', hA,
      sum_eq_coe _ _ (fun j : Fin B => Real.exp (S (n + j.val) - max μ ν) * V (n + j.val))
        fun j => by rw [exp_sub_coe (hs j) hM', hv, EReal.coe_mul],
      ← EReal.coe_mul, ← EReal.coe_add,
      Finset.sum_range_add, Finset.mul_sum, ← Finset.sum_range fun j => Real.exp (S (n + j) - max μ ν) * V (n + j)]
    congr 2
    refine Finset.sum_congr rfl fun j _ => ?_
    rw [← mul_assoc, ← Real.exp_add]; congr 2; ring

/-- The softmax-weighted mean of the first `n` values, as a real number. -/
def mean (S V : ℕ → ℝ) (n : ℕ) : ℝ :=
  (∑ j ∈ Finset.range n, Real.exp (S j) * V j) / ∑ j ∈ Finset.range n, Real.exp (S j)

/-- A sum of exponentials is positive. -/
theorem sum_exp_pos (S : ℕ → ℝ) {n : ℕ} (hn : 0 < n) : 0 < ∑ j ∈ Finset.range n, Real.exp (S j) :=
  Finset.sum_pos (fun _ _ => Real.exp_pos _) ⟨0, Finset.mem_range.mpr hn⟩

/-- The mean does not depend on what is subtracted from every score. -/
theorem mean_shift (S V : ℕ → ℝ) (n : ℕ) (μ : ℝ) :
    (∑ j ∈ Finset.range n, Real.exp (S j - μ) * V j) / (∑ j ∈ Finset.range n, Real.exp (S j - μ)) = mean S V n := by
  have e : ∀ j, Real.exp (S j - μ) = Real.exp (-μ) * Real.exp (S j) := fun j => by
    rw [← Real.exp_add]; congr 1; ring
  simp only [e, mul_assoc, ← Finset.mul_sum]
  rw [mul_div_mul_left _ _ (Real.exp_pos _).ne']
  rfl

/-- The quotient of the online state's sums is the mean. -/
theorem State.div {S V : ℕ → ℝ} {n : ℕ} (hn : 0 < n) {M L A : EReal} (h : State S V n M L A) :
    Ideal.div A L = ((mean S V n : ℝ) : EReal) := by
  obtain ⟨μ, -, hL, hA⟩ := h
  rw [div_coe_coe hA hL (sum_exp_pos (fun j => S j - μ) hn).ne', mean_shift]

/-- The plain form: every score under one finite maximum, divided by the sum, weighted with the values; here for the
difference of two maps, the second times `l`. -/
theorem plain {n : ℕ} (hn : 0 < n) {S T V : ℕ → ℝ} {s t v : Fin n → EReal}
    (hs : ∀ j, s j = (S j.val : ℝ)) (ht : ∀ j, t j = (T j.val : ℝ)) (hv : ∀ j, v j = (V j.val : ℝ))
    {M N l : EReal} {μ ν lr : ℝ} (hM : M = μ) (hN : N = ν) (hl : l = lr) :
    (∑ j, v j * (Ideal.div (Ideal.exp (s j - M)) (∑ i, Ideal.exp (s i - M))
        - l * Ideal.div (Ideal.exp (t j - N)) (∑ i, Ideal.exp (t i - N))))
      = ((mean S V n - lr * mean T V n : ℝ) : EReal) := by
  have hL := sum_eq_coe Finset.univ _ _ fun j : Fin n => exp_sub_coe (hs j) hM
  have hK := sum_eq_coe Finset.univ _ _ fun j : Fin n => exp_sub_coe (ht j) hN
  have pL := (sum_exp_pos (fun j => S j - μ) hn).ne'
  have pK := (sum_exp_pos (fun j => T j - ν) hn).ne'
  rw [Finset.sum_range] at pL pK
  rw [sum_eq_coe Finset.univ _ (fun j : Fin n => V j.val * (Real.exp (S j.val - μ) / (∑ i : Fin n, Real.exp (S i.val - μ))
    - lr * (Real.exp (T j.val - ν) / ∑ i : Fin n, Real.exp (T i.val - ν)))) fun j => by
      rw [div_coe_coe (exp_sub_coe (hs j) hM) hL pL, div_coe_coe (exp_sub_coe (ht j) hN) hK pK, hl, hv,
        ← EReal.coe_mul, ← EReal.coe_sub, ← EReal.coe_mul]]
  rw [← mean_shift S V n μ, ← mean_shift T V n ν]
  simp only [Finset.sum_range]
  congr 1
  rw [Finset.sum_div, Finset.sum_div, Finset.mul_sum, ← Finset.sum_sub_distrib]
  exact Finset.sum_congr rfl fun j _ => by ring

end Cert.Softmax

end
-- ==== Proof.Point.lean ====
module

public import proofs.«01_k».proof.Proof.Body
public import proofs.«01_k».proof.Proof.Softmax
public import Idealize.ShloMosaic.Lib.WordCmp

@[expose] public section

set_option maxRecDepth 16384

noncomputable section

/-! What one grid point stores, read at an entry, for finite queries, keys and values: the difference of two
softmax-weighted means, as a real number. -/

namespace Cert.KernelIdeal.Attn

open Cert.KernelIdeal Cert.KernelIdeal.Gen Idealize.ShloMosaic Idealize.ShloMosaic.TcCoe Idealize.SL.Sem
open Cert.Softmax Idealize.ShloMosaic.WordCmp

/-- A block of 1280 keys' scores at an entry. -/
theorem scores_at (q : FVec Ideal S512x128 .bf16) (k : Vec Ideal S1x1280x128 .bf16) (r : Fin 512) (j : Fin 1280) :
    scores q k (ix2 r j) = ∑ d : Fin 128, q (ix2 r d) * k (ix3 0 j d) := by
  pointwise [scores]

/-- The last block's scores at an entry. -/
theorem scoresL_at (q : FVec Ideal S512x128 .bf16) (k : Vec Ideal S1x512x128 .bf16) (r : Fin 512) (j : Fin 512) :
    scoresL q k (ix2 r j) = ∑ d : Fin 128, q (ix2 r d) * k (ix3 0 j d) := by
  pointwise [scoresL]

/-- The row maximum of a block of 1280 keys at a row. -/
theorem rowMax_at (s : FVec Ideal S512x1280 .f32) (r : Fin 512) :
    rowMax s (ix2 r 0) = Finset.fold max (⊥ : EReal) (fun j : Fin 1280 => s (ix2 r j)) Finset.univ := by
  rw [← ofBits_neg_inf]
  pointwise [rowMax]

/-- The last block's row maximum at a row. -/
theorem rowMaxL_at (s : FVec Ideal S512x512 .f32) (r : Fin 512) :
    rowMaxL s (ix2 r 0) = Finset.fold max (⊥ : EReal) (fun j : Fin 512 => s (ix2 r j)) Finset.univ := by
  rw [← ofBits_neg_inf]
  pointwise [rowMaxL]

/-- A block's weighted values at an entry. -/
theorem lo_weigh_at (s : FVec Ideal S512x1280 .f32) (m : FVec Ideal S512x1 .f32) (v : Vec Ideal S1x1280x128 .bf16)
    (r : Fin 512) (e : Fin 128) :
    loHalf (weigh s m v) (ix2 r e) = ∑ j : Fin 1280, Ideal.exp (s (ix2 r j) - m (ix2 r 0)) * v (ix3 0 j e) := by
  pointwise [weigh, loHalf]

/-- A block's row sum at an entry. -/
theorem hi_weigh_at (s : FVec Ideal S512x1280 .f32) (m : FVec Ideal S512x1 .f32) (v : Vec Ideal S1x1280x128 .bf16)
    (r : Fin 512) (e : Fin 128) :
    hiHalf (weigh s m v) (ix2 r e) = ∑ j : Fin 1280, Ideal.exp (s (ix2 r j) - m (ix2 r 0)) := by
  pointwise [weigh, hiHalf]

/-- The last block's weighted values at an entry. -/
theorem lo_weighL_at (s : FVec Ideal S512x512 .f32) (m : FVec Ideal S512x1 .f32) (v : Vec Ideal S1x512x128 .bf16)
    (r : Fin 512) (e : Fin 128) :
    loHalf (weighL s m v) (ix2 r e) = ∑ j : Fin 512, Ideal.exp (s (ix2 r j) - m (ix2 r 0)) * v (ix3 0 j e) := by
  pointwise [weighL, loHalf]

/-- The last block's row sum at an entry. -/
theorem hi_weighL_at (s : FVec Ideal S512x512 .f32) (m : FVec Ideal S512x1 .f32) (v : Vec Ideal S1x512x128 .bf16)
    (r : Fin 512) (e : Fin 128) :
    hiHalf (weighL s m v) (ix2 r e) = ∑ j : Fin 512, Ideal.exp (s (ix2 r j) - m (ix2 r 0)) := by
  pointwise [weighL, hiHalf]

/-- One carry at an entry. -/
theorem carry_at (m m' : FVec Ideal S512x1 .f32) (a n : FVec Ideal S512x128 .f32) (r : Fin 512) (e : Fin 128) :
    carry m m' a n (ix2 r e) = Ideal.exp (m (ix2 r 0) - m' (ix2 r 0)) * a (ix2 r e) + n (ix2 r e) := by
  pointwise [carry]

/-- One head's two maps at an entry: the softmax-weighted mean of the values over all 4352 keys. -/
theorem maps_at {q : FVec Ideal S512x128 .bf16}
    {k0 k1 k2 : Vec Ideal S1x1280x128 .bf16} {k3 : Vec Ideal S1x512x128 .bf16}
    {v0 v1 v2 : Vec Ideal S1x1280x128 .bf16} {v3 : Vec Ideal S1x512x128 .bf16}
    {Q : ℕ → ℝ} {K V : ℕ → ℕ → ℝ} (r : Fin 512) (e : Fin 128)
    (hq : ∀ d : Fin 128, q (ix2 r d) = (Q d.val : ℝ))
    (hk0 : ∀ (j : Fin 1280) (d : Fin 128), k0 (ix3 0 j d) = (K j.val d.val : ℝ))
    (hk1 : ∀ (j : Fin 1280) (d : Fin 128), k1 (ix3 0 j d) = (K (1280 + j.val) d.val : ℝ))
    (hk2 : ∀ (j : Fin 1280) (d : Fin 128), k2 (ix3 0 j d) = (K (2560 + j.val) d.val : ℝ))
    (hk3 : ∀ (j : Fin 512) (d : Fin 128), k3 (ix3 0 j d) = (K (3840 + j.val) d.val : ℝ))
    (hv0 : ∀ (j : Fin 1280) (d : Fin 128), v0 (ix3 0 j d) = (V j.val d.val : ℝ))
    (hv1 : ∀ (j : Fin 1280) (d : Fin 128), v1 (ix3 0 j d) = (V (1280 + j.val) d.val : ℝ))
    (hv2 : ∀ (j : Fin 1280) (d : Fin 128), v2 (ix3 0 j d) = (V (2560 + j.val) d.val : ℝ))
    (hv3 : ∀ (j : Fin 512) (d : Fin 128), v3 (ix3 0 j d) = (V (3840 + j.val) d.val : ℝ)) :
    maps q k0 k1 k2 k3 v0 v1 v2 v3 (ix2 r e)
      = ((mean (fun j => ∑ d : Fin 128, Q d.val * K j d.val) (fun j => V j e.val) 4352 : ℝ) : EReal) := by
  have hS : ∀ (x : FVec Ideal S512x128 .bf16) (f : Fin 128 → EReal) (g : ℕ → ℝ),
      (∀ d : Fin 128, x (ix2 r d) = (Q d.val : ℝ)) → (∀ d, f d = (g d.val : ℝ)) →
      (∑ d : Fin 128, x (ix2 r d) * f d) = ((∑ d : Fin 128, Q d.val * g d.val : ℝ) : EReal) :=
    fun x f g hx hf => sum_eq_coe _ _ _ fun d => by rw [hx, hf, EReal.coe_mul]
  have s1 := State.init (S := fun j => ∑ d : Fin 128, Q d.val * K j d.val) (V := fun j => V j e.val) (B := 1280)
    (by norm_num) (s := fun j => scores q k0 (ix2 r j)) (v := fun j => v0 (ix3 0 j e))
    (fun j => by rw [scores_at]; exact hS q _ (fun d => K j.val d) hq (hk0 j)) (fun j => hv0 j e)
    (M := max1 q k0 (ix2 r 0)) (rowMax_at _ r)
  have s2 := s1.step (B := 1280) (by norm_num) (s := fun j => scores q k1 (ix2 r j)) (v := fun j => v1 (ix3 0 j e))
    (fun j => by rw [scores_at]; exact hS q _ (fun d => K (1280 + j.val) d) hq (hk1 j)) (fun j => hv1 j e)
    (M' := max2 q k0 k1 (ix2 r 0)) (congrArg (max _) (rowMax_at _ r))
  have s3 := s2.step (B := 1280) (by norm_num) (s := fun j => scores q k2 (ix2 r j)) (v := fun j => v2 (ix3 0 j e))
    (fun j => by rw [scores_at]; exact hS q _ (fun d => K (2560 + j.val) d) hq (hk2 j)) (fun j => hv2 j e)
    (M' := max3 q k0 k1 k2 (ix2 r 0)) (congrArg (max _) (rowMax_at _ r))
  have s4 := s3.step (B := 512) (by norm_num) (s := fun j => scoresL q k3 (ix2 r j)) (v := fun j => v3 (ix3 0 j e))
    (fun j => by rw [scoresL_at]; exact hS q _ (fun d => K (3840 + j.val) d) hq (hk3 j)) (fun j => hv3 j e)
    (M' := max4 q k0 k1 k2 k3 (ix2 r 0)) (congrArg (max _) (rowMaxL_at _ r))
  have hd : maps q k0 k1 k2 k3 v0 v1 v2 v3 (ix2 r e)
      = Ideal.div (accum loHalf q k0 k1 k2 k3 v0 v1 v2 v3 (ix2 r e))
          (accum hiHalf q k0 k1 k2 k3 v0 v1 v2 v3 (ix2 r e)) := by pointwise [maps]
  rw [hd]
  unfold accum
  simp only [carry_at, lo_weigh_at, hi_weigh_at, lo_weighL_at, hi_weighL_at]
  exact State.div (by norm_num) s4

/-- A sum over 128 lanes of queries kept on 32 of them. -/
theorem sum_keep (lo : ℕ) (hlo : lo + 32 ≤ 128) (q k : ℕ → ℝ) :
    (∑ d : Fin 128, (if lo ≤ d.val ∧ d.val < lo + 32 then q d.val else 0) * k d.val)
      = ∑ d : Fin 32, q (lo + d.val) * k (lo + d.val) := by
  rw [← Finset.sum_range fun d => (if lo ≤ d ∧ d < lo + 32 then q d else 0) * k d,
    ← Finset.sum_range fun d => q (lo + d) * k (lo + d)]
  rw [show (∑ d ∈ Finset.range 128, (if lo ≤ d ∧ d < lo + 32 then q d else 0) * k d)
      = ∑ d ∈ Finset.Ico lo (lo + 32), q d * k d from ?_, Finset.sum_Ico_eq_sum_range]
  · simp
  · rw [← Finset.sum_subset (s₁ := Finset.Ico lo (lo + 32))
      (fun d hd => by rw [Finset.mem_Ico] at hd; rw [Finset.mem_range]; omega)
      (fun d _ hd => by rw [Finset.mem_Ico] at hd; rw [if_neg hd, zero_mul])]
    exact Finset.sum_congr rfl fun d hd => by rw [Finset.mem_Ico] at hd; rw [if_pos hd]

/-- The lane test of a mask, as a condition on the lane's number. -/
theorem lane_select (lo hi : ℕ) (hlo : lo ≤ 128) (hhi : hi ≤ 128) (e : Fin 128) (a b : EReal) :
    Scalar.select (IntOp.andi (IntOp.cmpi CmpIPredicate.sge (BitVec.ofNat 32 e.val) (BitVec.ofNat 32 lo))
        (IntOp.cmpi CmpIPredicate.slt (BitVec.ofNat 32 e.val) (BitVec.ofNat 32 hi))) a b
      = if lo ≤ e.val ∧ e.val < hi then a else b := by
  have he : e.val < 2 ^ (32 - 1) := by have := e.isLt; omega
  rw [cmpi_sge_ofNat he (by omega), cmpi_slt_ofNat he (by omega), andi_ofBool, select_ofBool, ← Bool.decide_and]
  simp only [decide_eq_true_eq]

/-- The stacked, masked queries at an entry: map 0's 32 lanes in the first 256 rows, map 1's 32 lanes in the others. -/
theorem stackMaps_at {x : Vec Ideal S1x256x128 .bf16} {q : ℕ → ℕ → ℝ}
    (hx : ∀ (r : Fin 256) (d : Fin 128), x (ix3 0 r d) = (q r.val d.val : ℝ))
    (a b c : ℕ) (ha : a ≤ 128) (hb : b ≤ 128) (hc : c ≤ 128) (r : Fin 512) (d : Fin 128) :
    stackMaps (BitVec.ofNat 32 a) (BitVec.ofNat 32 b) (BitVec.ofNat 32 c) x (ix2 r d)
      = (((if r.val < 256 then (if a ≤ d.val ∧ d.val < b then q r.val d.val else 0)
          else (if b ≤ d.val ∧ d.val < c then q (r.val - 256) d.val else 0) : ℝ)) : EReal) := by
  pointwise [stackMaps, keepLanes]
  split
  · rw [lane_select a b ha hb]
    split
    · exact hx _ _
    · exact EReal.coe_zero.symm
  · rw [lane_select b c hb hc]
    split
    · exact hx _ _
    · exact EReal.coe_zero.symm

/-- The scores of map `mm` of the head on lanes `lo …` for query row `r`, as a function of the key. -/
def score (q k : ℕ → ℕ → ℝ) (r lo : ℕ) (j : ℕ) : ℝ := ∑ d : Fin 32, q r (lo + d.val) * k j (lo + d.val)

/-- One head's difference of two maps, at an entry. -/
theorem differ_at {lam : EReal} {lr : ℝ} (hl : lam = lr) {o : FVec Ideal S512x128 .f32} (r : Fin 256) (e : Fin 128)
    {x y : ℝ} (hx : ∀ h, o (ix2 (⟨r.val, h⟩ : Fin 512) e) = x) (hy : ∀ h, o (ix2 (⟨256 + r.val, h⟩ : Fin 512) e) = y) :
    differ lam o (ix2 r e) = ((x - lr * y : ℝ) : EReal) := by
  pointwise [differ]
  rw [hx, hy, hl, ← EReal.coe_mul, ← EReal.coe_sub]

/-- What one grid point stores at row `r` and lane `e`, for finite blocks: `e / 64` is the head. -/
theorem pointOf_at {lam : EReal} {lr : ℝ} (hl : lam = lr) {x1 : Vec Ideal S1x256x128 .bf16}
    {x2 x3 : Vec Ideal S1x4352x128 .bf16} {q k v : ℕ → ℕ → ℝ}
    (hq : ∀ (r : Fin 256) (d : Fin 128), x1 (ix3 0 r d) = (q r.val d.val : ℝ))
    (hk : ∀ (j : Fin 4352) (d : Fin 128), x2 (ix3 0 j d) = (k j.val d.val : ℝ))
    (hv : ∀ (j : Fin 4352) (d : Fin 128), x3 (ix3 0 j d) = (v j.val d.val : ℝ))
    (r : Fin 256) (e : Fin 128) :
    pointOf (F := Ideal) lam x1 x2 x3 (ix3 0 r e)
      = ((mean (score q k r.val (64 * (e.val / 64))) (fun j => v j e.val) 4352
          - lr * mean (score q k r.val (64 * (e.val / 64) + 32)) (fun j => v j e.val) 4352 : ℝ) : EReal) := by
  have hm : ∀ (a b c : ℕ), b = a + 32 → c = b + 32 → c ≤ 128 →
      differ lam (maps (stackMaps (BitVec.ofNat 32 a) (BitVec.ofNat 32 b) (BitVec.ofNat 32 c) x1)
        (View.ld x2 (Rect.unit ![0, 0, 0] ![1, 1280, 128] inb_S1x4352x128_S1x1280x128_0_0_0))
        (View.ld x2 (Rect.unit ![0, 1280, 0] ![1, 1280, 128] inb_S1x4352x128_S1x1280x128_0_1280_0))
        (View.ld x2 (Rect.unit ![0, 2560, 0] ![1, 1280, 128] inb_S1x4352x128_S1x1280x128_0_2560_0))
        (View.ld x2 (Rect.unit ![0, 3840, 0] ![1, 512, 128] inb_S1x4352x128_S1x512x128_0_3840_0))
        (View.ld x3 (Rect.unit ![0, 0, 0] ![1, 1280, 128] inb_S1x4352x128_S1x1280x128_0_0_0))
        (View.ld x3 (Rect.unit ![0, 1280, 0] ![1, 1280, 128] inb_S1x4352x128_S1x1280x128_0_1280_0))
        (View.ld x3 (Rect.unit ![0, 2560, 0] ![1, 1280, 128] inb_S1x4352x128_S1x1280x128_0_2560_0))
        (View.ld x3 (Rect.unit ![0, 3840, 0] ![1, 512, 128] inb_S1x4352x128_S1x512x128_0_3840_0))) (ix2 r e)
      = ((mean (score q k r.val a) (fun j => v j e.val) 4352
          - lr * mean (score q k r.val b) (fun j => v j e.val) 4352 : ℝ) : EReal) := by
    intro a b c hb hc h128
    have hM := fun (r' : Fin 512) => maps_at (Q := fun d => if r'.val < 256 then (if a ≤ d ∧ d < b then q r'.val d else 0)
          else (if b ≤ d ∧ d < c then q (r'.val - 256) d else 0)) (K := k) (V := v) r' e
        (q := stackMaps (BitVec.ofNat 32 a) (BitVec.ofNat 32 b) (BitVec.ofNat 32 c) x1)
        (k0 := View.ld x2 (Rect.unit ![0, 0, 0] ![1, 1280, 128] inb_S1x4352x128_S1x1280x128_0_0_0))
        (k1 := View.ld x2 (Rect.unit ![0, 1280, 0] ![1, 1280, 128] inb_S1x4352x128_S1x1280x128_0_1280_0))
        (k2 := View.ld x2 (Rect.unit ![0, 2560, 0] ![1, 1280, 128] inb_S1x4352x128_S1x1280x128_0_2560_0))
        (k3 := View.ld x2 (Rect.unit ![0, 3840, 0] ![1, 512, 128] inb_S1x4352x128_S1x512x128_0_3840_0))
        (v0 := View.ld x3 (Rect.unit ![0, 0, 0] ![1, 1280, 128] inb_S1x4352x128_S1x1280x128_0_0_0))
        (v1 := View.ld x3 (Rect.unit ![0, 1280, 0] ![1, 1280, 128] inb_S1x4352x128_S1x1280x128_0_1280_0))
        (v2 := View.ld x3 (Rect.unit ![0, 2560, 0] ![1, 1280, 128] inb_S1x4352x128_S1x1280x128_0_2560_0))
        (v3 := View.ld x3 (Rect.unit ![0, 3840, 0] ![1, 512, 128] inb_S1x4352x128_S1x512x128_0_3840_0))
        (fun d => stackMaps_at hq a b c (by omega) (by omega) h128 r' d)
        (fun j d => by pointwise; rw [hk])
        (fun j d => by pointwise; rw [hk])
        (fun j d => by pointwise; rw [hk])
        (fun j d => by pointwise; rw [hk])
        (fun j d => by pointwise; rw [hv])
        (fun j d => by pointwise; rw [hv])
        (fun j d => by pointwise; rw [hv])
        (fun j d => by pointwise; rw [hv])
    refine differ_at hl r e (fun h => (hM ⟨r.val, h⟩).trans ?_) (fun h => (hM ⟨256 + r.val, h⟩).trans ?_)
    · congr 2
      funext j
      simp only [if_pos r.isLt]
      subst hb
      exact sum_keep a (by omega) (q r.val) (k j)
    · congr 2
      funext j
      simp only [if_neg (show ¬ (256 + r.val < 256) by omega), Nat.add_sub_cancel_left]
      subst hc
      exact sum_keep b (by omega) (q r.val) (k j)
  have h0 := hm 0 32 64 rfl rfl (by norm_num)
  have h1 := hm 64 96 128 rfl rfl (by norm_num)
  unfold pointOf point
  pointwise
  have he : e.val < 128 := e.isLt
  rw [cmpi_slt_ofNat (by omega) (by norm_num), select_ofBool]
  by_cases h : e.val < 64
  · rw [if_pos (decide_eq_true h)]
    rw [show e.val / 64 = 0 by omega]
    exact h0
  · rw [if_neg (by simpa using h)]
    rw [show e.val / 64 = 1 by omega]
    exact h1

end Cert.KernelIdeal.Attn

end
-- ==== Proof.Spec.lean ====
module

public import proofs.«01_k».proof.Proof.Softmax
public import proofs.«01_k».proof.Proof.Gen.Pre_finite

@[expose] public section

set_option maxRecDepth 16384

noncomputable section

/-! The attention as a function of the real numbers its arguments hold, and the precondition read entry by entry. -/

namespace Cert.Attn

open Idealize.ShloMosaic Cert.Softmax

/-- The real number an array of extended reals holds at natural coordinates (zero outside the array). -/
def rd (A B C : ℕ) (x : (⟨3, ![A, B, C]⟩ : Shape).Idx → EReal) (a b c : ℕ) : ℝ :=
  if h : a < A ∧ b < B ∧ c < C then (x (ix3 ⟨a, h.1⟩ ⟨b, h.2.1⟩ ⟨c, h.2.2⟩)).toReal else 0

/-- A finite entry is the real number read there. -/
theorem eq_rd {A B C : ℕ} {x : (⟨3, ![A, B, C]⟩ : Shape).Idx → EReal} (hx : ∀ i, x i ≠ ⊤ ∧ x i ≠ ⊥)
    (a : Fin A) (b : Fin B) (c : Fin C) : x (ix3 a b c) = (rd A B C x a.val b.val c.val : EReal) := by
  unfold rd
  rw [dif_pos ⟨a.isLt, b.isLt, c.isLt⟩]
  exact (EReal.coe_toReal (hx _).1 (hx _).2).symm

/-- The score of query row `i` of batch `b` against key `j`, on the 32 lanes from `lo`: the queries are the latent rows'
first 256 lanes, the keys the lanes from 256 of every row. -/
def score (qk : (⟨3, ![4, 4352, 512]⟩ : Shape).Idx → EReal) (b i lo j : ℕ) : ℝ :=
  ∑ d : Fin 32, rd 4 4352 512 qk b (256 + i) (lo + d.val) * rd 4 4352 512 qk b j (256 + (lo + d.val))

/-- The attention's result at batch `b`, latent row `i` and lane `l`: head `l / 64`'s first map's weighted mean of the
values less lambda times its second's. -/
def result (qk : (⟨3, ![4, 4352, 512]⟩ : Shape).Idx → EReal) (v : (⟨3, ![4, 4352, 256]⟩ : Shape).Idx → EReal)
    (lam : EReal) (b i l : ℕ) : EReal :=
  ((mean (score qk b i (l / 64 * 64)) (fun j => rd 4 4352 256 v b j l) 4352
    - lam.toReal * mean (score qk b i (l / 64 * 64 + 32)) (fun j => rd 4 4352 256 v b j l) 4352 : ℝ) : EReal)

/-- A conjunction of bits over a finite set that comes out one has every bit one. -/
theorem fold_and {ι : Type} (t : Finset ι) (p : ι → Prop) [DecidablePred p]
    (h : Finset.fold IntOp.andi (1#1) (fun i => BitVec.ofBool (decide (p i))) t = 1#1) : ∀ i ∈ t, p i := by
  classical
  induction t using Finset.induction_on with
  | empty => intro i hi; exact absurd hi (Finset.notMem_empty i)
  | insert a t ha ih =>
    rw [Finset.fold_insert ha] at h
    have hh : ∀ x y : BitVec 1, IntOp.andi x y = 1#1 → x = 1#1 ∧ y = 1#1 := by decide
    obtain ⟨h1, h2⟩ := hh _ _ h
    intro i hi
    rcases Finset.mem_insert.mp hi with rfl | hi
    · by_contra hc
      rw [decide_eq_false hc] at h1
      exact absurd h1 (by decide)
    · exact ih h2 i hi

/-- The word `0x7F800000` is plus infinity. -/
theorem ofBits_inf : Ideal.ofBits .f32 0x7F800000#32 = ⊤ := by simp [Ideal.ofBits, Ideal.ieee]

/-- A magnitude below plus infinity is a finite number. -/
theorem finite_of_abs {φ : FTy} {x : Ideal φ} (h : FloatOps.absf x < (⊤ : EReal)) :
    (x : EReal) ≠ ⊤ ∧ (x : EReal) ≠ ⊥ := by
  have h' : max (x : EReal) (-(x : EReal)) < ⊤ := h
  refine ⟨fun e => ?_, fun e => ?_⟩
  · rw [e] at h'; simp at h'
  · rw [e] at h'; simp at h'

/-- The conjunction over a rank-three array's entries of their magnitudes' being below plus infinity makes each finite. -/
theorem entries {A B C : ℕ} {φ : FTy} (x : (⟨3, ![A, B, C]⟩ : Shape).Idx → Ideal φ)
    (h : Finset.fold IntOp.andi (1#1) (fun k : Fin A × Fin B × Fin C =>
      BitVec.ofBool (decide (FloatOps.absf (x (ix3 k.1 k.2.1 k.2.2)) < (⊤ : EReal)))) Finset.univ = 1#1)
    (i : (⟨3, ![A, B, C]⟩ : Shape).Idx) : (x i : EReal) ≠ ⊤ ∧ (x i : EReal) ≠ ⊥ := by
  rw [eq_ix3 i]
  exact finite_of_abs (fold_and _ _ h ((i 0 : Fin A), (i 1 : Fin B), (i 2 : Fin C)) (Finset.mem_univ _))

/-- The precondition, read entry by entry: every entry of the three arguments is a finite number. -/
theorem finite_of_pre (q : FVec Ideal Cert.Pre_finite.S4x4352x512 .bf16) (v : FVec Ideal Cert.Pre_finite.S4x4352x256 .bf16)
    (l : FVec Ideal Cert.Pre_finite.S_ .f32) (h : Cert.Pre_finite.fn (F := Ideal) q v l ix0 = 1#1) :
    (∀ i, (q i : EReal) ≠ ⊤ ∧ (q i : EReal) ≠ ⊥) ∧ (∀ i, (v i : EReal) ≠ ⊤ ∧ (v i : EReal) ≠ ⊥)
      ∧ ((l ix0 : EReal) ≠ ⊤ ∧ (l ix0 : EReal) ≠ ⊥) := by
  pointwise [Cert.Pre_finite.fn] at h
  have hh : ∀ x y : BitVec 1, IntOp.andi x y = 1#1 → x = 1#1 ∧ y = 1#1 := by decide
  obtain ⟨h1, hl⟩ := hh _ _ h
  obtain ⟨hq, hv⟩ := hh _ _ h1
  rw [ofBits_inf] at hq hv hl
  refine ⟨fun i => ?_, fun i => ?_, ?_⟩
  · exact entries q hq i
  · exact entries v hv i
  · exact finite_of_abs (fold_and _ _ hl ix0 (Finset.mem_filter.mpr ⟨Finset.mem_univ _, funext fun k => k.elim0⟩))

end Cert.Attn

end
-- ==== Proof.KernelValue.lean ====
module

public import proofs.«01_k».proof.Proof.Point
public import proofs.«01_k».proof.Proof.Spec

@[expose] public section

set_option maxRecDepth 16384

noncomputable section

namespace Cert.KernelIdeal.Attn

open Cert.KernelIdeal Cert.KernelIdeal.Gen Idealize.ShloMosaic Idealize.ShloMosaic.TcCoe Idealize.SL.Sem
open Cert.Softmax

/-- Where each window's block lies, by the grid point's batch, pair of heads and query tile. -/
theorem idx : ∀ t : Fin cfg0.N,
    win0_0.index t = ![0, 0]
      ∧ win0_1.index t = ![(grid0.coords t 0).val, 1 + (grid0.coords t 2).val, (grid0.coords t 1).val]
      ∧ win0_2.index t = ![(grid0.coords t 0).val, 0, 2 + (grid0.coords t 1).val]
      ∧ win0_3.index t = ![(grid0.coords t 0).val, 0, (grid0.coords t 1).val]
      ∧ win0_4.index t = ![(grid0.coords t 0).val, (grid0.coords t 2).val, (grid0.coords t 1).val] :=
  (by decide +kernel : ∀ t : Fin grid0.N, _)

variable (m : (ℓ : Loc nD τ sig) → Buf (Elt Ideal) ℓ)

/-- The one entry of lambda's block is lambda. -/
theorem lam_blk (c : Dev nD) (t : Fin cfg0.N) :
    (iblk m c 0 t : Vec Ideal S1x1 .f32) (ix2 0 0) = (m ((c : Thread nD τ).loc main_arg2) : FVec Ideal S_ .f32) ix0 := by
  blk_simp [iblk, idx t]
  entry_read
  pointwise

/-- A query block's entry: batch, latent row and lane of the launched queries. -/
theorem q_blk (c : Dev nD) (t : Fin cfg0.N) (r : Fin 256) (d : Fin 128) :
    ∃ h0 h1 h2, (iblk m c 1 t : Vec Ideal S1x256x128 .bf16) (ix3 0 r d)
      = (m ((c : Thread nD τ).loc main_arg0) : FVec Ideal S4x4352x512 .bf16)
        (ix3 ⟨(grid0.coords t 0).val, h0⟩ ⟨256 + (256 * (grid0.coords t 2).val + r.val), h1⟩ ⟨128 * (grid0.coords t 1).val + d.val, h2⟩) := by
  have a0 : (grid0.coords t 0).val < 4 := (grid0.coords t 0).isLt
  have a1 : (grid0.coords t 1).val < 2 := (grid0.coords t 1).isLt
  have a2 : (grid0.coords t 2).val < 16 := (grid0.coords t 2).isLt
  refine ⟨a0, by omega, by omega, ?_⟩
  blk_ext [iblk, V, idx t]

/-- A key block's entry: every row of the batch, on the lanes from 256 of the pair of heads. -/
theorem k_blk (c : Dev nD) (t : Fin cfg0.N) (j : Fin 4352) (d : Fin 128) :
    ∃ h0 h2, (iblk m c 2 t : Vec Ideal S1x4352x128 .bf16) (ix3 0 j d)
      = (m ((c : Thread nD τ).loc main_arg0) : FVec Ideal S4x4352x512 .bf16)
        (ix3 ⟨(grid0.coords t 0).val, h0⟩ j ⟨256 + (128 * (grid0.coords t 1).val + d.val), h2⟩) := by
  have a0 : (grid0.coords t 0).val < 4 := (grid0.coords t 0).isLt
  have a1 : (grid0.coords t 1).val < 2 := (grid0.coords t 1).isLt
  refine ⟨a0, by omega, ?_⟩
  blk_ext [iblk, V, idx t]

/-- A value block's entry: every row of the batch, on the lanes of the pair of heads. -/
theorem v_blk (c : Dev nD) (t : Fin cfg0.N) (j : Fin 4352) (d : Fin 128) :
    ∃ h0 h2, (iblk m c 3 t : Vec Ideal S1x4352x128 .bf16) (ix3 0 j d)
      = (m ((c : Thread nD τ).loc main_arg1) : FVec Ideal S4x4352x256 .bf16)
        (ix3 ⟨(grid0.coords t 0).val, h0⟩ j ⟨128 * (grid0.coords t 1).val + d.val, h2⟩) := by
  have a0 : (grid0.coords t 0).val < 4 := (grid0.coords t 0).isLt
  have a1 : (grid0.coords t 1).val < 2 := (grid0.coords t 1).isLt
  refine ⟨a0, by omega, ?_⟩
  blk_ext [iblk, V, idx t]

/-- What grid point `t` writes back is the attention's result at its block's entries, for finite arguments. -/
theorem point_value (c : Dev nD) (qk : FVec Ideal S4x4352x512 .bf16) (v : FVec Ideal S4x4352x256 .bf16)
    (lam : FVec Ideal S_ .f32)
    (h0 : m ((c : Thread nD τ).loc main_arg0) = qk) (h1 : m ((c : Thread nD τ).loc main_arg1) = v)
    (h2 : m ((c : Thread nD τ).loc main_arg2) = lam)
    (hq : ∀ i, (qk i : EReal) ≠ ⊤ ∧ (qk i : EReal) ≠ ⊥) (hv : ∀ i, (v i : EReal) ≠ ⊤ ∧ (v i : EReal) ≠ ⊥)
    (hl : (lam ix0 : EReal) ≠ ⊤ ∧ (lam ix0 : EReal) ≠ ⊥) (t : Fin cfg0.N) (r : Fin 256) (e : Fin 128) :
    pointOf (F := Ideal) ((iblk m c 0 t : Vec Ideal S1x1 .f32) (ix2 0 0)) (iblk m c 1 t) (iblk m c 2 t) (iblk m c 3 t) (ix3 0 r e)
      = Cert.Attn.result qk v (lam ix0) (grid0.coords t 0).val (256 * (grid0.coords t 2).val + r.val)
          (128 * (grid0.coords t 1).val + e.val) := by
  have hlam : (iblk m c 0 t : Vec Ideal S1x1 .f32) (ix2 0 0) = (((lam ix0 : EReal).toReal : ℝ) : EReal) := by
    rw [lam_blk, h2]; exact (EReal.coe_toReal hl.1 hl.2).symm
  refine (pointOf_at (x1 := iblk m c 1 t) (x2 := iblk m c 2 t) (x3 := iblk m c 3 t)
    (q := fun r d => Cert.Attn.rd 4 4352 512 qk (grid0.coords t 0).val (256 + (256 * (grid0.coords t 2).val + r))
      (128 * (grid0.coords t 1).val + d))
    (k := fun j d => Cert.Attn.rd 4 4352 512 qk (grid0.coords t 0).val j (256 + (128 * (grid0.coords t 1).val + d)))
    (v := fun j d => Cert.Attn.rd 4 4352 256 v (grid0.coords t 0).val j (128 * (grid0.coords t 1).val + d))
    hlam ?_ ?_ ?_ r e).trans ?_
  · intro r d
    obtain ⟨a, b, d', h⟩ := q_blk m c t r d
    rw [h, h0]; exact Cert.Attn.eq_rd hq _ _ _
  · intro j d
    obtain ⟨a, b, h⟩ := k_blk m c t j d
    rw [h, h0]; exact Cert.Attn.eq_rd hq _ _ _
  · intro j d
    obtain ⟨a, b, h⟩ := v_blk m c t j d
    rw [h, h1]; exact Cert.Attn.eq_rd hv _ _ _
  · have e0 : (128 * (grid0.coords t 1).val + e.val) / 64 * 64 = 128 * (grid0.coords t 1).val + 64 * (e.val / 64) := by omega
    unfold Cert.Attn.result
    have es : ∀ lo, score (fun r d => Cert.Attn.rd 4 4352 512 qk (grid0.coords t 0).val
          (256 + (256 * (grid0.coords t 2).val + r)) (128 * (grid0.coords t 1).val + d))
        (fun j d => Cert.Attn.rd 4 4352 512 qk (grid0.coords t 0).val j (256 + (128 * (grid0.coords t 1).val + d))) r.val lo
          = Cert.Attn.score qk (grid0.coords t 0).val (256 * (grid0.coords t 2).val + r.val) (128 * (grid0.coords t 1).val + lo) :=
      fun lo => funext fun j => by simp only [score, Cert.Attn.score, Nat.add_assoc]
    rw [es, es, e0, Nat.add_assoc (128 * _)]

/-- The output array after the run, entry by entry. -/
theorem array (c : Dev nD) (qk : FVec Ideal S4x4352x512 .bf16) (v : FVec Ideal S4x4352x256 .bf16)
    (lam : FVec Ideal S_ .f32)
    (h0 : m ((c : Thread nD τ).loc main_arg0) = qk) (h1 : m ((c : Thread nD τ).loc main_arg1) = v)
    (h2 : m ((c : Thread nD τ).loc main_arg2) = lam)
    (hq : ∀ i, (qk i : EReal) ≠ ⊤ ∧ (qk i : EReal) ≠ ⊥) (hv : ∀ i, (v i : EReal) ≠ ⊤ ∧ (v i : EReal) ≠ ⊥)
    (hl : (lam ix0 : EReal) ≠ ⊤ ∧ (lam ix0 : EReal) ≠ ⊥) :
    (dats m 0 c).arrAt 4 cfg0.N
      = (fun i => Cert.Attn.result qk v (lam ix0) (i 0).val (i 1).val (i 2).val : FVec Ideal S4x4096x256 .f32) := by
  refine (dats m 0 c).arrAt_eq_of_covers 4 _ (by decide +kernel) fun t hf y => ?_
  blk_simp
  rw [after0_4]
  obtain ⟨-, -, -, -, h4⟩ := idx t
  rw [h4]
  have hp := point_value m c qk v lam h0 h1 h2 hq hv hl t (y 1) (y 2)
  have hy : y = ix3 (0 : Fin 1) (y 1) (y 2) := by
    refine (eq_ix3 y).trans ?_
    congr 1
    exact Subsingleton.elim _ _
  unfold outsAt0
  rw [out_eq, hy]
  refine hp.trans ?_
  show Cert.Attn.result qk v (lam ix0) _ _ _ = Cert.Attn.result qk v (lam ix0) (grid0.coords t 0).val
    ((grid0.coords t 2).val * 256 + (y 1).val) ((grid0.coords t 1).val * 128 + (y 2).val)
  rw [Nat.mul_comm 256, Nat.mul_comm 128]

end Cert.KernelIdeal.Attn

end
-- ==== Proof.RefValue.lean ====
module

public import proofs.«01_k».proof.Proof.Gen.ReferenceIdeal.Run
public import proofs.«01_k».proof.Proof.Spec
public import Idealize.ShloMosaic.Lib.Tactic
public import Idealize.ShloMosaic.Lib.Tactic.CleanTypes
public import Idealize.ShloMosaic.Lib.Pipeline.ValueKit

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe Idealize.SL.Sem
open Cert.Softmax

/-- The reference's score of query row `i` against key `x`, over the 32 lanes from `lo`. -/
abbrev sc (qk : FVec Ideal S4x4352x512 .bf16) (b : Fin 4) (i : Fin 4096) (lo : ℕ) (hlo : ∀ d : Fin 32, lo + d.val < 256)
    (x : Fin 4352) : EReal :=
  ∑ d : Fin 32, (qk (ix3 b (⟨256 + i.val, by omega⟩ : Fin 4352) (⟨lo + d.val, (hlo d).trans (by decide)⟩ : Fin 512)) : EReal)
    * qk (ix3 b x (⟨256 + (lo + d.val), by have := hlo d; omega⟩ : Fin 512))

/-- For finite arguments the score is the real score. -/
theorem sc_coe {qk : FVec Ideal S4x4352x512 .bf16} (hq : ∀ i, (qk i : EReal) ≠ ⊤ ∧ (qk i : EReal) ≠ ⊥)
    (b : Fin 4) (i : Fin 4096) (lo : ℕ) (hlo : ∀ d : Fin 32, lo + d.val < 256) (j : Fin 4352) :
    sc qk b i lo hlo j = (Cert.Attn.score qk b.val i.val lo j.val : EReal) := by
  refine sum_eq_coe _ _ _ fun d => ?_
  rw [Cert.Attn.eq_rd hq, Cert.Attn.eq_rd hq, ← EReal.coe_mul]

/-- The larger of minus infinity and a row's scores. -/
def top {n : ℕ} (f : Fin n → EReal) : EReal :=
  max (Ideal.ofBits .f32 0xFF800000#32 : EReal) (Finset.fold max (Ideal.ofBits .f32 0xFF800000#32 : EReal) f Finset.univ)

/-- For finite scores it is a finite number. -/
theorem top_coe {f : Fin 4352 → EReal} {g : Fin 4352 → ℝ} (h : ∀ j, f j = g j) : ∃ μ : ℝ, top f = μ := by
  haveI : Nonempty (Fin 4352) := ⟨⟨0, by norm_num⟩⟩
  obtain ⟨μ, hμ⟩ := fold_max_coe f g h
  exact ⟨μ, by rw [top, ofBits_neg_inf, hμ]; exact max_eq_right bot_le⟩

/-- The values under the difference of two maps' weights, each map a softmax of its scores. -/
abbrev body (s t v : Fin 4352 → EReal) (lam : EReal) : EReal :=
  ∑ x : Fin 4352, v x * (Ideal.div (Ideal.exp (s x - top s)) (∑ y, Ideal.exp (s y - top s))
    - lam * Ideal.div (Ideal.exp (t x - top t)) (∑ y, Ideal.exp (t y - top t)))

section Arrays

variable {F : FTy → Type} [FloatOps F]

/-- The scores of every batch, head and map: queries against keys over a map's lanes. -/
def scoresOf (qk : FVec F S4x4352x512 .bf16) : FVec F S4x4x2x4096x4352 .f32 :=
  Host.dotGeneral dot_S4x4096x4x2x32_S4x4352x4x2x32_S4x4x2x4096x4352_4_4_1_1_023_023 none
    (shapeCast _ (extf .f32 (extractStridedSlice S4x4096x256 ![0, 256, 0] qk slices_S4x4352x512_S4x4096x256_0_256_0)
      bitsLt_bf16_f32) shapeCasts_S4x4096x256_S4x4096x4x2x32)
    (shapeCast _ (extf .f32 (extractStridedSlice S4x4352x256 ![0, 0, 256] qk slices_S4x4352x512_S4x4352x256_0_0_256)
      bitsLt_bf16_f32) shapeCasts_S4x4352x256_S4x4352x4x2x32)

/-- A row's statistic repeated along the row. -/
def alongRow (x : FVec F S4x4x2x4096 .f32) : FVec F S4x4x2x4096x4352 .f32 :=
  broadcastInDim S4x4x2x4096x4352 ![0, 1, 2, 3, 4] bcast_S4x4x2x4096x1_S4x4x2x4096x4352_0_1_2_3_4
    (broadcastInDim S4x4x2x4096x1 ![0, 1, 2, 3] bcast_S4x4x2x4096_S4x4x2x4096x1_0_1_2_3 x)

/-- The rows' maxima. -/
def rowTop (s : FVec F S4x4x2x4096x4352 .f32) : FVec F S4x4x2x4096 .f32 :=
  maximumf (broadcastInDim S4x4x2x4096 ![] bcast_S_S4x4x2x4096 (constant S_ .f32 0xFF800000#32))
    (Host.reduce FloatOps.maximumf s (constant S_ .f32 0xFF800000#32) reducesTo_S4x4x2x4096x4352_S4x4x2x4096_d4 h_S_)

/-- The exponentials of scores less their row's maximum. -/
def expsOf (s : FVec F S4x4x2x4096x4352 .f32) : FVec F S4x4x2x4096x4352 .f32 := Host.exp (subf s (alongRow (rowTop s)))

/-- Exponentials over their row's sum. -/
def overSum (p : FVec F S4x4x2x4096x4352 .f32) : FVec F S4x4x2x4096x4352 .f32 :=
  Host.divf p (alongRow (Host.reduceAdd p (constant S_ .f32 0x00000000#32) reducesTo_S4x4x2x4096x4352_S4x4x2x4096_d4 h_S_))

/-- The first map's weights less lambda times the second's. -/
def apart (p : FVec F S4x4x2x4096x4352 .f32) (lam : FVec F S_ .f32) : FVec F S4x4x4096x4352 .f32 :=
  subf (shapeCast _ (extractStridedSlice S4x4x1x4096x4352 ![0, 0, 0, 0, 0] p slices_S4x4x2x4096x4352_S4x4x1x4096x4352_0_0_0_0_0)
      shapeCasts_S4x4x1x4096x4352_S4x4x4096x4352)
    (mulf (broadcastInDim S4x4x4096x4352 ![] bcast_S_S4x4x4096x4352 lam)
      (shapeCast _ (extractStridedSlice S4x4x1x4096x4352 ![0, 0, 1, 0, 0] p slices_S4x4x2x4096x4352_S4x4x1x4096x4352_0_0_1_0_0)
        shapeCasts_S4x4x1x4096x4352_S4x4x4096x4352))

/-- The values under the weights, heads side by side. -/
def under (v : FVec F S4x4352x256 .bf16) (w : FVec F S4x4x4096x4352 .f32) : FVec F S4x4096x256 .f32 :=
  shapeCast _ (transpose S4x4096x4x64 [0, 3, 1, 2]
    (Host.dotGeneral dot_S4x4352x4x64_S4x4x4096x4352_S4x4x64x4096_1_3_3_2_02_01 none
      (shapeCast _ (extf .f32 v bitsLt_bf16_f32) shapeCasts_S4x4352x256_S4x4352x4x64) w)
    transposes_S4x4x64x4096_S4x4096x4x64_0_3_1_2) shapeCasts_S4x4096x4x64_S4x4096x256

/-- The reference's result is these arrays one after another. -/
theorem res_eq (m : (ℓ : Loc nD τ sig) → Buf (Elt F) ℓ) (c : Dev nD) :
    res_main_v29 m c = under (m ((c.tc : Thread nD τ).loc main_arg1))
      (apart (overSum (expsOf (scoresOf (m ((c.tc : Thread nD τ).loc main_arg0))))) (m ((c.tc : Thread nD τ).loc main_arg2))) :=
  rfl

end Arrays

/-- A score at an entry. -/
theorem scoresOf_at (qk : FVec Ideal S4x4352x512 .bf16) (b h : Fin 4) (p : Fin 2) (i : Fin 4096) (j : Fin 4352) :
    scoresOf qk (ix5 b h p i j) = sc qk b i (h.val * 64 + p.val * 32) (by omega) j := by
  pointwise [scoresOf]

/-- The larger of a constant and a maximum along the last of five axes at an entry, for any lengths. -/
theorem reduceTop_at {A B C D E : ℕ} (h : (⟨5, ![A, B, C, D, E]⟩ : Shape).ReducesTo [4] ⟨4, ![A, B, C, D]⟩)
    (hb : S_.BroadcastsInDim ⟨4, ![A, B, C, D]⟩ ![])
    (hu : 0 < S_.numel) (x : FVec Ideal ⟨5, ![A, B, C, D, E]⟩ .f32) (a : Fin A) (b : Fin B) (c : Fin C) (d : Fin D) :
    maximumf (F := Ideal) (φ := .f32) (broadcastInDim ⟨4, ![A, B, C, D]⟩ ![] hb (constant (F := Ideal) S_ .f32 0xFF800000#32))
      (Host.reduce (FloatOps.maximumf (F := Ideal) (φ := .f32)) x (constant (F := Ideal) S_ .f32 0xFF800000#32) h hu) (ix4 a b c d)
      = top (fun e => x (ix5 a b c d e)) := by
  unfold top
  pointwise

/-- A row's maximum at an entry. -/
theorem rowTop_at (s : FVec Ideal S4x4x2x4096x4352 .f32) (b h : Fin 4) (p : Fin 2) (i : Fin 4096) :
    rowTop s (ix4 b h p i) = top (fun j => s (ix5 b h p i j)) :=
  reduceTop_at reducesTo_S4x4x2x4096x4352_S4x4x2x4096_d4 bcast_S_S4x4x2x4096 h_S_ s b h p i

/-- A row's statistic along the row, at an entry. -/
theorem alongRow_at (x : FVec Ideal S4x4x2x4096 .f32) (b h : Fin 4) (p : Fin 2) (i : Fin 4096) (j : Fin 4352) :
    alongRow x (ix5 b h p i j) = x (ix4 b h p i) := by
  pointwise [alongRow]

/-- An exponential at an entry. -/
theorem expsOf_at (s : FVec Ideal S4x4x2x4096x4352 .f32) (b h : Fin 4) (p : Fin 2) (i : Fin 4096) (j : Fin 4352) :
    expsOf s (ix5 b h p i j) = Ideal.exp (s (ix5 b h p i j) - top (fun j => s (ix5 b h p i j))) := by
  rw [← rowTop_at]
  unfold expsOf
  generalize rowTop s = t
  pointwise [alongRow_at]

/-- A weight at an entry. -/
theorem overSum_at (s : FVec Ideal S4x4x2x4096x4352 .f32) (b h : Fin 4) (p : Fin 2) (i : Fin 4096) (j : Fin 4352) :
    overSum s (ix5 b h p i j) = Ideal.div (s (ix5 b h p i j)) (∑ j, s (ix5 b h p i j)) := by
  pointwise [overSum, alongRow_at]

/-- A difference of weights at an entry. -/
theorem apart_at (s : FVec Ideal S4x4x2x4096x4352 .f32) (lam : FVec Ideal S_ .f32) (b h : Fin 4) (i : Fin 4096) (j : Fin 4352) :
    apart s lam (ix4 b h i j) = s (ix5 b h 0 i j) - lam ix0 * s (ix5 b h 1 i j) := by
  pointwise [apart]

/-- The result at an entry. -/
theorem under_at (v : FVec Ideal S4x4352x256 .bf16) (w : FVec Ideal S4x4x4096x4352 .f32) (b : Fin 4) (i : Fin 4096) (l : Fin 256) :
    under v w (ix3 b i l) = ∑ x : Fin 4352, v (ix3 b x l) * w (ix4 b ⟨l.val / 64, by omega⟩ i x) := by
  pointwise [under]

/-- The reference's result at an entry, for finite arguments. -/
theorem value_at (m : (ℓ : Loc nD τ sig) → Buf (Elt Ideal) ℓ) (c : Dev nD)
    (qk : FVec Ideal S4x4352x512 .bf16) (v : FVec Ideal S4x4352x256 .bf16) (lam : FVec Ideal S_ .f32)
    (h0 : m ((c.tc : Thread nD τ).loc main_arg0) = qk) (h1 : m ((c.tc : Thread nD τ).loc main_arg1) = v)
    (h2 : m ((c.tc : Thread nD τ).loc main_arg2) = lam)
    (hq : ∀ i, (qk i : EReal) ≠ ⊤ ∧ (qk i : EReal) ≠ ⊥) (hv : ∀ i, (v i : EReal) ≠ ⊤ ∧ (v i : EReal) ≠ ⊥)
    (hl : (lam ix0 : EReal) ≠ ⊤ ∧ (lam ix0 : EReal) ≠ ⊥) (b : Fin 4) (i : Fin 4096) (l : Fin 256) :
    (res_main_v29 m c : FVec Ideal S4x4096x256 .f32) (ix3 b i l)
      = Cert.Attn.result qk v (lam ix0) b.val i.val l.val := by
  rw [res_eq, h0, h1, h2, under_at]
  simp only [apart_at, overSum_at, expsOf_at, scoresOf_at]
  have hs := sc_coe hq b i (l.val / 64 * 64 + 0 * 32) (by omega)
  have ht := sc_coe hq b i (l.val / 64 * 64 + 1 * 32) (by omega)
  obtain ⟨μ, hμ⟩ := top_coe hs
  obtain ⟨ν, hν⟩ := top_coe ht
  exact plain (n := 4352) (by norm_num) hs ht (fun j => Cert.Attn.eq_rd hv b j l) hμ hν (EReal.coe_toReal hl.1 hl.2).symm

end Cert.ReferenceIdeal.Attn

end
-- ==== Proof.ProjEntry.lean ====
module

public import proofs.«01_k».proof.Proof.Gen.Kernel2Ideal.Value
public import Idealize.ShloMosaic.Lib.Tactic
public import Idealize.ShloMosaic.Lib.StableHlo.RunRead
public import Idealize.ShloMosaic.Lib.Tactic.CleanTypes
public import Idealize.ShloMosaic.Lib.Pipeline.ValueKit

@[expose] public section

set_option maxRecDepth 16384

noncomputable section

namespace Cert.Kernel2Ideal.Proj

open Cert.Kernel2Ideal Cert.Kernel2Ideal.Gen Idealize.ShloMosaic Idealize.ShloMosaic.TcCoe Idealize.SL.Sem

section Arrays

variable {F : FTy → Type} [FloatOps F]

/-- A 32-lane table repeated over 128 lanes. -/
def tiled (x : FVec F S4096x32 .f32) : FVec F S4096x128 .f32 :=
  shapeCast _ (broadcastInDim S1x4096x4x32 ![0, 1, 2, 3] bcast_S1x4096x1x32_S1x4096x4x32_0_1_2_3
    (shapeCast _ x shapeCasts_S4096x32_S1x4096x1x32)) shapeCasts_S1x4096x4x32_S4096x128

/-- The context's rows before the latents'. -/
def joinRows (a : FVec F S256x128 .f32) (b : FVec F S4096x128 .f32) : FVec F S4352x128 .f32 :=
  concatenate S4352x128 0 [⟨S256x128, a⟩, ⟨S4096x128, b⟩] concatenates_S256x128_S4096x128_S4352x128_d0

/-- The cosines: ones on the context's rows, then the table's. -/
def cosines (x : FVec F S4096x32 .f32) : FVec F S4352x128 .f32 :=
  joinRows (broadcastInDim S256x128 ![] bcast_S_S256x128 (constant S_ .f32 0x3F800000#32)) (tiled x)

/-- Sixteen groups of columns side by side. -/
def beside (u0 : FVec F S1024x256 .f32) (u1 : FVec F S1024x256 .f32) (u2 : FVec F S1024x256 .f32) (u3 : FVec F S1024x192 .f32) (u4 : FVec F S1024x64 .f32) (u5 : FVec F S1024x192 .f32) (u6 : FVec F S1024x64 .f32) (u7 : FVec F S1024x384 .f32) (u8 : FVec F S1024x384 .f32) (u9 : FVec F S1024x16 .f32) (u10 : FVec F S1024x16 .f32) (u11 : FVec F S1024x96 .f32) (u12 : FVec F S1024x1152 .f32) (u13 : FVec F S1024x64 .f32) (u14 : FVec F S1024x64 .f32) (u15 : FVec F S1024x64 .f32) : FVec F S1024x3520 .f32 :=
  concatenate S1024x3520 1 [⟨S1024x256, u0⟩, ⟨S1024x256, u1⟩, ⟨S1024x256, u2⟩, ⟨S1024x192, u3⟩, ⟨S1024x64, u4⟩, ⟨S1024x192, u5⟩, ⟨S1024x64, u6⟩, ⟨S1024x384, u7⟩, ⟨S1024x384, u8⟩, ⟨S1024x16, u9⟩, ⟨S1024x16, u10⟩, ⟨S1024x96, u11⟩, ⟨S1024x1152, u12⟩, ⟨S1024x64, u13⟩, ⟨S1024x64, u14⟩, ⟨S1024x64, u15⟩]
    concatenates_S1024x256_S1024x256_S1024x256_S1024x192_S1024x64_S1024x192_S1024x64_S1024x384_S1024x384_S1024x16_S1024x16_S1024x96_S1024x1152_S1024x64_S1024x64_S1024x64_S1024x3520_d1

/-- Two groups of columns side by side. -/
def beside2 (a : FVec F S1024x64 .f32) (b : FVec F S1024x128 .f32) : FVec F S1024x192 .f32 :=
  concatenate S1024x192 1 [⟨S1024x64, a⟩, ⟨S1024x128, b⟩] concatenates_S1024x64_S1024x128_S1024x192_d1

/-- The first groups and the last. -/
def whole (a : FVec F S1024x3520 .f32) (b : FVec F S1024x192 .f32) : FVec F S1024x3712 .f32 :=
  concatenate S1024x3712 1 [⟨S1024x3520, a⟩, ⟨S1024x192, b⟩] concatenates_S1024x3520_S1024x192_S1024x3712_d1

/-- The weights' columns in the order of the call's outputs, with columns of zeros between. -/
def packed (w : FVec F S1024x3488 .f32) : FVec F S1024x3712 .bf16 :=
  truncf .bf16 (whole (beside
      (extractStridedSlice S1024x256 ![0, 0] w slices_S1024x3488_S1024x256_0_0)
      (extractStridedSlice S1024x256 ![0, 256] w slices_S1024x3488_S1024x256_0_256)
      (extractStridedSlice S1024x256 ![0, 512] w slices_S1024x3488_S1024x256_0_512)
      (extractStridedSlice S1024x192 ![0, 768] w slices_S1024x3488_S1024x192_0_768)
      (broadcastInDim S1024x64 ![] bcast_S_S1024x64 (constant S_ .f32 0x00000000#32))
      (extractStridedSlice S1024x192 ![0, 960] w slices_S1024x3488_S1024x192_0_960)
      (broadcastInDim S1024x64 ![] bcast_S_S1024x64 (constant S_ .f32 0x00000000#32))
      (extractStridedSlice S1024x384 ![0, 1152] w slices_S1024x3488_S1024x384_0_1152)
      (extractStridedSlice S1024x384 ![0, 1568] w slices_S1024x3488_S1024x384_0_1568)
      (extractStridedSlice S1024x16 ![0, 1536] w slices_S1024x3488_S1024x16_0_1536)
      (extractStridedSlice S1024x16 ![0, 1552] w slices_S1024x3488_S1024x16_0_1552)
      (broadcastInDim S1024x96 ![] bcast_S_S1024x96 (constant S_ .f32 0x00000000#32))
      (extractStridedSlice S1024x1152 ![0, 1952] w slices_S1024x3488_S1024x1152_0_1952)
      (extractStridedSlice S1024x64 ![0, 3104] w slices_S1024x3488_S1024x64_0_3104)
      (extractStridedSlice S1024x64 ![0, 3168] w slices_S1024x3488_S1024x64_0_3168)
      (extractStridedSlice S1024x64 ![0, 3232] w slices_S1024x3488_S1024x64_0_3232))
    (beside2 (extractStridedSlice S1024x64 ![0, 3296] w slices_S1024x3488_S1024x64_0_3296)
      (extractStridedSlice S1024x128 ![0, 3360] w slices_S1024x3488_S1024x128_0_3360))) bitsLt_bf16_f32

/-- Sixteen, or one were sixteen zero. -/
def sixteen : IVec S_ 32 :=
  select (cmpi .eq (constantI S_ 32 16#32) (constantI S_ 32 0#32)) (constantI S_ 32 1#32) (constantI S_ 32 16#32)

/-- A lane's number within its sixteen, before the sign is mended. -/
def within : IVec S128 32 := Host.remsi (iotaInDim S128 32 0) (broadcastInDim S128 ![] bcast_S_S128 sixteen)

/-- Which lanes lie in the first half of their sixteen. -/
def firstHalf : IVec S128 1 :=
  cmpi .slt (select (andi (cmpi .ne (cmpi .slt within (broadcastInDim S128 ![] bcast_S_S128 (constantI S_ 32 0#32)))
        (broadcastInDim S128 ![] bcast_S_S128 (cmpi .slt sixteen (constantI S_ 32 0#32))))
      (cmpi .ne within (broadcastInDim S128 ![] bcast_S_S128 (constantI S_ 32 0#32))))
    (addi within (broadcastInDim S128 ![] bcast_S_S128 sixteen)) within)
    (broadcastInDim S128 ![] bcast_S_S128 (constantI S_ 32 8#32))

/-- The sines: zeros on the context's rows, then the table's, negated on the first half of every sixteen lanes. -/
def sines (x : FVec F S4096x32 .f32) : FVec F S4352x128 .f32 :=
  joinRows (broadcastInDim S256x128 ![] bcast_S_S256x128 (constant S_ .f32 0x00000000#32))
    (mulf (tiled x) (broadcastInDim S4096x128 ![0, 1] bcast_S1x128_S4096x128_0_1
      (broadcastInDim S1x128 ![1] bcast_S128_S1x128_1
        (select firstHalf (broadcastInDim S128 ![] bcast_S_S128 (constant S_ .f32 0xBF800000#32))
          (broadcastInDim S128 ![] bcast_S_S128 (constant S_ .f32 0x3F800000#32))))))

variable (m : (ℓ : Loc nD τ sig) → Buf (Elt F) ℓ)

/-- The cosines' table when the call starts. -/
theorem V_cosines (c : Dev nD) : V m c main_v13 = cosines (m ((c : Thread nD τ).loc main_arg3)) := by
  rfl

set_option maxHeartbeats 2000000 in
/-- The weights when the call starts. -/
theorem V_packed (c : Dev nD) : V m c main_v40 = packed (m ((c : Thread nD τ).loc main_arg2)) := by
  unfold V
  after_reads_simp
  show truncf .bf16 (whole _ _) _ = _
  after_reads_simp
  show truncf .bf16 (whole (beside _ _ _ _ _ _ _ _ _ _ _ _ _ _ _ _) (beside2 _ _)) _ = _
  after_reads_simp
  rfl

set_option maxHeartbeats 2000000 in
/-- The sines' table when the call starts. -/
theorem V_sines (c : Dev nD) : V m c main_v18 = sines (m ((c : Thread nD τ).loc main_arg4)) := by
  unfold V
  after_reads_simp
  show joinRows _ _ = _
  after_reads_simp
  rfl

end Arrays

/-- Which lanes lie in the first half of their sixteen. -/
theorem firstHalf_at : ∀ l : Fin 128, firstHalf (ix1 l) = if l.val % 16 < 8 then 1#1 else 0#1 := by
  decide +kernel

end Cert.Kernel2Ideal.Proj
-- ==== Proof.ProjSpec.lean ====
module

public import Idealize.ShloMosaic.Lib.Tactic
public import Idealize.ShloMosaic.Lib.Pipeline.ValueKit

@[expose] public section

noncomputable section

/-! The input projection as a function of its arguments' entries: the modulated rows, their products with the weights'
columns, and the rotary turn of a row's queries and keys. -/

namespace Cert.Proj

open Idealize.ShloMosaic

/-- A matrix's entry at natural coordinates (zero outside the matrix). -/
def at2 (A B : ℕ) (x : (⟨2, ![A, B]⟩ : Shape).Idx → EReal) (a b : ℕ) : EReal :=
  if h : a < A ∧ b < B then x (ix2 ⟨a, h.1⟩ ⟨b, h.2⟩) else 0

/-- The entry of a matrix at coordinates within it. -/
theorem eq_at2 {A B : ℕ} (x : (⟨2, ![A, B]⟩ : Shape).Idx → EReal) {a b : ℕ} (ha : a < A) (hb : b < B) :
    x (ix2 ⟨a, ha⟩ ⟨b, hb⟩) = at2 A B x a b := by
  unfold at2
  rw [dif_pos ⟨ha, hb⟩]

/-- An array of three axes' entry at natural coordinates (zero outside the array). -/
def at3 (A B C : ℕ) (x : (⟨3, ![A, B, C]⟩ : Shape).Idx → EReal) (a b c : ℕ) : EReal :=
  if h : a < A ∧ b < B ∧ c < C then x (ix3 ⟨a, h.1⟩ ⟨b, h.2.1⟩ ⟨c, h.2.2⟩) else 0

/-- The entry of an array of three axes at coordinates within it. -/
theorem eq_at3 {A B C : ℕ} (x : (⟨3, ![A, B, C]⟩ : Shape).Idx → EReal) {a b c : ℕ} (ha : a < A) (hb : b < B) (hc : c < C) :
    x (ix3 ⟨a, ha⟩ ⟨b, hb⟩ ⟨c, hc⟩) = at3 A B C x a b c := by
  unfold at3
  rw [dif_pos ⟨ha, hb, hc⟩]

/-- An array of four axes' entry at natural coordinates (zero outside the array). -/
def at4 (A B C D : ℕ) (x : (⟨4, ![A, B, C, D]⟩ : Shape).Idx → EReal) (a b c d : ℕ) : EReal :=
  if h : a < A ∧ b < B ∧ c < C ∧ d < D then x (ix4 ⟨a, h.1⟩ ⟨b, h.2.1⟩ ⟨c, h.2.2.1⟩ ⟨d, h.2.2.2⟩) else 0

/-- The entry of an array of four axes at coordinates within it. -/
theorem eq_at4 {A B C D : ℕ} (x : (⟨4, ![A, B, C, D]⟩ : Shape).Idx → EReal) {a b c d : ℕ}
    (ha : a < A) (hb : b < B) (hc : c < C) (hd : d < D) :
    x (ix4 ⟨a, ha⟩ ⟨b, hb⟩ ⟨c, hc⟩ ⟨d, hd⟩) = at4 A B C D x a b c d := by
  unfold at4
  rw [dif_pos ⟨ha, hb, hc, hd⟩]

/-- Which modulation a row takes: the context's on its first 256 rows, the latents' on the others. -/
def group (r : ℕ) : ℕ := if r < 256 then 0 else 1

variable (h : (⟨3, ![4, 4352, 1024]⟩ : Shape).Idx → EReal) (mod : (⟨4, ![4, 2, 2, 1024]⟩ : Shape).Idx → EReal)
  (w : (⟨2, ![1024, 3488]⟩ : Shape).Idx → EReal) (cos sin : (⟨2, ![4096, 32]⟩ : Shape).Idx → EReal)

/-- A modulated entry: scaled by one more than its group's scale, then shifted. -/
def modulated (b r d : ℕ) : EReal :=
  at3 4 4352 1024 h b r d * (Ideal.ofBits .f32 0x3F800000#32 + at4 4 2 2 1024 mod b (group r) 0 d)
    + at4 4 2 2 1024 mod b (group r) 1 d

/-- A modulated row's product with column `n` of the weights. -/
def proj (b r n : ℕ) : EReal := ∑ d : Fin 1024, modulated h mod b r d.val * at2 1024 3488 w d.val n

/-- The partner a lane is turned with: the lane eight on, negated, in the first half of sixteen lanes, and the lane
eight back in the second half. -/
def partner (b r n : ℕ) : EReal :=
  if n % 16 < 8 then -proj h mod w b r (n + 8) else proj h mod w b r (n - 8)

/-- A lane of the queries or keys turned by its row's position; the context's rows have no position. -/
def turned (b r n : ℕ) : EReal :=
  if r < 256 then proj h mod w b r n
  else proj h mod w b r n * at2 4096 32 cos (r - 256) (n % 32) + partner h mod w b r n * at2 4096 32 sin (r - 256) (n % 32)

/-- Queries and keys side by side, the queries scaled. -/
def qk (b r n : ℕ) : EReal :=
  if n < 256 then turned h mod w cos sin b r n * Ideal.ofBits .f32 0x3E3504F3#32 else turned h mod w cos sin b r n

/-- The gated linear attention's columns at lane `l`, with lanes of zeros between. -/
def gla (b r l : ℕ) : EReal :=
  if l < 192 then proj h mod w b r (768 + l)
  else if l < 256 then 0
  else if l < 448 then proj h mod w b r (960 + (l - 256))
  else if l < 512 then 0
  else if l < 896 then proj h mod w b r (1152 + (l - 512))
  else if l < 1280 then proj h mod w b r (1568 + (l - 896))
  else if l < 1312 then proj h mod w b r (1536 + (l - 1280))
  else 0

/-- The weights' column `n` of the packed columns, at row `d`. -/
def packedAt (d n : ℕ) : EReal :=
  if n < 768 then at2 1024 3488 w d n
  else if n < 960 then at2 1024 3488 w d n
  else if n < 1024 then 0
  else if n < 1216 then at2 1024 3488 w d (960 + (n - 1024))
  else if n < 1280 then 0
  else if n < 1664 then at2 1024 3488 w d (1152 + (n - 1280))
  else if n < 2048 then at2 1024 3488 w d (1568 + (n - 1664))
  else if n < 2080 then at2 1024 3488 w d (1536 + (n - 2048))
  else if n < 2176 then 0
  else at2 1024 3488 w d (1952 + (n - 2176))

/-- A modulated row's product with column `n` of the packed weights. -/
def projPacked (b r n : ℕ) : EReal := ∑ d : Fin 1024, modulated h mod b r d.val * packedAt w d.val n

/-- The products with the packed columns from 768 are the gated linear attention's columns. -/
theorem projPacked_gla (b r l : ℕ) (hl : l < 1408) : projPacked h mod w b r (768 + l) = gla h mod w b r l := by
  unfold projPacked packedAt gla proj
  simp only [show ¬(768 + l < 768) by omega, if_false]
  by_cases h1 : l < 192
  · simp only [h1, show 768 + l < 960 by omega, if_true]
  by_cases h2 : l < 256
  · simp only [h1, h2, show ¬768 + l < 960 by omega, show 768 + l < 1024 by omega, if_true, if_false, mul_zero, Finset.sum_const_zero]
  by_cases h3 : l < 448
  · simp only [h1, h2, h3, show ¬768 + l < 960 by omega, show ¬768 + l < 1024 by omega, show 768 + l < 1216 by omega,
      show 768 + l - 1024 = l - 256 by omega, if_true, if_false]
  by_cases h4 : l < 512
  · simp only [h1, h2, h3, h4, show ¬768 + l < 960 by omega, show ¬768 + l < 1024 by omega, show ¬768 + l < 1216 by omega,
      show 768 + l < 1280 by omega, if_true, if_false, mul_zero, Finset.sum_const_zero]
  by_cases h5 : l < 896
  · simp only [h1, h2, h3, h4, h5, show ¬768 + l < 960 by omega, show ¬768 + l < 1024 by omega, show ¬768 + l < 1216 by omega,
      show ¬768 + l < 1280 by omega, show 768 + l < 1664 by omega, show 768 + l - 1280 = l - 512 by omega, if_true, if_false]
  by_cases h6 : l < 1280
  · simp only [h1, h2, h3, h4, h5, h6, show ¬768 + l < 960 by omega, show ¬768 + l < 1024 by omega, show ¬768 + l < 1216 by omega,
      show ¬768 + l < 1280 by omega, show ¬768 + l < 1664 by omega, show 768 + l < 2048 by omega,
      show 768 + l - 1664 = l - 896 by omega, if_true, if_false]
  by_cases h7 : l < 1312
  · simp only [h1, h2, h3, h4, h5, h6, h7, show ¬768 + l < 960 by omega, show ¬768 + l < 1024 by omega, show ¬768 + l < 1216 by omega,
      show ¬768 + l < 1280 by omega, show ¬768 + l < 1664 by omega, show ¬768 + l < 2048 by omega, show 768 + l < 2080 by omega,
      show 768 + l - 2048 = l - 1280 by omega, if_true, if_false]
  · simp only [h1, h2, h3, h4, h5, h6, h7, show ¬768 + l < 960 by omega, show ¬768 + l < 1024 by omega, show ¬768 + l < 1216 by omega,
      show ¬768 + l < 1280 by omega, show ¬768 + l < 1664 by omega, show ¬768 + l < 2048 by omega, show ¬768 + l < 2080 by omega,
      show 768 + l < 2176 by omega, if_true, if_false, mul_zero, Finset.sum_const_zero]

/-- The products with the packed columns before 768 are those with the weights' own. -/
theorem projPacked_low (b r n : ℕ) (hn : n < 768) : projPacked h mod w b r n = proj h mod w b r n := by
  unfold projPacked packedAt proj
  simp only [hn, if_true]

/-- The products with the packed columns from 2176 are those with the weights' columns from 1952. -/
theorem projPacked_high (b r l : ℕ) : projPacked h mod w b r (2176 + l) = proj h mod w b r (1952 + l) := by
  unfold projPacked packedAt proj
  simp only [show ¬2176 + l < 768 by omega, show ¬2176 + l < 960 by omega, show ¬2176 + l < 1024 by omega,
    show ¬2176 + l < 1216 by omega, show ¬2176 + l < 1280 by omega, show ¬2176 + l < 1664 by omega,
    show ¬2176 + l < 2048 by omega, show ¬2176 + l < 2080 by omega, show ¬2176 + l < 2176 by omega, if_false,
    Nat.add_sub_cancel_left]

end Cert.Proj

end
-- ==== Proof.ProjTables.lean ====
module

public import proofs.«01_k».proof.Proof.ProjEntry
public import proofs.«01_k».proof.Proof.ProjSpec

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Cert.Proj

/-- A repeated table at a lane. -/
theorem tiled_at (x : FVec Ideal S4096x32 .f32) (r : Fin 4096) (l : Fin 128) :
    tiled x (ix2 r l) = at2 4096 32 x r.val (l.val % 32) := by
  rw [← eq_at2 x r.isLt (Nat.mod_lt _ (by decide))]
  pointwise [tiled]

/-- The cosines at an entry. -/
theorem cosines_at (x : FVec Ideal S4096x32 .f32) (r : Fin 4352) (l : Fin 128) :
    cosines x (ix2 r l) = if r.val < 256 then Ideal.ofBits .f32 0x3F800000#32 else at2 4096 32 x (r.val - 256) (l.val % 32) := by
  pointwise [cosines, joinRows, tiled_at]
  split_ifs <;> rfl

/-- The sines at an entry. -/
theorem sines_at (x : FVec Ideal S4096x32 .f32) (r : Fin 4352) (l : Fin 128) :
    sines x (ix2 r l) = if r.val < 256 then Ideal.ofBits .f32 0x00000000#32
      else at2 4096 32 x (r.val - 256) (l.val % 32)
        * (if l.val % 16 < 8 then Ideal.ofBits .f32 0xBF800000#32 else Ideal.ofBits .f32 0x3F800000#32) := by
  pointwise [sines, joinRows, tiled_at, firstHalf_at]
  split_ifs <;> rfl

/-- Groups of columns side by side, read in the group that starts at column `pre`. -/
theorem piece_at {A N W : ℕ} (xs : List ((s : Shape) × (s.Idx → EReal)))
    (h : Shape.Concatenates (xs.map (·.1)) ⟨2, ![A, N]⟩ 1) (d : Fin A) (n : Fin N) (k : ℕ) (hk : k < xs.length)
    (x : (⟨2, ![A, W]⟩ : Shape).Idx → EReal) (hxk : xs[k] = ⟨⟨2, ![A, W]⟩, x⟩) (pre : ℕ)
    (hpre : (((xs.take k).map (·.1)).map fun s => if h : s.rank = 2 then s.size ((1 : Fin 2).cast h.symm) else 0).sum = pre)
    (j : ℕ) (hj : j < W) (hn : pre + j = n.val) :
    concatenate ⟨2, ![A, N]⟩ 1 xs h (ix2 d n) = x (ix2 d ⟨j, hj⟩) := by
  refine concatenate_apply_piece 1 xs h (ix2 d n) k hk _ x hxk rfl pre hpre (ix2 d ⟨j, hj⟩) ?_ hn
  intro b hb
  match b with
  | ⟨0, _⟩ => rfl
  | ⟨1, _⟩ => exact absurd rfl hb

/-- A slice of the weights' columns from column `o`. -/
theorem slice_at {W : ℕ} (w : FVec Ideal S1024x3488 .f32) {o : ℕ} (h : S1024x3488.Slices ![0, o] ⟨2, ![1024, W]⟩)
    (d : Fin 1024) (j : Fin W) (hb : o + j.val < 3488) :
    extractStridedSlice ⟨2, ![1024, W]⟩ ![0, o] w h (ix2 d j) = at2 1024 3488 w d.val (o + j.val) := by
  rw [← eq_at2 w d.isLt hb]
  pointwise

/-- The group of columns from column 0. -/
theorem beside_0 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 256) (hn : 0 + j.val = n.val) :
    beside u0 u1 u2 u3 u4 u5 u6 u7 u8 u9 u10 u11 u12 u13 u14 u15 (ix2 d n) = u0 (ix2 d j) := by
  unfold beside
  exact piece_at (A := 1024) (N := 3520) (W := 256) _ _ d n 0 (by show 0 < 16; decide) u0 rfl 0 rfl j.val j.isLt hn

/-- The group of columns from column 256. -/
theorem beside_1 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 256) (hn : 256 + j.val = n.val) :
    beside u0 u1 u2 u3 u4 u5 u6 u7 u8 u9 u10 u11 u12 u13 u14 u15 (ix2 d n) = u1 (ix2 d j) := by
  unfold beside
  exact piece_at (A := 1024) (N := 3520) (W := 256) _ _ d n 1 (by show 1 < 16; decide) u1 rfl 256 rfl j.val j.isLt hn

/-- The group of columns from column 512. -/
theorem beside_2 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 256) (hn : 512 + j.val = n.val) :
    beside u0 u1 u2 u3 u4 u5 u6 u7 u8 u9 u10 u11 u12 u13 u14 u15 (ix2 d n) = u2 (ix2 d j) := by
  unfold beside
  exact piece_at (A := 1024) (N := 3520) (W := 256) _ _ d n 2 (by show 2 < 16; decide) u2 rfl 512 rfl j.val j.isLt hn

/-- The group of columns from column 768. -/
theorem beside_3 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 192) (hn : 768 + j.val = n.val) :
    beside u0 u1 u2 u3 u4 u5 u6 u7 u8 u9 u10 u11 u12 u13 u14 u15 (ix2 d n) = u3 (ix2 d j) := by
  unfold beside
  exact piece_at (A := 1024) (N := 3520) (W := 192) _ _ d n 3 (by show 3 < 16; decide) u3 rfl 768 rfl j.val j.isLt hn

/-- The group of columns from column 960. -/
theorem beside_4 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 64) (hn : 960 + j.val = n.val) :
    beside u0 u1 u2 u3 u4 u5 u6 u7 u8 u9 u10 u11 u12 u13 u14 u15 (ix2 d n) = u4 (ix2 d j) := by
  unfold beside
  exact piece_at (A := 1024) (N := 3520) (W := 64) _ _ d n 4 (by show 4 < 16; decide) u4 rfl 960 rfl j.val j.isLt hn

/-- The group of columns from column 1024. -/
theorem beside_5 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 192) (hn : 1024 + j.val = n.val) :
    beside u0 u1 u2 u3 u4 u5 u6 u7 u8 u9 u10 u11 u12 u13 u14 u15 (ix2 d n) = u5 (ix2 d j) := by
  unfold beside
  exact piece_at (A := 1024) (N := 3520) (W := 192) _ _ d n 5 (by show 5 < 16; decide) u5 rfl 1024 rfl j.val j.isLt hn

/-- The group of columns from column 1216. -/
theorem beside_6 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 64) (hn : 1216 + j.val = n.val) :
    beside u0 u1 u2 u3 u4 u5 u6 u7 u8 u9 u10 u11 u12 u13 u14 u15 (ix2 d n) = u6 (ix2 d j) := by
  unfold beside
  exact piece_at (A := 1024) (N := 3520) (W := 64) _ _ d n 6 (by show 6 < 16; decide) u6 rfl 1216 rfl j.val j.isLt hn

/-- The group of columns from column 1280. -/
theorem beside_7 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 384) (hn : 1280 + j.val = n.val) :
    beside u0 u1 u2 u3 u4 u5 u6 u7 u8 u9 u10 u11 u12 u13 u14 u15 (ix2 d n) = u7 (ix2 d j) := by
  unfold beside
  exact piece_at (A := 1024) (N := 3520) (W := 384) _ _ d n 7 (by show 7 < 16; decide) u7 rfl 1280 rfl j.val j.isLt hn

/-- The group of columns from column 1664. -/
theorem beside_8 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 384) (hn : 1664 + j.val = n.val) :
    beside u0 u1 u2 u3 u4 u5 u6 u7 u8 u9 u10 u11 u12 u13 u14 u15 (ix2 d n) = u8 (ix2 d j) := by
  unfold beside
  exact piece_at (A := 1024) (N := 3520) (W := 384) _ _ d n 8 (by show 8 < 16; decide) u8 rfl 1664 rfl j.val j.isLt hn

/-- The group of columns from column 2048. -/
theorem beside_9 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 16) (hn : 2048 + j.val = n.val) :
    beside u0 u1 u2 u3 u4 u5 u6 u7 u8 u9 u10 u11 u12 u13 u14 u15 (ix2 d n) = u9 (ix2 d j) := by
  unfold beside
  exact piece_at (A := 1024) (N := 3520) (W := 16) _ _ d n 9 (by show 9 < 16; decide) u9 rfl 2048 rfl j.val j.isLt hn

/-- The group of columns from column 2064. -/
theorem beside_10 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 16) (hn : 2064 + j.val = n.val) :
    beside u0 u1 u2 u3 u4 u5 u6 u7 u8 u9 u10 u11 u12 u13 u14 u15 (ix2 d n) = u10 (ix2 d j) := by
  unfold beside
  exact piece_at (A := 1024) (N := 3520) (W := 16) _ _ d n 10 (by show 10 < 16; decide) u10 rfl 2064 rfl j.val j.isLt hn

/-- The group of columns from column 2080. -/
theorem beside_11 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 96) (hn : 2080 + j.val = n.val) :
    beside u0 u1 u2 u3 u4 u5 u6 u7 u8 u9 u10 u11 u12 u13 u14 u15 (ix2 d n) = u11 (ix2 d j) := by
  unfold beside
  exact piece_at (A := 1024) (N := 3520) (W := 96) _ _ d n 11 (by show 11 < 16; decide) u11 rfl 2080 rfl j.val j.isLt hn

/-- The group of columns from column 2176. -/
theorem beside_12 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 1152) (hn : 2176 + j.val = n.val) :
    beside u0 u1 u2 u3 u4 u5 u6 u7 u8 u9 u10 u11 u12 u13 u14 u15 (ix2 d n) = u12 (ix2 d j) := by
  unfold beside
  exact piece_at (A := 1024) (N := 3520) (W := 1152) _ _ d n 12 (by show 12 < 16; decide) u12 rfl 2176 rfl j.val j.isLt hn

/-- The group of columns from column 3328. -/
theorem beside_13 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 64) (hn : 3328 + j.val = n.val) :
    beside u0 u1 u2 u3 u4 u5 u6 u7 u8 u9 u10 u11 u12 u13 u14 u15 (ix2 d n) = u13 (ix2 d j) := by
  unfold beside
  exact piece_at (A := 1024) (N := 3520) (W := 64) _ _ d n 13 (by show 13 < 16; decide) u13 rfl 3328 (by show 256 + (256 + (256 + (192 + (64 + (192 + (64 + (384 + (384 + (16 + (16 + (96 + (1152 + 0)))))))))))) = 3328; norm_num) j.val j.isLt hn

/-- The group of columns from column 3392. -/
theorem beside_14 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 64) (hn : 3392 + j.val = n.val) :
    beside u0 u1 u2 u3 u4 u5 u6 u7 u8 u9 u10 u11 u12 u13 u14 u15 (ix2 d n) = u14 (ix2 d j) := by
  unfold beside
  exact piece_at (A := 1024) (N := 3520) (W := 64) _ _ d n 14 (by show 14 < 16; decide) u14 rfl 3392 (by show 256 + (256 + (256 + (192 + (64 + (192 + (64 + (384 + (384 + (16 + (16 + (96 + (1152 + (64 + 0))))))))))))) = 3392; norm_num) j.val j.isLt hn

/-- The group of columns from column 3456. -/
theorem beside_15 (u0 : FVec Ideal S1024x256 .f32) (u1 : FVec Ideal S1024x256 .f32) (u2 : FVec Ideal S1024x256 .f32) (u3 : FVec Ideal S1024x192 .f32) (u4 : FVec Ideal S1024x64 .f32) (u5 : FVec Ideal S1024x192 .f32) (u6 : FVec Ideal S1024x64 .f32) (u7 : FVec Ideal S1024x384 .f32) (u8 : FVec Ideal S1024x384 .f32) (u9 : FVec Ideal S1024x16 .f32) (u10 : FVec Ideal S1024x16 .f32) (u11 : FVec Ideal S1024x96 .f32) (u12 : FVec Ideal S1024x1152 .f32) (u13 : FVec Ideal S1024x64 .f32) (u14 : FVec Ideal S1024x64 .f32) (u15 : FVec Ideal S1024x64 .f32)
    (d : Fin 1024) (n : Fin 3520) (j : Fin 64) (hn : 3456 + j.val = n.val) :
    beside u0 u1 u2 u3 u4 u5 u6 u7 u8 u9 u10 u11 u12 u13 u14 u15 (ix2 d n) = u15 (ix2 d j) := by
  unfold beside
  exact piece_at (A := 1024) (N := 3520) (W := 64) _ _ d n 15 (by show 15 < 16; decide) u15 rfl 3456 (by show 256 + (256 + (256 + (192 + (64 + (192 + (64 + (384 + (384 + (16 + (16 + (96 + (1152 + (64 + (64 + 0)))))))))))))) = 3456; norm_num) j.val j.isLt hn

set_option maxHeartbeats 2000000 in
/-- The first packed columns at an entry. -/
theorem first_at (w : FVec Ideal S1024x3488 .f32) (d : Fin 1024) (n : Fin 3520) :
    beside
      (extractStridedSlice S1024x256 ![0, 0] w slices_S1024x3488_S1024x256_0_0)
      (extractStridedSlice S1024x256 ![0, 256] w slices_S1024x3488_S1024x256_0_256)
      (extractStridedSlice S1024x256 ![0, 512] w slices_S1024x3488_S1024x256_0_512)
      (extractStridedSlice S1024x192 ![0, 768] w slices_S1024x3488_S1024x192_0_768)
      (broadcastInDim S1024x64 ![] bcast_S_S1024x64 (constant S_ .f32 0x00000000#32))
      (extractStridedSlice S1024x192 ![0, 960] w slices_S1024x3488_S1024x192_0_960)
      (broadcastInDim S1024x64 ![] bcast_S_S1024x64 (constant S_ .f32 0x00000000#32))
      (extractStridedSlice S1024x384 ![0, 1152] w slices_S1024x3488_S1024x384_0_1152)
      (extractStridedSlice S1024x384 ![0, 1568] w slices_S1024x3488_S1024x384_0_1568)
      (extractStridedSlice S1024x16 ![0, 1536] w slices_S1024x3488_S1024x16_0_1536)
      (extractStridedSlice S1024x16 ![0, 1552] w slices_S1024x3488_S1024x16_0_1552)
      (broadcastInDim S1024x96 ![] bcast_S_S1024x96 (constant S_ .f32 0x00000000#32))
      (extractStridedSlice S1024x1152 ![0, 1952] w slices_S1024x3488_S1024x1152_0_1952)
      (extractStridedSlice S1024x64 ![0, 3104] w slices_S1024x3488_S1024x64_0_3104)
      (extractStridedSlice S1024x64 ![0, 3168] w slices_S1024x3488_S1024x64_0_3168)
      (extractStridedSlice S1024x64 ![0, 3232] w slices_S1024x3488_S1024x64_0_3232)
      (ix2 d n) = packedAt w d.val n.val := by
  by_cases h0 : n.val < 256
  · refine (beside_0 _ _ _ _ _ _ _ _ _ _ _ _ _ _ _ _ d n ⟨n.val - 0, by omega⟩ (by show 0 + (n.val - 0) = n.val; omega)).trans ?_
    refine (slice_at w _ d ⟨n.val - 0, by omega⟩ (by show 0 + (n.val - 0) < 3488; omega)).trans ?_
    simp only [packedAt, show n.val < 768 by omega, if_true, if_false]
    all_goals exact congrArg (at2 1024 3488 w d.val) (by omega)
  by_cases h1 : n.val < 512
  · refine (beside_1 _ _ _ _ _ _ _ _ _ _ _ _ _ _ _ _ d n ⟨n.val - 256, by omega⟩ (by show 256 + (n.val - 256) = n.val; omega)).trans ?_
    refine (slice_at w _ d ⟨n.val - 256, by omega⟩ (by show 256 + (n.val - 256) < 3488; omega)).trans ?_
    simp only [packedAt, show n.val < 768 by omega, if_true, if_false]
    all_goals exact congrArg (at2 1024 3488 w d.val) (by omega)
  by_cases h2 : n.val < 768
  · refine (beside_2 _ _ _ _ _ _ _ _ _ _ _ _ _ _ _ _ d n ⟨n.val - 512, by omega⟩ (by show 512 + (n.val - 512) = n.val; omega)).trans ?_
    refine (slice_at w _ d ⟨n.val - 512, by omega⟩ (by show 512 + (n.val - 512) < 3488; omega)).trans ?_
    simp only [packedAt, show n.val < 768 by omega, if_true, if_false]
    all_goals exact congrArg (at2 1024 3488 w d.val) (by omega)
  by_cases h3 : n.val < 960
  · refine (beside_3 _ _ _ _ _ _ _ _ _ _ _ _ _ _ _ _ d n ⟨n.val - 768, by omega⟩ (by show 768 + (n.val - 768) = n.val; omega)).trans ?_
    refine (slice_at w _ d ⟨n.val - 768, by omega⟩ (by show 768 + (n.val - 768) < 3488; omega)).trans ?_
    simp only [packedAt, show ¬n.val < 768 by omega, show n.val < 960 by omega, if_true, if_false]
    all_goals exact congrArg (at2 1024 3488 w d.val) (by omega)
  by_cases h4 : n.val < 1024
  · refine (beside_4 _ _ _ _ _ _ _ _ _ _ _ _ _ _ _ _ d n ⟨n.val - 960, by omega⟩ (by show 960 + (n.val - 960) = n.val; omega)).trans ?_
    simp only [packedAt, show ¬n.val < 768 by omega, show ¬n.val < 960 by omega, show n.val < 1024 by omega, if_true, if_false]
    pointwise
  by_cases h5 : n.val < 1216
  · refine (beside_5 _ _ _ _ _ _ _ _ _ _ _ _ _ _ _ _ d n ⟨n.val - 1024, by omega⟩ (by show 1024 + (n.val - 1024) = n.val; omega)).trans ?_
    refine (slice_at w _ d ⟨n.val - 1024, by omega⟩ (by show 960 + (n.val - 1024) < 3488; omega)).trans ?_
    simp only [packedAt, show ¬n.val < 768 by omega, show ¬n.val < 960 by omega, show ¬n.val < 1024 by omega, show n.val < 1216 by omega, if_true, if_false]
    all_goals exact congrArg (at2 1024 3488 w d.val) (by omega)
  by_cases h6 : n.val < 1280
  · refine (beside_6 _ _ _ _ _ _ _ _ _ _ _ _ _ _ _ _ d n ⟨n.val - 1216, by omega⟩ (by show 1216 + (n.val - 1216) = n.val; omega)).trans ?_
    simp only [packedAt, show ¬n.val < 768 by omega, show ¬n.val < 960 by omega, show ¬n.val < 1024 by omega, show ¬n.val < 1216 by omega, show n.val < 1280 by omega, if_true, if_false]
    pointwise
  by_cases h7 : n.val < 1664
  · refine (beside_7 _ _ _ _ _ _ _ _ _ _ _ _ _ _ _ _ d n ⟨n.val - 1280, by omega⟩ (by show 1280 + (n.val - 1280) = n.val; omega)).trans ?_
    refine (slice_at w _ d ⟨n.val - 1280, by omega⟩ (by show 1152 + (n.val - 1280) < 3488; omega)).trans ?_
    simp only [packedAt, show ¬n.val < 768 by omega, show ¬n.val < 960 by omega, show ¬n.val < 1024 by omega, show ¬n.val < 1216 by omega, show ¬n.val < 1280 by omega, show n.val < 1664 by omega, if_true, if_false]
    all_goals exact congrArg (at2 1024 3488 w d.val) (by omega)
  by_cases h8 : n.val < 2048
  · refine (beside_8 _ _ _ _ _ _ _ _ _ _ _ _ _ _ _ _ d n ⟨n.val - 1664, by omega⟩ (by show 1664 + (n.val - 1664) = n.val; omega)).trans ?_
    refine (slice_at w _ d ⟨n.val - 1664, by omega⟩ (by show 1568 + (n.val - 1664) < 3488; omega)).trans ?_
    simp only [packedAt, show ¬n.val < 768 by omega, show ¬n.val < 960 by omega, show ¬n.val < 1024 by omega, show ¬n.val < 1216 by omega, show ¬n.val < 1280 by omega, show ¬n.val < 1664 by omega, show n.val < 2048 by omega, if_true, if_false]
    all_goals exact congrArg (at2 1024 3488 w d.val) (by omega)
  by_cases h9 : n.val < 2064
  · refine (beside_9 _ _ _ _ _ _ _ _ _ _ _ _ _ _ _ _ d n ⟨n.val - 2048, by omega⟩ (by show 2048 + (n.val - 2048) = n.val; omega)).trans ?_
    refine (slice_at w _ d ⟨n.val - 2048, by omega⟩ (by show 1536 + (n.val - 2048) < 3488; omega)).trans ?_
    simp only [packedAt, show ¬n.val < 768 by omega, show ¬n.val < 960 by omega, show ¬n.val < 1024 by omega, show ¬n.val < 1216 by omega, show ¬n.val < 1280 by omega, show ¬n.val < 1664 by omega, show ¬n.val < 2048 by omega, show n.val < 2080 by omega, if_true, if_false]
    all_goals exact congrArg (at2 1024 3488 w d.val) (by omega)
  by_cases h10 : n.val < 2080
  · refine (beside_10 _ _ _ _ _ _ _ _ _ _ _ _ _ _ _ _ d n ⟨n.val - 2064, by omega⟩ (by show 2064 + (n.val - 2064) = n.val; omega)).trans ?_
    refine (slice_at w _ d ⟨n.val - 2064, by omega⟩ (by show 1552 + (n.val - 2064) < 3488; omega)).trans ?_
    simp only [packedAt, show ¬n.val < 768 by omega, show ¬n.val < 960 by omega, show ¬n.val < 1024 by omega, show ¬n.val < 1216 by omega, show ¬n.val < 1280 by omega, show ¬n.val < 1664 by omega, show ¬n.val < 2048 by omega, show n.val < 2080 by omega, if_true, if_false]
    all_goals exact congrArg (at2 1024 3488 w d.val) (by omega)
  by_cases h11 : n.val < 2176
  · refine (beside_11 _ _ _ _ _ _ _ _ _ _ _ _ _ _ _ _ d n ⟨n.val - 2080, by omega⟩ (by show 2080 + (n.val - 2080) = n.val; omega)).trans ?_
    simp only [packedAt, show ¬n.val < 768 by omega, show ¬n.val < 960 by omega, show ¬n.val < 1024 by omega, show ¬n.val < 1216 by omega, show ¬n.val < 1280 by omega, show ¬n.val < 1664 by omega, show ¬n.val < 2048 by omega, show ¬n.val < 2080 by omega, show n.val < 2176 by omega, if_true, if_false]
    pointwise
  by_cases h12 : n.val < 3328
  · refine (beside_12 _ _ _ _ _ _ _ _ _ _ _ _ _ _ _ _ d n ⟨n.val - 2176, by omega⟩ (by show 2176 + (n.val - 2176) = n.val; omega)).trans ?_
    refine (slice_at w _ d ⟨n.val - 2176, by omega⟩ (by show 1952 + (n.val - 2176) < 3488; omega)).trans ?_
    simp only [packedAt, show ¬n.val < 768 by omega, show ¬n.val < 960 by omega, show ¬n.val < 1024 by omega, show ¬n.val < 1216 by omega, show ¬n.val < 1280 by omega, show ¬n.val < 1664 by omega, show ¬n.val < 2048 by omega, show ¬n.val < 2080 by omega, show ¬n.val < 2176 by omega, if_true, if_false]
    all_goals exact congrArg (at2 1024 3488 w d.val) (by omega)
  by_cases h13 : n.val < 3392
  · refine (beside_13 _ _ _ _ _ _ _ _ _ _ _ _ _ _ _ _ d n ⟨n.val - 3328, by omega⟩ (by show 3328 + (n.val - 3328) = n.val; omega)).trans ?_
    refine (slice_at w _ d ⟨n.val - 3328, by omega⟩ (by show 3104 + (n.val - 3328) < 3488; omega)).trans ?_
    simp only [packedAt, show ¬n.val < 768 by omega, show ¬n.val < 960 by omega, show ¬n.val < 1024 by omega, show ¬n.val < 1216 by omega, show ¬n.val < 1280 by omega, show ¬n.val < 1664 by omega, show ¬n.val < 2048 by omega, show ¬n.val < 2080 by omega, show ¬n.val < 2176 by omega, if_true, if_false]
    all_goals exact congrArg (at2 1024 3488 w d.val) (by omega)
  by_cases h14 : n.val < 3456
  · refine (beside_14 _ _ _ _ _ _ _ _ _ _ _ _ _ _ _ _ d n ⟨n.val - 3392, by omega⟩ (by show 3392 + (n.val - 3392) = n.val; omega)).trans ?_
    refine (slice_at w _ d ⟨n.val - 3392, by omega⟩ (by show 3168 + (n.val - 3392) < 3488; omega)).trans ?_
    simp only [packedAt, show ¬n.val < 768 by omega, show ¬n.val < 960 by omega, show ¬n.val < 1024 by omega, show ¬n.val < 1216 by omega, show ¬n.val < 1280 by omega, show ¬n.val < 1664 by omega, show ¬n.val < 2048 by omega, show ¬n.val < 2080 by omega, show ¬n.val < 2176 by omega, if_true, if_false]
    all_goals exact congrArg (at2 1024 3488 w d.val) (by omega)
  have h15 : n.val < 3520 := n.isLt
  refine (beside_15 _ _ _ _ _ _ _ _ _ _ _ _ _ _ _ _ d n ⟨n.val - 3456, by omega⟩ (by show 3456 + (n.val - 3456) = n.val; omega)).trans ?_
  refine (slice_at w _ d ⟨n.val - 3456, by omega⟩ (by show 3232 + (n.val - 3456) < 3488; omega)).trans ?_
  simp only [packedAt, show ¬n.val < 768 by omega, show ¬n.val < 960 by omega, show ¬n.val < 1024 by omega, show ¬n.val < 1216 by omega, show ¬n.val < 1280 by omega, show ¬n.val < 1664 by omega, show ¬n.val < 2048 by omega, show ¬n.val < 2080 by omega, show ¬n.val < 2176 by omega, if_true, if_false]
  all_goals exact congrArg (at2 1024 3488 w d.val) (by omega)

/-- The first of two groups of columns. -/
theorem whole_left (a : FVec Ideal S1024x3520 .f32) (b : FVec Ideal S1024x192 .f32) (d : Fin 1024) (n : Fin 3712) (j : Fin 3520)
    (hn : 0 + j.val = n.val) : whole a b (ix2 d n) = a (ix2 d j) := by
  unfold whole
  exact piece_at (A := 1024) (N := 3712) (W := 3520) _ _ d n 0 (by show 0 < 2; decide) a rfl 0 rfl j.val j.isLt hn

/-- The second of two groups of columns. -/
theorem whole_right (a : FVec Ideal S1024x3520 .f32) (b : FVec Ideal S1024x192 .f32) (d : Fin 1024) (n : Fin 3712) (j : Fin 192)
    (hn : 3520 + j.val = n.val) : whole a b (ix2 d n) = b (ix2 d j) := by
  unfold whole
  exact piece_at (A := 1024) (N := 3712) (W := 192) _ _ d n 1 (by show 1 < 2; decide) b rfl 3520 rfl j.val j.isLt hn

/-- The first of the last two groups of columns. -/
theorem beside2_left (a : FVec Ideal S1024x64 .f32) (b : FVec Ideal S1024x128 .f32) (d : Fin 1024) (n : Fin 192) (j : Fin 64)
    (hn : 0 + j.val = n.val) : beside2 a b (ix2 d n) = a (ix2 d j) := by
  unfold beside2
  exact piece_at (A := 1024) (N := 192) (W := 64) _ _ d n 0 (by show 0 < 2; decide) a rfl 0 rfl j.val j.isLt hn

/-- The second of the last two groups of columns. -/
theorem beside2_right (a : FVec Ideal S1024x64 .f32) (b : FVec Ideal S1024x128 .f32) (d : Fin 1024) (n : Fin 192) (j : Fin 128)
    (hn : 64 + j.val = n.val) : beside2 a b (ix2 d n) = b (ix2 d j) := by
  unfold beside2
  exact piece_at (A := 1024) (N := 192) (W := 128) _ _ d n 1 (by show 1 < 2; decide) b rfl 64 rfl j.val j.isLt hn

/-- The packed columns at an entry. -/
theorem packed_at (w : FVec Ideal S1024x3488 .f32) (d : Fin 1024) (n : Fin 3712) :
    packed w (ix2 d n) = packedAt w d.val n.val := by
  have hn : n.val < 3712 := n.isLt
  unfold packed
  by_cases h : n.val < 3520
  · exact (whole_left _ _ d n ⟨n.val, h⟩ (Nat.zero_add _)).trans (first_at w d ⟨n.val, h⟩)
  · refine (whole_right _ _ d n ⟨n.val - 3520, by omega⟩ (by show 3520 + (n.val - 3520) = n.val; omega)).trans ?_
    have hp : packedAt w d.val n.val = at2 1024 3488 w d.val (1952 + (n.val - 2176)) := by
      simp only [packedAt, show ¬n.val < 768 by omega, show ¬n.val < 960 by omega, show ¬n.val < 1024 by omega, show ¬n.val < 1216 by omega, show ¬n.val < 1280 by omega, show ¬n.val < 1664 by omega, show ¬n.val < 2048 by omega, show ¬n.val < 2080 by omega, show ¬n.val < 2176 by omega, if_false]
    rw [hp]
    by_cases h' : n.val - 3520 < 64
    · refine (beside2_left _ _ d _ ⟨n.val - 3520, h'⟩ (Nat.zero_add _)).trans ?_
      refine (slice_at w _ d ⟨n.val - 3520, h'⟩ (by show 3296 + (n.val - 3520) < 3488; omega)).trans ?_
      exact congrArg (at2 1024 3488 w d.val) (by show 3296 + (n.val - 3520) = _; omega)
    · refine (beside2_right _ _ d _ ⟨n.val - 3520 - 64, by omega⟩ (by show 64 + (n.val - 3520 - 64) = n.val - 3520; omega)).trans ?_
      refine (slice_at w _ d ⟨n.val - 3520 - 64, by omega⟩ (by show 3360 + (n.val - 3520 - 64) < 3488; omega)).trans ?_
      exact congrArg (at2 1024 3488 w d.val) (by show 3360 + (n.val - 3520 - 64) = _; omega)

end Cert.Kernel2Ideal.Proj

end
-- ==== Proof.ProjBody.lean ====
module

public import proofs.«01_k».proof.Proof.ProjTables
public import Idealize.ShloMosaic.Lib.Pointwise
public import Idealize.ShloMosaic.Lib.KernelVsHost

@[expose] public section

set_option maxRecDepth 16384

noncomputable section

/-! What one grid point of the projection kernel stores, entry by entry. -/

namespace Cert.Kernel2Ideal.Proj

open Cert.Kernel2Ideal Cert.Kernel2Ideal.Gen Idealize.ShloMosaic Idealize.ShloMosaic.TcCoe Idealize.SL.Sem
open Cert.Proj

section Arrays

variable {F : FTy → Type} [FloatOps F]

/-- The lanes in the first half of their sixteen. -/
def lanes : IVec S1x128 1 := k0_pay9 (Scalar.select (Scalar.cmpi .eq 16#32 0#32) 1#32 16#32) k0_pay6 k0_pay7 k0_pay8

/-- A group of 128 lanes times the cosines, and the lanes' partners times the sines. -/
def turn (x : FVec F S256x128 .f32) (cos sin : FVec F S256x128 .f32) : FVec F S256x128 .f32 :=
  addf (mulf x cos) (mulf (select (broadcastTo S256x128 (shapeCast S1x128 lanes shapeCasts_S1x128_S1x128) broadcasts_S1x128_S256x128)
    (dynamicRotate 1 120#32 none x rotates_S256x128_d1) (dynamicRotate 1 8#32 none x rotates_S256x128_d1)) sin)

/-- A stored group of lanes. -/
def stored (x : FVec F S256x128 .f32) : FVec F S1x256x128 .bf16 :=
  shapeCast S1x256x128 (truncf .bf16 x bitsLt_bf16_f32) shapeCasts_S256x128_S1x256x128

/-- A group of lanes scaled. -/
def scaled (x : FVec F S256x128 .f32) : FVec F S256x128 .f32 :=
  mulf x (broadcast S256x128 (Scalar.ofBits .f32 0x3E3504F3#32))

/-- The first group of lanes stored. -/
theorem pay10_eq (z : FVec F S256x512 .f32) (cos sin : FVec F S256x128 .f32) :
    k0_pay10 z cos sin (Scalar.select (Scalar.cmpi .eq 16#32 0#32) 1#32 16#32) k0_pay6 k0_pay7 k0_pay8
      = stored (scaled (turn (extractStridedSlice S256x128 ![0, 0] z slices_S256x512_o0_0_S256x128) cos sin)) := rfl

/-- The second group of lanes stored. -/
theorem pay11_eq (z : FVec F S256x512 .f32) (cos sin : FVec F S256x128 .f32) :
    k0_pay11 z cos sin (Scalar.select (Scalar.cmpi .eq 16#32 0#32) 1#32 16#32) k0_pay6 k0_pay7 k0_pay8
      = stored (scaled (turn (extractStridedSlice S256x128 ![0, 128] z slices_S256x512_o0_128_S256x128) cos sin)) := rfl

/-- The third group of lanes stored. -/
theorem pay15_eq (z : FVec F S256x512 .f32) (cos sin : FVec F S256x128 .f32) :
    k0_pay15 sin (k0_pay13 z (Scalar.select (Scalar.cmpi .eq 16#32 0#32) 1#32 16#32) k0_pay6 k0_pay7 k0_pay8) (k0_pay14 z cos)
      = stored (turn (extractStridedSlice S256x128 ![0, 256] z slices_S256x512_o0_256_S256x128) cos sin) := rfl

/-- The fourth group of lanes stored. -/
theorem pay16_eq (z : FVec F S256x512 .f32) (cos sin : FVec F S256x128 .f32) :
    k0_pay16 z cos sin (k0_pay9 (Scalar.select (Scalar.cmpi .eq 16#32 0#32) 1#32 16#32) k0_pay6 k0_pay7 k0_pay8)
      = stored (turn (extractStridedSlice S256x128 ![0, 384] z slices_S256x512_o0_384_S256x128) cos sin) := rfl

end Arrays

/-- Which lanes lie in the first half of their sixteen. -/
theorem lanes_at : ∀ l : Fin 128, lanes (ix2 0 l) = if l.val % 16 < 8 then 1#1 else 0#1 := by
  decide +kernel

/-- A turned group of lanes at an entry. -/
theorem turn_at (x cos sin : FVec Ideal S256x128 .f32) (r : Fin 256) (l : Fin 128) :
    turn x cos sin (ix2 r l) = x (ix2 r l) * cos (ix2 r l)
      + at2 256 128 x r.val (if l.val % 16 < 8 then l.val + 8 else l.val - 8) * sin (ix2 r l) := by
  have e : ∀ (s : BitVec 32), dynamicRotate 1 s none x rotates_S256x128_d1 (ix2 r l)
      = x (ix2 r ⟨(l.val + 128 - s.toNat % 128) % 128, Nat.mod_lt _ (by decide)⟩) := fun s => by
    refine dynamicRotate_apply 1 s x rotates_S256x128_d1 (ix2 r l) _ fun b => ?_
    match b with
    | ⟨0, _⟩ => rfl
    | ⟨1, _⟩ => rfl
  have hl : l.val < 128 := l.isLt
  pointwise [turn, lanes_at, e]
  by_cases h : l.val % 16 < 8
  · rw [if_pos h, if_pos h, ← eq_at2 x r.isLt (show l.val + 8 < 128 by omega)]
    rw [show (⟨(l.val + 128 - 120) % 128, Nat.mod_lt _ (by decide)⟩ : Fin 128) = ⟨l.val + 8, by omega⟩ from Fin.ext (by show (l.val + 128 - 120) % 128 = l.val + 8; omega)]
    rfl
  · rw [if_neg h, if_neg h, ← eq_at2 x r.isLt (show l.val - 8 < 128 by omega)]
    rw [show (⟨(l.val + 128 - 8) % 128, Nat.mod_lt _ (by decide)⟩ : Fin 128) = ⟨l.val - 8, by omega⟩ from Fin.ext (by show (l.val + 128 - 8) % 128 = l.val - 8; omega)]
    rfl

/-- The modulated rows at an entry. -/
theorem rows_at (x0 : Vec Ideal S1x256x1024 .f32) (x1 : Vec Ideal S1x1x2x1024 .f32) (x2 : Vec Ideal S1024x3712 .bf16)
    (x3 x4 : Vec Ideal S256x128 .f32) (r : Fin 256) (d : Fin 1024) :
    k0_pay20 x0 x1 x2 x3 x4 (ix2 r d)
      = x0 (ix3 0 r d) * (Ideal.ofBits .f32 0x3F800000#32 + x1 (ix4 0 0 0 d)) + x1 (ix4 0 0 1 d) := by
  pointwise [k0_pay20, k0_pay2]

/-- The first products at an entry. -/
theorem first_products_at (x0 : Vec Ideal S1x256x1024 .f32) (x1 : Vec Ideal S1x1x2x1024 .f32) (x2 : Vec Ideal S1024x3712 .bf16)
    (x3 x4 : Vec Ideal S256x128 .f32) (r : Fin 256) (l : Fin 512) :
    k0_pay21 x0 x1 x2 x3 x4 (ix2 r l) = ∑ d : Fin 1024, k0_pay20 x0 x1 x2 x3 x4 (ix2 r d) * x2 (ix2 d ⟨l.val, by omega⟩) := by
  have e : k0_pay21 x0 x1 x2 x3 x4 = matmul dot_S256x1024_S1024x512_S256x512_1_0_0_1_n_n none (k0_pay20 x0 x1 x2 x3 x4)
    (shapeCast S1024x512 (View.ld x2 r0_3) shapeCasts_S1024x512_S1024x512) (constant S256x512 .f32 0x00000000#32) := rfl
  rw [e]
  generalize k0_pay20 x0 x1 x2 x3 x4 = y
  pointwise

/-- The values stored, at an entry. -/
theorem out6_at (x0 : Vec Ideal S1x256x1024 .f32) (x1 : Vec Ideal S1x1x2x1024 .f32) (x2 : Vec Ideal S1024x3712 .bf16)
    (x3 x4 : Vec Ideal S256x128 .f32) (r : Fin 256) (l : Fin 256) :
    out0_6 x0 x1 x2 x3 x4 (ix3 0 r l) = ∑ d : Fin 1024, k0_pay20 x0 x1 x2 x3 x4 (ix2 r d) * x2 (ix2 d ⟨512 + l.val, by omega⟩) := by
  unfold out0_6
  generalize k0_pay20 x0 x1 x2 x3 x4 = y
  rw [View.canon_cons_unit_lit _ _ _ (by decide)]
  pointwise [k0_pay17]

/-- The gated linear attention's columns stored, at an entry. -/
theorem out7_at (x0 : Vec Ideal S1x256x1024 .f32) (x1 : Vec Ideal S1x1x2x1024 .f32) (x2 : Vec Ideal S1024x3712 .bf16)
    (x3 x4 : Vec Ideal S256x128 .f32) (r : Fin 256) (l : Fin 1408) :
    out0_7 x0 x1 x2 x3 x4 (ix3 0 r l) = ∑ d : Fin 1024, k0_pay20 x0 x1 x2 x3 x4 (ix2 r d) * x2 (ix2 d ⟨768 + l.val, by omega⟩) := by
  unfold out0_7
  generalize k0_pay20 x0 x1 x2 x3 x4 = y
  rw [View.canon_cons_unit_lit _ _ _ (by decide)]
  pointwise [k0_pay18]

/-- The last columns stored, at an entry. -/
theorem out8_at (x0 : Vec Ideal S1x256x1024 .f32) (x1 : Vec Ideal S1x1x2x1024 .f32) (x2 : Vec Ideal S1024x3712 .bf16)
    (x3 x4 : Vec Ideal S256x128 .f32) (r : Fin 256) (l : Fin 1536) :
    out0_8 x0 x1 x2 x3 x4 (ix3 0 r l) = ∑ d : Fin 1024, k0_pay20 x0 x1 x2 x3 x4 (ix2 r d) * x2 (ix2 d ⟨2176 + l.val, by omega⟩) := by
  unfold out0_8
  generalize k0_pay20 x0 x1 x2 x3 x4 = y
  rw [View.canon_cons_unit_lit _ _ _ (by decide)]
  pointwise [k0_pay1, k0_pay19]

/-- A stored group of lanes at an entry. -/
theorem stored_at (x : FVec Ideal S256x128 .f32) (r : Fin 256) (l : Fin 128) : stored x (ix3 0 r l) = x (ix2 r l) := by
  pointwise [stored]

/-- A scaled group of lanes at an entry. -/
theorem scaled_at (x : FVec Ideal S256x128 .f32) (r : Fin 256) (l : Fin 128) :
    scaled x (ix2 r l) = x (ix2 r l) * Ideal.ofBits .f32 0x3E3504F3#32 := by
  pointwise [scaled]

/-- A group of lanes cut out of the products, at an entry. -/
theorem group_at {o : ℕ} (z : FVec Ideal S256x512 .f32) (h : S256x512.Slices ![0, o] S256x128) {r j : ℕ} (hr : r < 256) (hj : j < 128)
    (ho : o + 128 ≤ 512) :
    at2 256 128 (extractStridedSlice S256x128 ![0, o] z h) r j = at2 256 512 z r (o + j) := by
  rw [← eq_at2 _ hr hj, ← eq_at2 z hr (show o + j < 512 by omega)]
  pointwise

/-- Lane `n` of the products turned. -/
def turnedLane (z : FVec Ideal S256x512 .f32) (cos sin : FVec Ideal S256x128 .f32) (r n : ℕ) : EReal :=
  at2 256 512 z r n * at2 256 128 cos r (n % 128)
    + at2 256 512 z r (if n % 16 < 8 then n + 8 else n - 8) * at2 256 128 sin r (n % 128)

/-- A turned group of lanes of the products, at an entry. -/
theorem turn_group_at {o : ℕ} (z : FVec Ideal S256x512 .f32) (h : S256x512.Slices ![0, o] S256x128) (cos sin : FVec Ideal S256x128 .f32)
    (ho : o + 128 ≤ 512) (hm : o % 128 = 0) (r : Fin 256) (j : Fin 128) :
    turn (extractStridedSlice S256x128 ![0, o] z h) cos sin (ix2 r j) = turnedLane z cos sin r.val (o + j.val) := by
  have hj : j.val < 128 := j.isLt
  rw [turn_at, show extractStridedSlice S256x128 ![0, o] z h (ix2 r j) = at2 256 128 (extractStridedSlice S256x128 ![0, o] z h) r.val j.val
    from eq_at2 _ r.isLt j.isLt, group_at z h r.isLt j.isLt ho, group_at z h r.isLt (by split_ifs <;> omega) ho]
  unfold turnedLane
  rw [show cos (ix2 r j) = at2 256 128 cos r.val j.val from eq_at2 _ r.isLt j.isLt,
    show sin (ix2 r j) = at2 256 128 sin r.val j.val from eq_at2 _ r.isLt j.isLt,
    show (o + j.val) % 128 = j.val by omega,
    show o + (if j.val % 16 < 8 then j.val + 8 else j.val - 8) = if (o + j.val) % 16 < 8 then o + j.val + 8 else o + j.val - 8 by
      split_ifs <;> omega]

/-- The queries and keys stored, at an entry. -/
theorem out5_at (x0 : Vec Ideal S1x256x1024 .f32) (x1 : Vec Ideal S1x1x2x1024 .f32) (x2 : Vec Ideal S1024x3712 .bf16)
    (x3 x4 : Vec Ideal S256x128 .f32) (r : Fin 256) (l : Fin 512) :
    out0_5 x0 x1 x2 x3 x4 (ix3 0 r l)
      = if l.val < 256 then turnedLane (k0_pay21 x0 x1 x2 x3 x4) (k0_pay22 x0 x1 x2 x3 x4) (k0_pay23 x0 x1 x2 x3 x4) r.val l.val
            * Ideal.ofBits .f32 0x3E3504F3#32
        else turnedLane (k0_pay21 x0 x1 x2 x3 x4) (k0_pay22 x0 x1 x2 x3 x4) (k0_pay23 x0 x1 x2 x3 x4) r.val l.val := by
  unfold out0_5 k0_pay24 k0_pay25 k0_pay26
  rw [pay10_eq, pay11_eq, pay15_eq, pay16_eq]
  generalize k0_pay21 x0 x1 x2 x3 x4 = z
  generalize k0_pay22 x0 x1 x2 x3 x4 = cos
  generalize k0_pay23 x0 x1 x2 x3 x4 = sin
  canon_tiles y h
  all_goals
    have hy : ∃ j : Fin 128, (y 2).val = j.val ∧ y = (ix3 (0 : Fin 1) r j : S1x256x128.Idx) := by
      refine ⟨y 2, rfl, (eq_ix3 y).trans ?_⟩
      have e1 : @Eq (Fin 256) (y 1) r := Fin.ext h1.symm
      have e0 : @Eq (Fin 1) (y 0) 0 := Subsingleton.elim (α := Fin 1) _ _
      exact congrArg₂ (fun a b => (ix3 (a : Fin 1) (b : Fin 256) (y 2 : Fin 128) : S1x256x128.Idx)) e0 e1
    obtain ⟨j, hj, hy⟩ := hy
    rw [hj] at h2
    refine (congrArg (stored _) hy).trans ((stored_at _ r j).trans ?_)
    have hj' : j.val < 128 := j.isLt
  · replace h2 : l.val = 384 + j.val := h2
    rw [turn_group_at _ _ _ _ (by decide) (by decide), if_neg (by omega), h2]
  · replace h2 : l.val = 256 + j.val := h2
    rw [turn_group_at _ _ _ _ (by decide) (by decide), if_neg (by omega), h2]
  · replace h2 : l.val = 128 + j.val := h2
    rw [scaled_at, turn_group_at _ _ _ _ (by decide) (by decide), if_pos (by omega), h2]
  · replace h2 : l.val = j.val := h2
    rw [scaled_at, turn_group_at _ _ _ _ (by decide) (by decide), if_pos (by omega), h2, Nat.zero_add]

/-- The block of cosines, at an entry. -/
theorem cos_block (x0 : Vec Ideal S1x256x1024 .f32) (x1 : Vec Ideal S1x1x2x1024 .f32) (x2 : Vec Ideal S1024x3712 .bf16)
    (x3 x4 : Vec Ideal S256x128 .f32) (r : Fin 256) (l : Fin 128) : k0_pay22 x0 x1 x2 x3 x4 (ix2 r l) = x3 (ix2 r l) := by
  pointwise [k0_pay22, k0_pay4]

/-- The block of sines, at an entry. -/
theorem sin_block (x0 : Vec Ideal S1x256x1024 .f32) (x1 : Vec Ideal S1x1x2x1024 .f32) (x2 : Vec Ideal S1024x3712 .bf16)
    (x3 x4 : Vec Ideal S256x128 .f32) (r : Fin 256) (l : Fin 128) : k0_pay23 x0 x1 x2 x3 x4 (ix2 r l) = x4 (ix2 r l) := by
  pointwise [k0_pay23, k0_pay5]

end Cert.Kernel2Ideal.Proj

end
-- ==== Proof.ProjKernel.lean ====
module

public import proofs.«01_k».proof.Proof.ProjBody

@[expose] public section

set_option maxRecDepth 16384

noncomputable section

/-! The projection kernel's four output arrays, entry by entry. -/

namespace Cert.Kernel2Ideal.Proj

open Cert.Kernel2Ideal Cert.Kernel2Ideal.Gen Idealize.ShloMosaic Idealize.ShloMosaic.TcCoe Idealize.SL.Sem
open Cert.Proj

/-- Where each input window's block lies, by the grid point's batch and row tile. -/
theorem idx : ∀ t : Fin cfg0.N,
    win0_0.index t = ![(grid0.coords t 0).val, (grid0.coords t 1).val, 0]
      ∧ win0_1.index t = ![(grid0.coords t 0).val, if (grid0.coords t 1).val < 1 then 0 else 1, 0, 0]
      ∧ win0_2.index t = ![0, 0]
      ∧ win0_3.index t = ![(grid0.coords t 1).val, 0]
      ∧ win0_4.index t = ![(grid0.coords t 1).val, 0] :=
  (by decide +kernel : ∀ t : Fin grid0.N, _)

/-- Where each output window's block lies, by the grid point's batch and row tile. -/
theorem idx_out : ∀ t : Fin cfg0.N,
    win0_5.index t = ![(grid0.coords t 0).val, (grid0.coords t 1).val, 0]
      ∧ win0_6.index t = ![(grid0.coords t 0).val, (grid0.coords t 1).val, 0]
      ∧ win0_7.index t = ![(grid0.coords t 0).val, (grid0.coords t 1).val, 0]
      ∧ win0_8.index t = ![(grid0.coords t 0).val, (grid0.coords t 1).val, 0] :=
  (by decide +kernel : ∀ t : Fin grid0.N, _)

variable (m : (ℓ : Loc nD τ sig) → Buf (Elt Ideal) ℓ)

/-- A block of rows at an entry. -/
theorem rows_blk (c : Dev nD) (t : Fin cfg0.N) (r : Fin 256) (d : Fin 1024) :
    (iblk m c 0 t : Vec Ideal S1x256x1024 .f32) (ix3 0 r d)
      = at3 4 4352 1024 (m ((c : Thread nD τ).loc main_arg0)) (grid0.coords t 0).val (256 * (grid0.coords t 1).val + r.val) d.val := by
  have a0 : (grid0.coords t 0).val < 4 := (grid0.coords t 0).isLt
  have a1 : (grid0.coords t 1).val < 17 := (grid0.coords t 1).isLt
  rw [← eq_at3 _ a0 (show 256 * (grid0.coords t 1).val + r.val < 4352 by omega) d.isLt]
  blk_ext [iblk, V, idx t]

/-- A modulation's block at an entry. -/
theorem mod_blk (c : Dev nD) (t : Fin cfg0.N) (p : Fin 2) (d : Fin 1024) (r : Fin 256) :
    (iblk m c 1 t : Vec Ideal S1x1x2x1024 .f32) (ix4 0 0 p d)
      = at4 4 2 2 1024 (m ((c : Thread nD τ).loc main_arg1)) (grid0.coords t 0).val
          (group (256 * (grid0.coords t 1).val + r.val)) p.val d.val := by
  have a0 : (grid0.coords t 0).val < 4 := (grid0.coords t 0).isLt
  have a1 : (grid0.coords t 1).val < 17 := (grid0.coords t 1).isLt
  have e : group (256 * (grid0.coords t 1).val + r.val) = if (grid0.coords t 1).val < 1 then 0 else 1 := by
    have := r.isLt
    unfold group
    split_ifs <;> omega
  have hg : group (256 * (grid0.coords t 1).val + r.val) < 2 := by unfold group; split_ifs <;> omega
  rw [← eq_at4 _ a0 hg p.isLt d.isLt]
  blk_ext [iblk, V, idx t, e]

/-- The packed weights at an entry. -/
theorem weights_blk (c : Dev nD) (t : Fin cfg0.N) (d : Fin 1024) (n : Fin 3712) :
    (iblk m c 2 t : Vec Ideal S1024x3712 .bf16) (ix2 d n) = packedAt (m ((c : Thread nD τ).loc main_arg2)) d.val n.val := by
  refine Eq.trans ?_ (packed_at _ d n)
  rw [← V_packed]
  blk_ext [iblk, idx t]

/-- A block of cosines at an entry. -/
theorem cos_blk (c : Dev nD) (t : Fin cfg0.N) (r : Fin 256) (l : Fin 128) :
    (iblk m c 3 t : Vec Ideal S256x128 .f32) (ix2 r l)
      = if 256 * (grid0.coords t 1).val + r.val < 256 then Ideal.ofBits .f32 0x3F800000#32
        else at2 4096 32 (m ((c : Thread nD τ).loc main_arg3)) (256 * (grid0.coords t 1).val + r.val - 256) (l.val % 32) := by
  have a1 : (grid0.coords t 1).val < 17 := (grid0.coords t 1).isLt
  refine Eq.trans ?_ (cosines_at _ ⟨256 * (grid0.coords t 1).val + r.val, by omega⟩ l)
  rw [← V_cosines]
  blk_ext [iblk, idx t]

/-- A block of sines at an entry. -/
theorem sin_blk (c : Dev nD) (t : Fin cfg0.N) (r : Fin 256) (l : Fin 128) :
    (iblk m c 4 t : Vec Ideal S256x128 .f32) (ix2 r l)
      = if 256 * (grid0.coords t 1).val + r.val < 256 then Ideal.ofBits .f32 0x00000000#32
        else at2 4096 32 (m ((c : Thread nD τ).loc main_arg4)) (256 * (grid0.coords t 1).val + r.val - 256) (l.val % 32)
          * (if l.val % 16 < 8 then Ideal.ofBits .f32 0xBF800000#32 else Ideal.ofBits .f32 0x3F800000#32) := by
  have a1 : (grid0.coords t 1).val < 17 := (grid0.coords t 1).isLt
  refine Eq.trans ?_ (sines_at _ ⟨256 * (grid0.coords t 1).val + r.val, by omega⟩ l)
  rw [← V_sines]
  blk_ext [iblk, idx t]

/-- The modulated rows of a block at an entry. -/
theorem modulated_blk (c : Dev nD) (t : Fin cfg0.N) (r : Fin 256) (d : Fin 1024) :
    k0_pay20 (F := Ideal) (iblk m c 0 t) (iblk m c 1 t) (iblk m c 2 t) (iblk m c 3 t) (iblk m c 4 t) (ix2 r d)
      = modulated (m ((c : Thread nD τ).loc main_arg0)) (m ((c : Thread nD τ).loc main_arg1)) (grid0.coords t 0).val (256 * (grid0.coords t 1).val + r.val) d.val := by
  have e0 := mod_blk m c t 0 d r
  have e1 := mod_blk m c t 1 d r
  rw [rows_at, rows_blk, e0, e1]
  rfl

/-- A block's products with a packed column. -/
theorem products_blk (c : Dev nD) (t : Fin cfg0.N) (r : Fin 256) (n : ℕ) (hn : n < 3712) :
    ∑ d : Fin 1024, k0_pay20 (F := Ideal) (iblk m c 0 t) (iblk m c 1 t) (iblk m c 2 t) (iblk m c 3 t) (iblk m c 4 t) (ix2 r d) * (iblk m c 2 t : Vec Ideal S1024x3712 .bf16) (ix2 d ⟨n, hn⟩)
      = projPacked (m ((c : Thread nD τ).loc main_arg0)) (m ((c : Thread nD τ).loc main_arg1)) (m ((c : Thread nD τ).loc main_arg2)) (grid0.coords t 0).val (256 * (grid0.coords t 1).val + r.val) n := by
  unfold projPacked
  refine Finset.sum_congr rfl fun d _ => ?_
  rw [modulated_blk, weights_blk]

/-- The values a grid point stores. -/
theorem stored6 (c : Dev nD) (t : Fin cfg0.N) (r : Fin 256) (l : Fin 256) :
    out0_6 (F := Ideal) (iblk m c 0 t) (iblk m c 1 t) (iblk m c 2 t) (iblk m c 3 t) (iblk m c 4 t) (ix3 0 r l) = proj (m ((c : Thread nD τ).loc main_arg0)) (m ((c : Thread nD τ).loc main_arg1)) (m ((c : Thread nD τ).loc main_arg2)) (grid0.coords t 0).val (256 * (grid0.coords t 1).val + r.val) (512 + l.val) := by
  rw [out6_at, products_blk]
  exact projPacked_low _ _ _ _ _ _ (by omega)

/-- The gated linear attention's columns a grid point stores. -/
theorem stored7 (c : Dev nD) (t : Fin cfg0.N) (r : Fin 256) (l : Fin 1408) :
    out0_7 (F := Ideal) (iblk m c 0 t) (iblk m c 1 t) (iblk m c 2 t) (iblk m c 3 t) (iblk m c 4 t) (ix3 0 r l) = gla (m ((c : Thread nD τ).loc main_arg0)) (m ((c : Thread nD τ).loc main_arg1)) (m ((c : Thread nD τ).loc main_arg2)) (grid0.coords t 0).val (256 * (grid0.coords t 1).val + r.val) l.val := by
  rw [out7_at, products_blk]
  exact projPacked_gla _ _ _ _ _ _ l.isLt

/-- The last columns a grid point stores. -/
theorem stored8 (c : Dev nD) (t : Fin cfg0.N) (r : Fin 256) (l : Fin 1536) :
    out0_8 (F := Ideal) (iblk m c 0 t) (iblk m c 1 t) (iblk m c 2 t) (iblk m c 3 t) (iblk m c 4 t) (ix3 0 r l) = proj (m ((c : Thread nD τ).loc main_arg0)) (m ((c : Thread nD τ).loc main_arg1)) (m ((c : Thread nD τ).loc main_arg2)) (grid0.coords t 0).val (256 * (grid0.coords t 1).val + r.val) (1952 + l.val) := by
  rw [out8_at, products_blk]
  exact projPacked_high _ _ _ _ _ _

/-- The products for the queries and keys. -/
theorem first_blk (c : Dev nD) (t : Fin cfg0.N) (r : Fin 256) (n : ℕ) (hn : n < 512) :
    at2 256 512 (k0_pay21 (F := Ideal) (iblk m c 0 t) (iblk m c 1 t) (iblk m c 2 t) (iblk m c 3 t) (iblk m c 4 t)) r.val n = proj (m ((c : Thread nD τ).loc main_arg0)) (m ((c : Thread nD τ).loc main_arg1)) (m ((c : Thread nD τ).loc main_arg2)) (grid0.coords t 0).val (256 * (grid0.coords t 1).val + r.val) n := by
  rw [← eq_at2 _ r.isLt hn]
  refine (first_products_at _ _ _ _ _ r ⟨n, hn⟩).trans ?_
  refine (products_blk m c t r n (by omega)).trans ?_
  exact projPacked_low _ _ _ _ _ _ (by omega)

/-- The pattern `0xBF800000` is minus one. -/
theorem ofBits_neg_one : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

/-- Turning a lane by the two tables. -/
theorem turn_value (p q x y : EReal) (n : ℕ) :
    p * x + q * (y * (if n % 16 < 8 then Ideal.ofBits .f32 0xBF800000#32 else Ideal.ofBits .f32 0x3F800000#32))
      = p * x + (if n % 16 < 8 then -q else q) * y := by
  have h1 : Ideal.ofBits .f32 0x3F800000#32 = 1 := by pointwise
  have h2 : Ideal.ofBits .f32 0xBF800000#32 = -1 := ofBits_neg_one
  rw [h1, h2]
  split_ifs
  · rw [mul_neg, mul_one, mul_neg, neg_mul]
  · rw [mul_one]

/-- A lane of the queries or keys that a grid point turns. -/
theorem turned_blk (c : Dev nD) (t : Fin cfg0.N) (r : Fin 256) (l : Fin 512) :
    turnedLane (k0_pay21 (F := Ideal) (iblk m c 0 t) (iblk m c 1 t) (iblk m c 2 t) (iblk m c 3 t) (iblk m c 4 t)) (k0_pay22 (F := Ideal) (iblk m c 0 t) (iblk m c 1 t) (iblk m c 2 t) (iblk m c 3 t) (iblk m c 4 t)) (k0_pay23 (F := Ideal) (iblk m c 0 t) (iblk m c 1 t) (iblk m c 2 t) (iblk m c 3 t) (iblk m c 4 t)) r.val l.val
      = turned (m ((c : Thread nD τ).loc main_arg0)) (m ((c : Thread nD τ).loc main_arg1)) (m ((c : Thread nD τ).loc main_arg2)) (m ((c : Thread nD τ).loc main_arg3)) (m ((c : Thread nD τ).loc main_arg4)) (grid0.coords t 0).val (256 * (grid0.coords t 1).val + r.val) l.val := by
  have hl : l.val < 512 := l.isLt
  have hm : l.val % 128 < 128 := Nat.mod_lt _ (by decide)
  unfold turnedLane
  rw [first_blk m c t r l.val hl, first_blk m c t r _ (by split_ifs <;> omega),
    ← eq_at2 _ r.isLt hm, ← eq_at2 _ r.isLt hm, cos_block, sin_block, cos_blk, sin_blk]
  unfold turned
  by_cases h : 256 * (grid0.coords t 1).val + r.val < 256
  · have h1 : Ideal.ofBits .f32 0x3F800000#32 = 1 := by pointwise
    rw [if_pos h, if_pos h, if_pos h, h1, Ideal.ofBits_zero .f32, mul_one, mul_zero, add_zero]
  · rw [if_neg h, if_neg h, if_neg h]
    show _ * at2 _ _ _ _ (l.val % 128 % 32) + _ * (at2 _ _ _ _ (l.val % 128 % 32) * (if l.val % 128 % 16 < 8 then _ else _)) = _
    rw [turn_value, show l.val % 128 % 32 = l.val % 32 by omega, show l.val % 128 % 16 = l.val % 16 by omega]
    unfold partner
    split_ifs <;> rfl

/-- The queries and keys a grid point stores. -/
theorem stored5 (c : Dev nD) (t : Fin cfg0.N) (r : Fin 256) (l : Fin 512) :
    out0_5 (F := Ideal) (iblk m c 0 t) (iblk m c 1 t) (iblk m c 2 t) (iblk m c 3 t) (iblk m c 4 t) (ix3 0 r l) = qk (m ((c : Thread nD τ).loc main_arg0)) (m ((c : Thread nD τ).loc main_arg1)) (m ((c : Thread nD τ).loc main_arg2)) (m ((c : Thread nD τ).loc main_arg3)) (m ((c : Thread nD τ).loc main_arg4)) (grid0.coords t 0).val (256 * (grid0.coords t 1).val + r.val) l.val := by
  rw [out5_at, turned_blk]
  rfl

/-- An index whose first coordinate has one value. -/
theorem eq_first {B C : ℕ} (y : (⟨3, ![1, B, C]⟩ : Shape).Idx) : y = ix3 (0 : Fin 1) (y 1) (y 2) := by
  refine (eq_ix3 y).trans ?_
  congr 1
  exact Subsingleton.elim _ _

/-- The queries and keys after the run. -/
theorem array5 (c : Dev nD) :
    (dats m 0 c).arrAt 5 cfg0.N
      = (fun i => qk (m ((c : Thread nD τ).loc main_arg0)) (m ((c : Thread nD τ).loc main_arg1)) (m ((c : Thread nD τ).loc main_arg2)) (m ((c : Thread nD τ).loc main_arg3)) (m ((c : Thread nD τ).loc main_arg4)) (i 0).val (i 1).val ((i 2).val) : FVec Ideal S4x4352x512 .bf16) := by
  refine (dats m 0 c).arrAt_eq_of_covers 5 _ (by decide +kernel) fun t hf y => ?_
  blk_simp
  rw [after0_5]
  obtain ⟨h5, h6, h7, h8⟩ := idx_out t
  rw [h5]
  have hp := stored5 m c t (y 1) (y 2)
  have hy : y = ix3 (0 : Fin 1) (y 1) (y 2) := eq_first y
  rw [hy]
  refine hp.trans ?_
  show qk (m ((c : Thread nD τ).loc main_arg0)) (m ((c : Thread nD τ).loc main_arg1)) (m ((c : Thread nD τ).loc main_arg2)) (m ((c : Thread nD τ).loc main_arg3)) (m ((c : Thread nD τ).loc main_arg4)) _ _ (_) = qk (m ((c : Thread nD τ).loc main_arg0)) (m ((c : Thread nD τ).loc main_arg1)) (m ((c : Thread nD τ).loc main_arg2)) (m ((c : Thread nD τ).loc main_arg3)) (m ((c : Thread nD τ).loc main_arg4)) (grid0.coords t 0).val
    ((grid0.coords t 1).val * 256 + (y 1).val) ((0 * 512 + (y 2).val))
  rw [Nat.mul_comm 256, Nat.zero_mul, Nat.zero_add]

/-- The values after the run. -/
theorem array6 (c : Dev nD) :
    (dats m 0 c).arrAt 6 cfg0.N
      = (fun i => proj (m ((c : Thread nD τ).loc main_arg0)) (m ((c : Thread nD τ).loc main_arg1)) (m ((c : Thread nD τ).loc main_arg2)) (i 0).val (i 1).val (512 + (i 2).val) : FVec Ideal S4x4352x256 .bf16) := by
  refine (dats m 0 c).arrAt_eq_of_covers 6 _ (by decide +kernel) fun t hf y => ?_
  blk_simp
  rw [after0_6]
  obtain ⟨h5, h6, h7, h8⟩ := idx_out t
  rw [h6]
  have hp := stored6 m c t (y 1) (y 2)
  have hy : y = ix3 (0 : Fin 1) (y 1) (y 2) := eq_first y
  rw [hy]
  refine hp.trans ?_
  show proj (m ((c : Thread nD τ).loc main_arg0)) (m ((c : Thread nD τ).loc main_arg1)) (m ((c : Thread nD τ).loc main_arg2)) _ _ (512 + _) = proj (m ((c : Thread nD τ).loc main_arg0)) (m ((c : Thread nD τ).loc main_arg1)) (m ((c : Thread nD τ).loc main_arg2)) (grid0.coords t 0).val
    ((grid0.coords t 1).val * 256 + (y 1).val) (512 + (0 * 256 + (y 2).val))
  rw [Nat.mul_comm 256, Nat.zero_mul, Nat.zero_add]

/-- The gated linear attention's columns after the run. -/
theorem array7 (c : Dev nD) :
    (dats m 0 c).arrAt 7 cfg0.N
      = (fun i => gla (m ((c : Thread nD τ).loc main_arg0)) (m ((c : Thread nD τ).loc main_arg1)) (m ((c : Thread nD τ).loc main_arg2)) (i 0).val (i 1).val ((i 2).val) : FVec Ideal S4x4352x1408 .f32) := by
  refine (dats m 0 c).arrAt_eq_of_covers 7 _ (by decide +kernel) fun t hf y => ?_
  blk_simp
  rw [after0_7]
  obtain ⟨h5, h6, h7, h8⟩ := idx_out t
  rw [h7]
  have hp := stored7 m c t (y 1) (y 2)
  have hy : y = ix3 (0 : Fin 1) (y 1) (y 2) := eq_first y
  rw [hy]
  refine hp.trans ?_
  show gla (m ((c : Thread nD τ).loc main_arg0)) (m ((c : Thread nD τ).loc main_arg1)) (m ((c : Thread nD τ).loc main_arg2)) _ _ (_) = gla (m ((c : Thread nD τ).loc main_arg0)) (m ((c : Thread nD τ).loc main_arg1)) (m ((c : Thread nD τ).loc main_arg2)) (grid0.coords t 0).val
    ((grid0.coords t 1).val * 256 + (y 1).val) ((0 * 1408 + (y 2).val))
  rw [Nat.mul_comm 256, Nat.zero_mul, Nat.zero_add]

/-- The last columns after the run. -/
theorem array8 (c : Dev nD) :
    (dats m 0 c).arrAt 8 cfg0.N
      = (fun i => proj (m ((c : Thread nD τ).loc main_arg0)) (m ((c : Thread nD τ).loc main_arg1)) (m ((c : Thread nD τ).loc main_arg2)) (i 0).val (i 1).val (1952 + (i 2).val) : FVec Ideal S4x4352x1536 .f32) := by
  refine (dats m 0 c).arrAt_eq_of_covers 8 _ (by decide +kernel) fun t hf y => ?_
  blk_simp
  rw [after0_8]
  obtain ⟨h5, h6, h7, h8⟩ := idx_out t
  rw [h8]
  have hp := stored8 m c t (y 1) (y 2)
  have hy : y = ix3 (0 : Fin 1) (y 1) (y 2) := eq_first y
  rw [hy]
  refine hp.trans ?_
  show proj (m ((c : Thread nD τ).loc main_arg0)) (m ((c : Thread nD τ).loc main_arg1)) (m ((c : Thread nD τ).loc main_arg2)) _ _ (1952 + _) = proj (m ((c : Thread nD τ).loc main_arg0)) (m ((c : Thread nD τ).loc main_arg1)) (m ((c : Thread nD τ).loc main_arg2)) (grid0.coords t 0).val
    ((grid0.coords t 1).val * 256 + (y 1).val) (1952 + (0 * 1536 + (y 2).val))
  rw [Nat.mul_comm 256, Nat.zero_mul, Nat.zero_add]

end Cert.Kernel2Ideal.Proj

end
-- ==== Proof.ProjRef.lean ====
module

public import proofs.«01_k».proof.Proof.Gen.Reference2Ideal.Run
public import proofs.«01_k».proof.Proof.ProjSpec
public import Idealize.ShloMosaic.Lib.Tactic
public import Idealize.ShloMosaic.Lib.Tactic.CleanTypes
public import Idealize.ShloMosaic.Lib.Pipeline.ValueKit

@[expose] public section

set_option maxRecDepth 16384

noncomputable section

/-! The projection's reference, entry by entry. -/

namespace Cert.Reference2Ideal.Proj

open Cert.Reference2Ideal Cert.Reference2Ideal.Gen Cert.Reference2Ideal.Value Idealize.ShloMosaic Idealize.ShloMosaic.TcCoe Idealize.SL.Sem
open Cert.Proj

section Arrays

variable {F : FTy → Type} [FloatOps F]

/-- One part (the scales, or the shifts) of the modulations. -/
def ofPart {k : ℕ} (h : S4x2x2x1024.Slices ![0, 0, k, 0] S4x2x1x1024) (mod : FVec F S4x2x2x1024 .f32) : FVec F S4x2x1x1024 .f32 :=
  broadcastInDim S4x2x1x1024 ![0, 1, 3] bcast_S4x2x1024_S4x2x1x1024_0_1_3
    (shapeCast S4x2x1024 (extractStridedSlice S4x2x1x1024 ![0, 0, k, 0] mod h) shapeCasts_S4x2x1x1024_S4x2x1024)

/-- One group (the context's, or the latents') of a part. -/
def ofGroup {g : ℕ} (h : S4x2x1x1024.Slices ![0, g, 0, 0] S4x1x1x1024) (x : FVec F S4x2x1x1024 .f32) : FVec F S4x1x1024 .f32 :=
  shapeCast S4x1x1024 (extractStridedSlice S4x1x1x1024 ![0, g, 0, 0] x h) shapeCasts_S4x1x1x1024_S4x1x1024

/-- The context's rows modulated. -/
def ctxRows (x : FVec F S4x4352x1024 .f32) (scale shift : FVec F S4x1x1024 .f32) : FVec F S4x256x1024 .f32 :=
  addf (mulf (extractStridedSlice S4x256x1024 ![0, 0, 0] x slices_S4x4352x1024_S4x256x1024_0_0_0)
      (broadcastInDim S4x256x1024 ![0, 1, 2] bcast_S4x1x1024_S4x256x1024_0_1_2
        (addf (broadcastInDim S4x1x1024 ![] bcast_S_S4x1x1024 (constant S_ .f32 0x3F800000#32)) scale)))
    (broadcastInDim S4x256x1024 ![0, 1, 2] bcast_S4x1x1024_S4x256x1024_0_1_2 shift)

/-- The latents' rows modulated. -/
def latRows (x : FVec F S4x4352x1024 .f32) (scale shift : FVec F S4x1x1024 .f32) : FVec F S4x4096x1024 .f32 :=
  addf (mulf (extractStridedSlice S4x4096x1024 ![0, 256, 0] x slices_S4x4352x1024_S4x4096x1024_0_256_0)
      (broadcastInDim S4x4096x1024 ![0, 1, 2] bcast_S4x1x1024_S4x4096x1024_0_1_2
        (addf (broadcastInDim S4x1x1024 ![] bcast_S_S4x1x1024 (constant S_ .f32 0x3F800000#32)) scale)))
    (broadcastInDim S4x4096x1024 ![0, 1, 2] bcast_S4x1x1024_S4x4096x1024_0_1_2 shift)

/-- The context's rows before the latents'. -/
def rows (a : FVec F S4x256x1024 .f32) (b : FVec F S4x4096x1024 .f32) : FVec F S4x4352x1024 .f32 :=
  concatenate S4x4352x1024 1 [⟨S4x256x1024, a⟩, ⟨S4x4096x1024, b⟩] concatenates_S4x256x1024_S4x4096x1024_S4x4352x1024_d1

/-- The rows modulated. -/
def modRows (x : FVec F S4x4352x1024 .f32) (mod : FVec F S4x2x2x1024 .f32) : FVec F S4x4352x1024 .f32 :=
  rows (ctxRows x (ofGroup slices_S4x2x1x1024_S4x1x1x1024_0_0_0_0 (ofPart slices_S4x2x2x1024_S4x2x1x1024_0_0_0_0 mod))
      (ofGroup slices_S4x2x1x1024_S4x1x1x1024_0_0_0_0 (ofPart slices_S4x2x2x1024_S4x2x1x1024_0_0_1_0 mod)))
    (latRows x (ofGroup slices_S4x2x1x1024_S4x1x1x1024_0_1_0_0 (ofPart slices_S4x2x2x1024_S4x2x1x1024_0_0_0_0 mod))
      (ofGroup slices_S4x2x1x1024_S4x1x1x1024_0_1_0_0 (ofPart slices_S4x2x2x1024_S4x2x1x1024_0_0_1_0 mod)))

/-- The rows' products with the weights. -/
def products (x : FVec F S4x4352x1024 .f32) (w : FVec F S1024x3488 .f32) : FVec F S4x4352x3488 .f32 :=
  Host.dotGeneral dot_S4x4352x1024_S1024x3488_S4x4352x3488_2_0_01_1_n_n none x w

/-- A latent row's lanes in sixteens, each sixteen in halves. -/
def halves (x : FVec F S4x4096x256 .f32) : FVec F S4x4096x4x2x2x2x8 .f32 := shapeCast _ x shapeCasts_S4x4096x256_S4x4096x4x2x2x2x8

/-- The first halves of the sixteens. -/
def firsts (x : FVec F S4x4096x4x2x2x2x8 .f32) : FVec F S4x4096x4x2x2x8 .f32 :=
  shapeCast _ (extractStridedSlice S4x4096x4x2x2x1x8 ![0, 0, 0, 0, 0, 0, 0] x slices_S4x4096x4x2x2x2x8_S4x4096x4x2x2x1x8_0_0_0_0_0_0_0)
    shapeCasts_S4x4096x4x2x2x1x8_S4x4096x4x2x2x8

/-- The second halves of the sixteens. -/
def seconds (x : FVec F S4x4096x4x2x2x2x8 .f32) : FVec F S4x4096x4x2x2x8 .f32 :=
  shapeCast _ (extractStridedSlice S4x4096x4x2x2x1x8 ![0, 0, 0, 0, 0, 1, 0] x slices_S4x4096x4x2x2x2x8_S4x4096x4x2x2x1x8_0_0_0_0_0_1_0)
    shapeCasts_S4x4096x4x2x2x1x8_S4x4096x4x2x2x8

/-- Two arrays of halves as the first and second halves of sixteens. -/
def together (a b : FVec F S4x4096x4x2x2x8 .f32) : FVec F S4x4096x4x2x2x2x8 .f32 :=
  concatenate S4x4096x4x2x2x2x8 5
    [⟨S4x4096x4x2x2x1x8, broadcastInDim S4x4096x4x2x2x1x8 ![0, 1, 2, 3, 4, 6] bcast_S4x4096x4x2x2x8_S4x4096x4x2x2x1x8_0_1_2_3_4_6 a⟩,
      ⟨S4x4096x4x2x2x1x8, broadcastInDim S4x4096x4x2x2x1x8 ![0, 1, 2, 3, 4, 6] bcast_S4x4096x4x2x2x8_S4x4096x4x2x2x1x8_0_1_2_3_4_6 b⟩]
    concatenates_S4x4096x4x2x2x1x8_S4x4096x4x2x2x1x8_S4x4096x4x2x2x2x8_d5

/-- The sixteens as heads, maps and their 32 lanes. -/
def lanes32 (x : FVec F S4x4096x4x2x2x2x8 .f32) : FVec F S4x4096x4x2x32 .f32 := shapeCast _ x shapeCasts_S4x4096x4x2x2x2x8_S4x4096x4x2x32

/-- A table of angles along heads and maps. -/
def table (x : FVec F S4096x32 .f32) : FVec F S4x4096x4x2x32 .f32 :=
  broadcastInDim S4x4096x4x2x32 ![0, 1, 2, 3, 4] bcast_S1x4096x1x1x32_S4x4096x4x2x32_0_1_2_3_4
    (broadcastInDim S1x4096x1x1x32 ![1, 4] bcast_S4096x32_S1x4096x1x1x32_1_4 x)

/-- The latents' lanes turned. -/
def turnLat (x : FVec F S4x4096x256 .f32) (cos sin : FVec F S4096x32 .f32) : FVec F S4x4096x256 .f32 :=
  shapeCast _ (addf (mulf (lanes32 (halves x)) (table cos))
    (mulf (lanes32 (together (Host.negf (seconds (halves x))) (firsts (halves x)))) (table sin))) shapeCasts_S4x4096x4x2x32_S4x4096x256

/-- The context's lanes before the latents'. -/
def joined (a : FVec F S4x256x256 .f32) (b : FVec F S4x4096x256 .f32) : FVec F S4x4352x256 .f32 :=
  concatenate S4x4352x256 1 [⟨S4x256x256, a⟩, ⟨S4x4096x256, b⟩] concatenates_S4x256x256_S4x4096x256_S4x4352x256_d1

/-- The latents' rows turned, the context's as they are. -/
def turnRows (x : FVec F S4x4352x256 .f32) (cos sin : FVec F S4096x32 .f32) : FVec F S4x4352x256 .f32 :=
  joined (extractStridedSlice S4x256x256 ![0, 0, 0] x slices_S4x4352x256_S4x256x256_0_0_0)
    (turnLat (extractStridedSlice S4x4096x256 ![0, 256, 0] x slices_S4x4352x256_S4x4096x256_0_256_0) cos sin)

/-- The scaled queries beside the keys. -/
def besideKeys (q k : FVec F S4x4352x256 .f32) : FVec F S4x4352x512 .bf16 :=
  truncf .bf16 (concatenate S4x4352x512 2
    [⟨S4x4352x256, mulf q (broadcastInDim S4x4352x256 ![] bcast_S_S4x4352x256 (constant S_ .f32 0x3E3504F3#32))⟩, ⟨S4x4352x256, k⟩]
    concatenates_S4x4352x256_S4x4352x256_S4x4352x512_d2) bitsLt_bf16_f32

/-- The gated linear attention's columns side by side. -/
def besideAll (u0 : FVec F S4x4352x192 .f32) (u1 : FVec F S4x4352x64 .f32) (u2 : FVec F S4x4352x192 .f32) (u3 : FVec F S4x4352x64 .f32)
    (u4 u5 : FVec F S4x4352x384 .f32) (u6 : FVec F S4x4352x32 .f32) (u7 : FVec F S4x4352x96 .f32) : FVec F S4x4352x1408 .f32 :=
  concatenate S4x4352x1408 2 [⟨S4x4352x192, u0⟩, ⟨S4x4352x64, u1⟩, ⟨S4x4352x192, u2⟩, ⟨S4x4352x64, u3⟩, ⟨S4x4352x384, u4⟩,
      ⟨S4x4352x384, u5⟩, ⟨S4x4352x32, u6⟩, ⟨S4x4352x96, u7⟩]
    concatenates_S4x4352x192_S4x4352x64_S4x4352x192_S4x4352x64_S4x4352x384_S4x4352x384_S4x4352x32_S4x4352x96_S4x4352x1408_d2

/-- The gated linear attention's columns of the products. -/
def glaCols (z : FVec F S4x4352x3488 .f32) : FVec F S4x4352x1408 .f32 :=
  besideAll (extractStridedSlice S4x4352x192 ![0, 0, 768] z slices_S4x4352x3488_S4x4352x192_0_0_768)
    (broadcastInDim S4x4352x64 ![] bcast_S_S4x4352x64 (constant S_ .f32 0x00000000#32))
    (extractStridedSlice S4x4352x192 ![0, 0, 960] z slices_S4x4352x3488_S4x4352x192_0_0_960)
    (broadcastInDim S4x4352x64 ![] bcast_S_S4x4352x64 (constant S_ .f32 0x00000000#32))
    (extractStridedSlice S4x4352x384 ![0, 0, 1152] z slices_S4x4352x3488_S4x4352x384_0_0_1152)
    (extractStridedSlice S4x4352x384 ![0, 0, 1568] z slices_S4x4352x3488_S4x4352x384_0_0_1568)
    (extractStridedSlice S4x4352x32 ![0, 0, 1536] z slices_S4x4352x3488_S4x4352x32_0_0_1536)
    (broadcastInDim S4x4352x96 ![] bcast_S_S4x4352x96 (constant S_ .f32 0x00000000#32))

/-- The queries and keys are these arrays one after another. -/
theorem res89_eq (m : (ℓ : Loc nD τ sig) → Buf (Elt F) ℓ) (c : Dev nD) :
    res_main_v89 m c = besideKeys
      (turnRows (extractStridedSlice S4x4352x256 ![0, 0, 0] (products (modRows (m ((c.tc : Thread nD τ).loc main_arg0))
        (m ((c.tc : Thread nD τ).loc main_arg1))) (m ((c.tc : Thread nD τ).loc main_arg2))) slices_S4x4352x3488_S4x4352x256_0_0_0)
        (m ((c.tc : Thread nD τ).loc main_arg3)) (m ((c.tc : Thread nD τ).loc main_arg4)))
      (turnRows (extractStridedSlice S4x4352x256 ![0, 0, 256] (products (modRows (m ((c.tc : Thread nD τ).loc main_arg0))
        (m ((c.tc : Thread nD τ).loc main_arg1))) (m ((c.tc : Thread nD τ).loc main_arg2))) slices_S4x4352x3488_S4x4352x256_0_0_256)
        (m ((c.tc : Thread nD τ).loc main_arg3)) (m ((c.tc : Thread nD τ).loc main_arg4))) :=
  rfl

/-- The gated linear attention's columns are these arrays one after another. -/
theorem res87_eq (m : (ℓ : Loc nD τ sig) → Buf (Elt F) ℓ) (c : Dev nD) :
    res_main_v87 m c = glaCols (products (modRows (m ((c.tc : Thread nD τ).loc main_arg0))
        (m ((c.tc : Thread nD τ).loc main_arg1))) (m ((c.tc : Thread nD τ).loc main_arg2))) :=
  rfl

end Arrays

/-- A modulation at an entry. -/
theorem ofPart_at {k : ℕ} (h : S4x2x2x1024.Slices ![0, 0, k, 0] S4x2x1x1024) (hk : k < 2) (mod : FVec Ideal S4x2x2x1024 .f32)
    (b : Fin 4) (g : Fin 2) (d : Fin 1024) : ofPart h mod (ix4 b g 0 d) = at4 4 2 2 1024 mod b.val g.val k d.val := by
  rw [← eq_at4 mod b.isLt g.isLt hk d.isLt]
  pointwise [ofPart]

/-- A group's part at an entry. -/
theorem ofGroup_at {g : ℕ} (h : S4x2x1x1024.Slices ![0, g, 0, 0] S4x1x1x1024) (hg : g < 2) (x : FVec Ideal S4x2x1x1024 .f32)
    (b : Fin 4) (d : Fin 1024) : ofGroup h x (ix3 b 0 d) = x (ix4 b ⟨g, hg⟩ 0 d) := by
  pointwise [ofGroup]

/-- The context's modulated rows at an entry. -/
theorem ctxRows_at (x : FVec Ideal S4x4352x1024 .f32) (scale shift : FVec Ideal S4x1x1024 .f32) (b : Fin 4) (r : Fin 256) (d : Fin 1024) :
    ctxRows x scale shift (ix3 b r d) = at3 4 4352 1024 x b.val r.val d.val * (Ideal.ofBits .f32 0x3F800000#32 + scale (ix3 b 0 d))
      + shift (ix3 b 0 d) := by
  rw [← eq_at3 x b.isLt (show r.val < 4352 by omega) d.isLt]
  pointwise [ctxRows]

/-- The latents' modulated rows at an entry. -/
theorem latRows_at (x : FVec Ideal S4x4352x1024 .f32) (scale shift : FVec Ideal S4x1x1024 .f32) (b : Fin 4) (r : Fin 4096) (d : Fin 1024) :
    latRows x scale shift (ix3 b r d) = at3 4 4352 1024 x b.val (256 + r.val) d.val * (Ideal.ofBits .f32 0x3F800000#32 + scale (ix3 b 0 d))
      + shift (ix3 b 0 d) := by
  rw [← eq_at3 x b.isLt (show 256 + r.val < 4352 by omega) d.isLt]
  pointwise [latRows]

/-- The rows' products at an entry. -/
theorem products_at (x : FVec Ideal S4x4352x1024 .f32) (w : FVec Ideal S1024x3488 .f32) (b : Fin 4) (r : Fin 4352) (n : Fin 3488) :
    products x w (ix3 b r n) = ∑ d : Fin 1024, x (ix3 b r d) * at2 1024 3488 w d.val n.val := by
  rw [show (∑ d : Fin 1024, x (ix3 b r d) * at2 1024 3488 w d.val n.val) = ∑ d : Fin 1024, x (ix3 b r d) * w (ix2 d n) from
    Finset.sum_congr rfl fun d _ => by rw [show w (ix2 d n) = at2 1024 3488 w d.val n.val from eq_at2 w d.isLt n.isLt]]
  pointwise [products]

/-- The lanes of sixteens' halves at an entry. -/
theorem lanes32_halves_at (x : FVec Ideal S4x4096x256 .f32) (b : Fin 4) (i : Fin 4096) (h : Fin 4) (p : Fin 2) (j : Fin 32) :
    lanes32 (halves x) (ix5 b i h p j) = at3 4 4096 256 x b.val i.val (h.val * 64 + p.val * 32 + j.val) := by
  rw [← eq_at3 x b.isLt i.isLt (show h.val * 64 + p.val * 32 + j.val < 256 by omega)]
  pointwise [lanes32, halves]
  exact congrArg (fun n : Fin 256 => x (ix3 b i n)) (Fin.ext (by show h.val * 64 + p.val * 32 + j.val / 16 * 16 + j.val / 8 % 2 * 8 + j.val % 8 = h.val * 64 + p.val * 32 + j.val; omega))

/-- The lanes' partners at an entry. -/
theorem partners_at (x : FVec Ideal S4x4096x256 .f32) (b : Fin 4) (i : Fin 4096) (h : Fin 4) (p : Fin 2) (j : Fin 32) :
    lanes32 (together (Host.negf (seconds (halves x))) (firsts (halves x))) (ix5 b i h p j)
      = if j.val % 16 < 8 then -at3 4 4096 256 x b.val i.val (h.val * 64 + p.val * 32 + j.val + 8)
        else at3 4 4096 256 x b.val i.val (h.val * 64 + p.val * 32 + j.val - 8) := by
  pointwise [lanes32, together, seconds, firsts, halves]
  by_cases hj : j.val % 16 < 8
  · rw [dif_pos (show j.val / 8 % 2 < 1 by omega), if_pos hj, ← eq_at3 x b.isLt i.isLt (show h.val * 64 + p.val * 32 + j.val + 8 < 256 by omega)]
    exact congrArg (fun n : Fin 256 => -x (ix3 b i n)) (Fin.ext (by show h.val * 64 + p.val * 32 + j.val / 16 * 16 + 8 + j.val % 8 = h.val * 64 + p.val * 32 + j.val + 8; omega))
  · rw [dif_neg (show ¬j.val / 8 % 2 < 1 by omega), if_neg hj, ← eq_at3 x b.isLt i.isLt (show h.val * 64 + p.val * 32 + j.val - 8 < 256 by omega)]
    exact congrArg (fun n : Fin 256 => x (ix3 b i n)) (Fin.ext (by show h.val * 64 + p.val * 32 + j.val / 16 * 16 + j.val % 8 = h.val * 64 + p.val * 32 + j.val - 8; omega))

/-- A table of angles at an entry. -/
theorem table_at (x : FVec Ideal S4096x32 .f32) (b : Fin 4) (i : Fin 4096) (h : Fin 4) (p : Fin 2) (j : Fin 32) :
    table x (ix5 b i h p j) = at2 4096 32 x i.val j.val := by
  rw [← eq_at2 x i.isLt j.isLt]
  pointwise [table]

/-- Heads, maps and lanes as one axis. -/
theorem flat_at (x : FVec Ideal S4x4096x4x2x32 .f32) (b : Fin 4) (i : Fin 4096) (n : Fin 256) :
    shapeCast S4x4096x256 x shapeCasts_S4x4096x4x2x32_S4x4096x256 (ix3 b i n)
      = x (ix5 b i ⟨n.val / 64, by omega⟩ ⟨n.val / 32 % 2, by omega⟩ ⟨n.val % 32, by omega⟩) := by
  pointwise

/-- A lane of a turned latent row. -/
theorem turnLat_at (x : FVec Ideal S4x4096x256 .f32) (cos sin : FVec Ideal S4096x32 .f32) (b : Fin 4) (i : Fin 4096) (n : Fin 256) :
    turnLat x cos sin (ix3 b i n) = at3 4 4096 256 x b.val i.val n.val * at2 4096 32 cos i.val (n.val % 32)
      + (if n.val % 16 < 8 then -at3 4 4096 256 x b.val i.val (n.val + 8) else at3 4 4096 256 x b.val i.val (n.val - 8))
        * at2 4096 32 sin i.val (n.val % 32) := by
  unfold turnLat
  rw [flat_at]
  show lanes32 (halves x) _ * table cos _ + lanes32 (together (Host.negf (seconds (halves x))) (firsts (halves x))) _ * table sin _ = _
  rw [lanes32_halves_at, partners_at, table_at, table_at]
  show at3 4 4096 256 x b.val i.val (n.val / 64 * 64 + n.val / 32 % 2 * 32 + n.val % 32) * _
    + (if n.val % 32 % 16 < 8 then -at3 4 4096 256 x b.val i.val (n.val / 64 * 64 + n.val / 32 % 2 * 32 + n.val % 32 + 8)
      else at3 4 4096 256 x b.val i.val (n.val / 64 * 64 + n.val / 32 % 2 * 32 + n.val % 32 - 8)) * _ = _
  rw [show n.val / 64 * 64 + n.val / 32 % 2 * 32 + n.val % 32 = n.val by omega, show n.val % 32 % 16 = n.val % 16 by omega]

/-- The context's rows before the latents', at an entry. -/
theorem rows_at (a : FVec Ideal S4x256x1024 .f32) (l : FVec Ideal S4x4096x1024 .f32) (b : Fin 4) (r : Fin 4352) (d : Fin 1024) :
    rows a l (ix3 b r d) = if h : r.val < 256 then a (ix3 b ⟨r.val, h⟩ d) else l (ix3 b ⟨r.val - 256, by omega⟩ d) := by
  pointwise [rows]

/-- The context's lanes before the latents', at an entry. -/
theorem joined_at (a : FVec Ideal S4x256x256 .f32) (l : FVec Ideal S4x4096x256 .f32) (b : Fin 4) (r : Fin 4352) (n : Fin 256) :
    joined a l (ix3 b r n) = if h : r.val < 256 then a (ix3 b ⟨r.val, h⟩ n) else l (ix3 b ⟨r.val - 256, by omega⟩ n) := by
  pointwise [joined]

/-- A modulated row at an entry. -/
theorem modRows_at (x : FVec Ideal S4x4352x1024 .f32) (mod : FVec Ideal S4x2x2x1024 .f32) (b : Fin 4) (r : Fin 4352) (d : Fin 1024) :
    modRows x mod (ix3 b r d) = modulated x mod b.val r.val d.val := by
  unfold modRows modulated group
  rw [rows_at]
  by_cases hr : r.val < 256
  · rw [dif_pos hr, if_pos hr, ctxRows_at, ofGroup_at _ (by decide), ofGroup_at _ (by decide), ofPart_at _ (by decide),
      ofPart_at _ (by decide)]
  · rw [dif_neg hr, if_neg hr, latRows_at, ofGroup_at _ (by decide), ofGroup_at _ (by decide), ofPart_at _ (by decide),
      ofPart_at _ (by decide)]
    show at3 4 4352 1024 x b.val (256 + (r.val - 256)) d.val * _ + _ = _
    rw [show 256 + (r.val - 256) = r.val by omega]

/-- The modulated rows' products at an entry. -/
theorem dots_at (x : FVec Ideal S4x4352x1024 .f32) (mod : FVec Ideal S4x2x2x1024 .f32) (w : FVec Ideal S1024x3488 .f32)
    (b : Fin 4) (r : Fin 4352) (n : Fin 3488) : products (modRows x mod) w (ix3 b r n) = proj x mod w b.val r.val n.val := by
  rw [products_at]
  unfold proj
  exact Finset.sum_congr rfl fun d _ => by rw [modRows_at]

/-- A slice of columns from column `o`. -/
theorem slice3_at {W : ℕ} (z : FVec Ideal S4x4352x3488 .f32) {o : ℕ} (h : S4x4352x3488.Slices ![0, 0, o] ⟨3, ![4, 4352, W]⟩)
    (b : Fin 4) (r : Fin 4352) (j : Fin W) (hb : o + j.val < 3488) :
    extractStridedSlice ⟨3, ![4, 4352, W]⟩ ![0, 0, o] z h (ix3 b r j) = z (ix3 b r ⟨o + j.val, hb⟩) := by
  pointwise

/-- A slice of the products' columns from column `o`. -/
theorem cols_at {W : ℕ} (x : FVec Ideal S4x4352x1024 .f32) (mod : FVec Ideal S4x2x2x1024 .f32) (w : FVec Ideal S1024x3488 .f32)
    {o : ℕ} (h : S4x4352x3488.Slices ![0, 0, o] ⟨3, ![4, 4352, W]⟩) (b : Fin 4) (r : Fin 4352) (j : Fin W) (hb : o + j.val < 3488) :
    extractStridedSlice ⟨3, ![4, 4352, W]⟩ ![0, 0, o] (products (modRows x mod) w) h (ix3 b r j)
      = proj x mod w b.val r.val (o + j.val) := by
  rw [slice3_at _ _ b r j hb, dots_at]

/-- The latents' part of an array at an entry. -/
theorem latSlice_at (x : FVec Ideal S4x4352x256 .f32) (b i n : ℕ) :
    at3 4 4096 256 (extractStridedSlice S4x4096x256 ![0, 256, 0] x slices_S4x4352x256_S4x4096x256_0_256_0) b i n
      = at3 4 4352 256 x b (256 + i) n := by
  unfold at3
  by_cases h : b < 4 ∧ i < 4096 ∧ n < 256
  · rw [dif_pos h, dif_pos ⟨h.1, by omega, h.2.2⟩]
    pointwise
  · rw [dif_neg h, dif_neg (by omega)]

/-- The context's part of an array at an entry. -/
theorem ctxSlice_at (x : FVec Ideal S4x4352x256 .f32) (b : Fin 4) (r : Fin 256) (n : Fin 256) :
    extractStridedSlice S4x256x256 ![0, 0, 0] x slices_S4x4352x256_S4x256x256_0_0_0 (ix3 b r n)
      = at3 4 4352 256 x b.val r.val n.val := by
  rw [← eq_at3 x b.isLt (show r.val < 4352 by omega) n.isLt]
  pointwise

/-- A lane of a turned row. -/
theorem turnRows_at (x : FVec Ideal S4x4352x256 .f32) (cos sin : FVec Ideal S4096x32 .f32) (b : Fin 4) (r : Fin 4352) (n : Fin 256) :
    turnRows x cos sin (ix3 b r n) = if r.val < 256 then at3 4 4352 256 x b.val r.val n.val
      else at3 4 4352 256 x b.val r.val n.val * at2 4096 32 cos (r.val - 256) (n.val % 32)
        + (if n.val % 16 < 8 then -at3 4 4352 256 x b.val r.val (n.val + 8) else at3 4 4352 256 x b.val r.val (n.val - 8))
          * at2 4096 32 sin (r.val - 256) (n.val % 32) := by
  unfold turnRows
  rw [joined_at]
  by_cases hr : r.val < 256
  · rw [dif_pos hr, if_pos hr, ctxSlice_at]
  · rw [dif_neg hr, if_neg hr, turnLat_at, latSlice_at, latSlice_at, latSlice_at]
    show at3 4 4352 256 x b.val (256 + (r.val - 256)) n.val * _
      + (if n.val % 16 < 8 then -at3 4 4352 256 x b.val (256 + (r.val - 256)) (n.val + 8)
        else at3 4 4352 256 x b.val (256 + (r.val - 256)) (n.val - 8)) * _ = _
    rw [show 256 + (r.val - 256) = r.val by omega]

/-- A lane of the turned columns from column `o`. -/
theorem turnCols_at (x : FVec Ideal S4x4352x1024 .f32) (mod : FVec Ideal S4x2x2x1024 .f32) (w : FVec Ideal S1024x3488 .f32)
    (cos sin : FVec Ideal S4096x32 .f32) {o : ℕ} (h : S4x4352x3488.Slices ![0, 0, o] S4x4352x256) (ho : o + 256 ≤ 3488)
    (h32 : o % 32 = 0) (b : Fin 4) (r : Fin 4352) (n : Fin 256) :
    turnRows (extractStridedSlice S4x4352x256 ![0, 0, o] (products (modRows x mod) w) h) cos sin (ix3 b r n)
      = turned x mod w cos sin b.val r.val (o + n.val) := by
  have key : ∀ k : ℕ, k < 256 → at3 4 4352 256 (extractStridedSlice S4x4352x256 ![0, 0, o] (products (modRows x mod) w) h)
      b.val r.val k = proj x mod w b.val r.val (o + k) := fun k hk => by
    rw [← eq_at3 _ b.isLt r.isLt hk]
    exact cols_at x mod w h b r ⟨k, hk⟩ (by show o + k < 3488; omega)
  rw [turnRows_at, key n.val n.isLt]
  unfold turned partner
  rw [show (o + n.val) % 32 = n.val % 32 by omega, show (o + n.val) % 16 = n.val % 16 by omega]
  by_cases hn : n.val % 16 < 8
  · rw [if_pos hn, if_pos hn, key (n.val + 8) (by omega), Nat.add_assoc]
  · rw [if_neg hn, if_neg hn, key (n.val - 8) (by omega), show o + (n.val - 8) = o + n.val - 8 by omega]

/-- The scaled queries beside the keys, at an entry. -/
theorem besideKeys_at (q k : FVec Ideal S4x4352x256 .f32) (b : Fin 4) (r : Fin 4352) (n : Fin 512) :
    besideKeys q k (ix3 b r n) = if h : n.val < 256 then q (ix3 b r ⟨n.val, h⟩) * Ideal.ofBits .f32 0x3E3504F3#32
      else k (ix3 b r ⟨n.val - 256, by omega⟩) := by
  pointwise [besideKeys]

/-- A lane of the reference's queries and keys. -/
theorem ref_qk_at (x : FVec Ideal S4x4352x1024 .f32) (mod : FVec Ideal S4x2x2x1024 .f32) (w : FVec Ideal S1024x3488 .f32)
    (cos sin : FVec Ideal S4096x32 .f32) (b : Fin 4) (r : Fin 4352) (n : Fin 512) :
    besideKeys
      (turnRows (extractStridedSlice S4x4352x256 ![0, 0, 0] (products (modRows x mod) w) slices_S4x4352x3488_S4x4352x256_0_0_0) cos sin)
      (turnRows (extractStridedSlice S4x4352x256 ![0, 0, 256] (products (modRows x mod) w) slices_S4x4352x3488_S4x4352x256_0_0_256) cos sin) (ix3 b r n)
      = qk x mod w cos sin b.val r.val n.val := by
  rw [besideKeys_at]
  unfold qk
  by_cases h : n.val < 256
  · rw [dif_pos h, if_pos h, turnCols_at x mod w cos sin (o := 0) _ (by decide) (by decide)]
    show turned x mod w cos sin _ _ (0 + n.val) * _ = _
    rw [Nat.zero_add]
  · rw [dif_neg h, if_neg h, turnCols_at x mod w cos sin (o := 256) _ (by decide) (by decide)]
    show turned x mod w cos sin _ _ (256 + (n.val - 256)) = _
    rw [show 256 + (n.val - 256) = n.val by omega]

/-- The reference's queries and keys. -/
theorem ref_qk (x : FVec Ideal S4x4352x1024 .f32) (mod : FVec Ideal S4x2x2x1024 .f32) (w : FVec Ideal S1024x3488 .f32)
    (cos sin : FVec Ideal S4096x32 .f32) :
    besideKeys
      (turnRows (extractStridedSlice S4x4352x256 ![0, 0, 0] (products (modRows x mod) w) slices_S4x4352x3488_S4x4352x256_0_0_0) cos sin)
      (turnRows (extractStridedSlice S4x4352x256 ![0, 0, 256] (products (modRows x mod) w) slices_S4x4352x3488_S4x4352x256_0_0_256) cos sin)
      = (fun i => qk x mod w cos sin (i 0).val (i 1).val (i 2).val : FVec Ideal S4x4352x512 .bf16) := by
  refine funext fun i => ?_
  rw [eq_ix3 i]
  exact ref_qk_at x mod w cos sin (i 0) (i 1) (i 2)

/-- Arrays side by side on the last axis, read in the one that starts at lane `pre`. -/
theorem piece3_at {A B N W : ℕ} (xs : List ((s : Shape) × (s.Idx → EReal)))
    (h : Shape.Concatenates (xs.map (·.1)) ⟨3, ![A, B, N]⟩ 2) (b : Fin A) (r : Fin B) (n : Fin N) (k : ℕ) (hk : k < xs.length)
    (x : (⟨3, ![A, B, W]⟩ : Shape).Idx → EReal) (hxk : xs[k] = ⟨⟨3, ![A, B, W]⟩, x⟩) (pre : ℕ)
    (hpre : (((xs.take k).map (·.1)).map fun s => if h : s.rank = 3 then s.size ((2 : Fin 3).cast h.symm) else 0).sum = pre)
    (j : ℕ) (hj : j < W) (hn : pre + j = n.val) :
    concatenate ⟨3, ![A, B, N]⟩ 2 xs h (ix3 b r n) = x (ix3 b r ⟨j, hj⟩) := by
  refine concatenate_apply_piece 2 xs h (ix3 b r n) k hk _ x hxk rfl pre hpre (ix3 b r ⟨j, hj⟩) ?_ hn
  intro a ha
  match a with
  | ⟨0, _⟩ => rfl
  | ⟨1, _⟩ => rfl
  | ⟨2, _⟩ => exact absurd rfl ha

/-- The part from lane 0. -/
theorem besideAll_0 (u0 : FVec Ideal S4x4352x192 .f32) (u1 : FVec Ideal S4x4352x64 .f32) (u2 : FVec Ideal S4x4352x192 .f32)
    (u3 : FVec Ideal S4x4352x64 .f32) (u4 u5 : FVec Ideal S4x4352x384 .f32) (u6 : FVec Ideal S4x4352x32 .f32)
    (u7 : FVec Ideal S4x4352x96 .f32) (b : Fin 4) (r : Fin 4352) (n : Fin 1408) (j : Fin 192) (hn : 0 + j.val = n.val) :
    besideAll u0 u1 u2 u3 u4 u5 u6 u7 (ix3 b r n) = u0 (ix3 b r j) := by
  unfold besideAll
  exact piece3_at (A := 4) (B := 4352) (N := 1408) (W := 192) _ _ b r n 0 (by show 0 < 8; decide) u0 rfl 0 rfl j.val j.isLt hn

/-- The part from lane 192. -/
theorem besideAll_1 (u0 : FVec Ideal S4x4352x192 .f32) (u1 : FVec Ideal S4x4352x64 .f32) (u2 : FVec Ideal S4x4352x192 .f32)
    (u3 : FVec Ideal S4x4352x64 .f32) (u4 u5 : FVec Ideal S4x4352x384 .f32) (u6 : FVec Ideal S4x4352x32 .f32)
    (u7 : FVec Ideal S4x4352x96 .f32) (b : Fin 4) (r : Fin 4352) (n : Fin 1408) (j : Fin 64) (hn : 192 + j.val = n.val) :
    besideAll u0 u1 u2 u3 u4 u5 u6 u7 (ix3 b r n) = u1 (ix3 b r j) := by
  unfold besideAll
  exact piece3_at (A := 4) (B := 4352) (N := 1408) (W := 64) _ _ b r n 1 (by show 1 < 8; decide) u1 rfl 192 rfl j.val j.isLt hn

/-- The part from lane 256. -/
theorem besideAll_2 (u0 : FVec Ideal S4x4352x192 .f32) (u1 : FVec Ideal S4x4352x64 .f32) (u2 : FVec Ideal S4x4352x192 .f32)
    (u3 : FVec Ideal S4x4352x64 .f32) (u4 u5 : FVec Ideal S4x4352x384 .f32) (u6 : FVec Ideal S4x4352x32 .f32)
    (u7 : FVec Ideal S4x4352x96 .f32) (b : Fin 4) (r : Fin 4352) (n : Fin 1408) (j : Fin 192) (hn : 256 + j.val = n.val) :
    besideAll u0 u1 u2 u3 u4 u5 u6 u7 (ix3 b r n) = u2 (ix3 b r j) := by
  unfold besideAll
  exact piece3_at (A := 4) (B := 4352) (N := 1408) (W := 192) _ _ b r n 2 (by show 2 < 8; decide) u2 rfl 256 rfl j.val j.isLt hn

/-- The part from lane 448. -/
theorem besideAll_3 (u0 : FVec Ideal S4x4352x192 .f32) (u1 : FVec Ideal S4x4352x64 .f32) (u2 : FVec Ideal S4x4352x192 .f32)
    (u3 : FVec Ideal S4x4352x64 .f32) (u4 u5 : FVec Ideal S4x4352x384 .f32) (u6 : FVec Ideal S4x4352x32 .f32)
    (u7 : FVec Ideal S4x4352x96 .f32) (b : Fin 4) (r : Fin 4352) (n : Fin 1408) (j : Fin 64) (hn : 448 + j.val = n.val) :
    besideAll u0 u1 u2 u3 u4 u5 u6 u7 (ix3 b r n) = u3 (ix3 b r j) := by
  unfold besideAll
  exact piece3_at (A := 4) (B := 4352) (N := 1408) (W := 64) _ _ b r n 3 (by show 3 < 8; decide) u3 rfl 448 rfl j.val j.isLt hn

/-- The part from lane 512. -/
theorem besideAll_4 (u0 : FVec Ideal S4x4352x192 .f32) (u1 : FVec Ideal S4x4352x64 .f32) (u2 : FVec Ideal S4x4352x192 .f32)
    (u3 : FVec Ideal S4x4352x64 .f32) (u4 u5 : FVec Ideal S4x4352x384 .f32) (u6 : FVec Ideal S4x4352x32 .f32)
    (u7 : FVec Ideal S4x4352x96 .f32) (b : Fin 4) (r : Fin 4352) (n : Fin 1408) (j : Fin 384) (hn : 512 + j.val = n.val) :
    besideAll u0 u1 u2 u3 u4 u5 u6 u7 (ix3 b r n) = u4 (ix3 b r j) := by
  unfold besideAll
  exact piece3_at (A := 4) (B := 4352) (N := 1408) (W := 384) _ _ b r n 4 (by show 4 < 8; decide) u4 rfl 512 rfl j.val j.isLt hn

/-- The part from lane 896. -/
theorem besideAll_5 (u0 : FVec Ideal S4x4352x192 .f32) (u1 : FVec Ideal S4x4352x64 .f32) (u2 : FVec Ideal S4x4352x192 .f32)
    (u3 : FVec Ideal S4x4352x64 .f32) (u4 u5 : FVec Ideal S4x4352x384 .f32) (u6 : FVec Ideal S4x4352x32 .f32)
    (u7 : FVec Ideal S4x4352x96 .f32) (b : Fin 4) (r : Fin 4352) (n : Fin 1408) (j : Fin 384) (hn : 896 + j.val = n.val) :
    besideAll u0 u1 u2 u3 u4 u5 u6 u7 (ix3 b r n) = u5 (ix3 b r j) := by
  unfold besideAll
  exact piece3_at (A := 4) (B := 4352) (N := 1408) (W := 384) _ _ b r n 5 (by show 5 < 8; decide) u5 rfl 896 rfl j.val j.isLt hn

/-- The part from lane 1280. -/
theorem besideAll_6 (u0 : FVec Ideal S4x4352x192 .f32) (u1 : FVec Ideal S4x4352x64 .f32) (u2 : FVec Ideal S4x4352x192 .f32)
    (u3 : FVec Ideal S4x4352x64 .f32) (u4 u5 : FVec Ideal S4x4352x384 .f32) (u6 : FVec Ideal S4x4352x32 .f32)
    (u7 : FVec Ideal S4x4352x96 .f32) (b : Fin 4) (r : Fin 4352) (n : Fin 1408) (j : Fin 32) (hn : 1280 + j.val = n.val) :
    besideAll u0 u1 u2 u3 u4 u5 u6 u7 (ix3 b r n) = u6 (ix3 b r j) := by
  unfold besideAll
  exact piece3_at (A := 4) (B := 4352) (N := 1408) (W := 32) _ _ b r n 6 (by show 6 < 8; decide) u6 rfl 1280 rfl j.val j.isLt hn

/-- The part from lane 1312. -/
theorem besideAll_7 (u0 : FVec Ideal S4x4352x192 .f32) (u1 : FVec Ideal S4x4352x64 .f32) (u2 : FVec Ideal S4x4352x192 .f32)
    (u3 : FVec Ideal S4x4352x64 .f32) (u4 u5 : FVec Ideal S4x4352x384 .f32) (u6 : FVec Ideal S4x4352x32 .f32)
    (u7 : FVec Ideal S4x4352x96 .f32) (b : Fin 4) (r : Fin 4352) (n : Fin 1408) (j : Fin 96) (hn : 1312 + j.val = n.val) :
    besideAll u0 u1 u2 u3 u4 u5 u6 u7 (ix3 b r n) = u7 (ix3 b r j) := by
  unfold besideAll
  exact piece3_at (A := 4) (B := 4352) (N := 1408) (W := 96) _ _ b r n 7 (by show 7 < 8; decide) u7 rfl 1312 rfl j.val j.isLt hn

/-- The lanes of zeros. -/
theorem zeros_at {s : Shape} (h : S_.BroadcastsInDim s ![]) (i : s.Idx) :
    broadcastInDim s ![] h (constant (F := Ideal) S_ .f32 0x00000000#32) i = (0 : EReal) :=
  Ideal.ofBits_zero .f32

/-- The reference's columns of the gated linear attention. -/
theorem ref_gla (x : FVec Ideal S4x4352x1024 .f32) (mod : FVec Ideal S4x2x2x1024 .f32) (w : FVec Ideal S1024x3488 .f32) :
    glaCols (products (modRows x mod) w)
      = (fun i => gla x mod w (i 0).val (i 1).val (i 2).val : FVec Ideal S4x4352x1408 .f32) := by
  refine funext fun i => ?_
  rw [eq_ix3 i]
  show _ = gla x mod w (i 0).val (i 1).val (i 2).val
  generalize i 0 = b
  generalize i 1 = r
  generalize i 2 = n
  have hi : n.val < 1408 := n.isLt
  unfold glaCols gla
  by_cases h0 : n.val < 192
  · rw [besideAll_0 _ _ _ _ _ _ _ _ b r n ⟨n.val - 0, by omega⟩ (by show 0 + (n.val - 0) = n.val; omega), if_pos h0]
    exact cols_at x mod w _ b r (⟨n.val - 0, by omega⟩ : Fin 192) (by show 768 + (n.val - 0) < 3488; omega)
  by_cases h1 : n.val < 256
  · rw [besideAll_1 _ _ _ _ _ _ _ _ b r n ⟨n.val - 192, by omega⟩ (by show 192 + (n.val - 192) = n.val; omega), if_neg h0, if_pos h1]
    exact zeros_at _ _
  by_cases h2 : n.val < 448
  · rw [besideAll_2 _ _ _ _ _ _ _ _ b r n ⟨n.val - 256, by omega⟩ (by show 256 + (n.val - 256) = n.val; omega), if_neg h0, if_neg h1, if_pos h2]
    exact cols_at x mod w _ b r (⟨n.val - 256, by omega⟩ : Fin 192) (by show 960 + (n.val - 256) < 3488; omega)
  by_cases h3 : n.val < 512
  · rw [besideAll_3 _ _ _ _ _ _ _ _ b r n ⟨n.val - 448, by omega⟩ (by show 448 + (n.val - 448) = n.val; omega), if_neg h0, if_neg h1, if_neg h2, if_pos h3]
    exact zeros_at _ _
  by_cases h4 : n.val < 896
  · rw [besideAll_4 _ _ _ _ _ _ _ _ b r n ⟨n.val - 512, by omega⟩ (by show 512 + (n.val - 512) = n.val; omega), if_neg h0, if_neg h1, if_neg h2, if_neg h3, if_pos h4]
    exact cols_at x mod w _ b r (⟨n.val - 512, by omega⟩ : Fin 384) (by show 1152 + (n.val - 512) < 3488; omega)
  by_cases h5 : n.val < 1280
  · rw [besideAll_5 _ _ _ _ _ _ _ _ b r n ⟨n.val - 896, by omega⟩ (by show 896 + (n.val - 896) = n.val; omega), if_neg h0, if_neg h1, if_neg h2, if_neg h3, if_neg h4, if_pos h5]
    exact cols_at x mod w _ b r (⟨n.val - 896, by omega⟩ : Fin 384) (by show 1568 + (n.val - 896) < 3488; omega)
  by_cases h6 : n.val < 1312
  · rw [besideAll_6 _ _ _ _ _ _ _ _ b r n ⟨n.val - 1280, by omega⟩ (by show 1280 + (n.val - 1280) = n.val; omega), if_neg h0, if_neg h1, if_neg h2, if_neg h3, if_neg h4, if_neg h5, if_pos h6]
    exact cols_at x mod w _ b r (⟨n.val - 1280, by omega⟩ : Fin 32) (by show 1536 + (n.val - 1280) < 3488; omega)
  rw [besideAll_7 _ _ _ _ _ _ _ _ b r n ⟨n.val - 1312, by omega⟩ (by show 1312 + (n.val - 1312) = n.val; omega), if_neg h0, if_neg h1, if_neg h2, if_neg h3, if_neg h4, if_neg h5, if_neg h6]
  exact zeros_at _ _

/-- The reference's values. -/
theorem ref_values (x : FVec Ideal S4x4352x1024 .f32) (mod : FVec Ideal S4x2x2x1024 .f32) (w : FVec Ideal S1024x3488 .f32) :
    truncf .bf16 (extractStridedSlice S4x4352x256 ![0, 0, 512] (products (modRows x mod) w) slices_S4x4352x3488_S4x4352x256_0_0_512)
        bitsLt_bf16_f32
      = (fun i => proj x mod w (i 0).val (i 1).val (512 + (i 2).val) : FVec Ideal S4x4352x256 .bf16) := by
  refine funext fun i => ?_
  have hi : (i 2).val < 256 := (i 2).isLt
  rw [eq_ix3 i]
  exact cols_at x mod w slices_S4x4352x3488_S4x4352x256_0_0_512 (i 0) (i 1) (i 2) (by omega)

/-- The reference's last columns. -/
theorem ref_rest (x : FVec Ideal S4x4352x1024 .f32) (mod : FVec Ideal S4x2x2x1024 .f32) (w : FVec Ideal S1024x3488 .f32) :
    extractStridedSlice S4x4352x1536 ![0, 0, 1952] (products (modRows x mod) w) slices_S4x4352x3488_S4x4352x1536_0_0_1952
      = (fun i => proj x mod w (i 0).val (i 1).val (1952 + (i 2).val) : FVec Ideal S4x4352x1536 .f32) := by
  refine funext fun i => ?_
  have hi : (i 2).val < 1536 := (i 2).isLt
  rw [eq_ix3 i]
  exact cols_at x mod w slices_S4x4352x3488_S4x4352x1536_0_0_1952 (i 0) (i 1) (i 2) (by omega)

/-- The reference's first result, for the arguments it is given. -/
theorem result89 (m : (ℓ : Loc nD τ sig) → Buf (Elt Ideal) ℓ) (c : Dev nD)
    (a0 : FVec Ideal S4x4352x1024 .f32)
    (a1 : FVec Ideal S4x2x2x1024 .f32)
    (a2 : FVec Ideal S1024x3488 .f32)
    (a3 : FVec Ideal S4096x32 .f32)
    (a4 : FVec Ideal S4096x32 .f32)
    (e0 : m ((c.tc : Thread nD τ).loc main_arg0) = a0)
    (e1 : m ((c.tc : Thread nD τ).loc main_arg1) = a1)
    (e2 : m ((c.tc : Thread nD τ).loc main_arg2) = a2)
    (e3 : m ((c.tc : Thread nD τ).loc main_arg3) = a3)
    (e4 : m ((c.tc : Thread nD τ).loc main_arg4) = a4) :
    res_main_v89 m c = (fun i => qk a0 a1 a2 a3 a4 (i 0).val (i 1).val (i 2).val : FVec Ideal S4x4352x512 .bf16) := by
  subst e0 e1 e2 e3 e4
  exact (res89_eq m c).trans (ref_qk _ _ _ _ _)

/-- The reference's third result, for the arguments it is given. -/
theorem result87 (m : (ℓ : Loc nD τ sig) → Buf (Elt Ideal) ℓ) (c : Dev nD)
    (a0 : FVec Ideal S4x4352x1024 .f32)
    (a1 : FVec Ideal S4x2x2x1024 .f32)
    (a2 : FVec Ideal S1024x3488 .f32)
    (e0 : m ((c.tc : Thread nD τ).loc main_arg0) = a0)
    (e1 : m ((c.tc : Thread nD τ).loc main_arg1) = a1)
    (e2 : m ((c.tc : Thread nD τ).loc main_arg2) = a2) :
    res_main_v87 m c = (fun i => gla a0 a1 a2 (i 0).val (i 1).val (i 2).val : FVec Ideal S4x4352x1408 .f32) := by
  subst e0 e1 e2
  exact (res87_eq m c).trans (ref_gla _ _ _)

/-- The reference's second result, for the arguments it is given. -/
theorem result90 (m : (ℓ : Loc nD τ sig) → Buf (Elt Ideal) ℓ) (c : Dev nD)
    (a0 : FVec Ideal S4x4352x1024 .f32)
    (a1 : FVec Ideal S4x2x2x1024 .f32)
    (a2 : FVec Ideal S1024x3488 .f32)
    (e0 : m ((c.tc : Thread nD τ).loc main_arg0) = a0)
    (e1 : m ((c.tc : Thread nD τ).loc main_arg1) = a1)
    (e2 : m ((c.tc : Thread nD τ).loc main_arg2) = a2) :
    (truncf .bf16 (extractStridedSlice S4x4352x256 ![0, 0, 512] (products (modRows (m ((c.tc : Thread nD τ).loc main_arg0))
        (m ((c.tc : Thread nD τ).loc main_arg1))) (m ((c.tc : Thread nD τ).loc main_arg2))) slices_S4x4352x3488_S4x4352x256_0_0_512)
        bitsLt_bf16_f32 : FVec Ideal S4x4352x256 .bf16)
      = (fun i => proj a0 a1 a2 (i 0).val (i 1).val (512 + (i 2).val) : FVec Ideal S4x4352x256 .bf16) := by
  subst e0 e1 e2
  exact ref_values _ _ _

/-- The reference's fourth result, for the arguments it is given. -/
theorem result91 (m : (ℓ : Loc nD τ sig) → Buf (Elt Ideal) ℓ) (c : Dev nD)
    (a0 : FVec Ideal S4x4352x1024 .f32)
    (a1 : FVec Ideal S4x2x2x1024 .f32)
    (a2 : FVec Ideal S1024x3488 .f32)
    (e0 : m ((c.tc : Thread nD τ).loc main_arg0) = a0)
    (e1 : m ((c.tc : Thread nD τ).loc main_arg1) = a1)
    (e2 : m ((c.tc : Thread nD τ).loc main_arg2) = a2) :
    (extractStridedSlice S4x4352x1536 ![0, 0, 1952] (products (modRows (m ((c.tc : Thread nD τ).loc main_arg0))
        (m ((c.tc : Thread nD τ).loc main_arg1))) (m ((c.tc : Thread nD τ).loc main_arg2))) slices_S4x4352x3488_S4x4352x1536_0_0_1952 : FVec Ideal S4x4352x1536 .f32)
      = (fun i => proj a0 a1 a2 (i 0).val (i 1).val (1952 + (i 2).val) : FVec Ideal S4x4352x1536 .f32) := by
  subst e0 e1 e2
  exact ref_rest _ _ _

/-- The reference's run, its results as functions of the arguments' entries and its arguments unchanged. -/
theorem run_entries (m : (ℓ : Loc nD τ sig) → Buf (Elt Ideal) ℓ) (ρ : Dev nD → PrngReg)
    (a0 : Dev nD → FVec Ideal S4x4352x1024 .f32) (a1 : Dev nD → FVec Ideal S4x2x2x1024 .f32) (a2 : Dev nD → FVec Ideal S1024x3488 .f32)
    (a3 a4 : Dev nD → FVec Ideal S4096x32 .f32)
    (e : ∀ c : Dev nD, m ((c.tc : Thread nD τ).loc main_arg0) = a0 c ∧ m ((c.tc : Thread nD τ).loc main_arg1) = a1 c
      ∧ m ((c.tc : Thread nD τ).loc main_arg2) = a2 c ∧ m ((c.tc : Thread nD τ).loc main_arg3) = a3 c
      ∧ m ((c.tc : Thread nD τ).loc main_arg4) = a4 c) :
    θ_run (defs (F := Ideal)) (onTc (τ := τ) (main (F := Ideal))) ⟨m, fun _ => 0, ρ⟩ (fun r => ∀ c : Dev nD,
      r.2.mem ((c.tc : Thread nD τ).loc main_v89)
        = (fun i => qk (a0 c) (a1 c) (a2 c) (a3 c) (a4 c) (i 0).val (i 1).val (i 2).val : FVec Ideal S4x4352x512 .bf16)
      ∧ r.2.mem ((c.tc : Thread nD τ).loc main_v90)
        = (fun i => proj (a0 c) (a1 c) (a2 c) (i 0).val (i 1).val (512 + (i 2).val) : FVec Ideal S4x4352x256 .bf16)
      ∧ r.2.mem ((c.tc : Thread nD τ).loc main_v87)
        = (fun i => gla (a0 c) (a1 c) (a2 c) (i 0).val (i 1).val (i 2).val : FVec Ideal S4x4352x1408 .f32)
      ∧ r.2.mem ((c.tc : Thread nD τ).loc main_v91)
        = (fun i => proj (a0 c) (a1 c) (a2 c) (i 0).val (i 1).val (1952 + (i 2).val) : FVec Ideal S4x4352x1536 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run (F := Ideal) m ρ)
  obtain ⟨e0, e1, e2, e3, e4⟩ := e c
  obtain ⟨r0, r1, r2, r3, rest⟩ := h c
  exact ⟨r0.trans (result89 m c _ _ _ _ _ e0 e1 e2 e3 e4), r1.trans (result90 m c _ _ _ e0 e1 e2),
    r2.trans (result87 m c _ _ _ e0 e1 e2), r3.trans (result91 m c _ _ _ e0 e1 e2), rest⟩

end Cert.Reference2Ideal.Proj

end
-- ==== Proof.ExpertBodyBits.lean ====
module

public import proofs.«01_k».proof.Proof.Gen.Kernel3.Launch
public import proofs.«01_k».proof.Proof.Gen.Kernel3.Flash.Runs
public import Idealize.ShloMosaic.Lib.VecWindow

/-! What one grid point of the experts' call leaves behind, by the three ways its three branches can go: the point's expert
differs from the last one's and the point is used; the expert is the last one's and the point is used; the point is unused. -/

@[expose] public section

set_option maxRecDepth 16384

noncomputable section

namespace Cert.Kernel3.Experts

open Cert.Kernel3 Cert.Kernel3.Gen
open Idealize.ShloMosaic
open Idealize.ShloMosaic.TcCoe Idealize.ShloMosaic.Tactic
open Idealize.SL Idealize.SL.Sem

/-- The word of the experts' table at grid point `i`. -/
abbrev here (T0 : S304.Idx → Elt Bits .i32) (i : grid0.Coords) : BitVec 32 :=
  View.readAt (Elt Bits) (tbM0_0).view (Rect.unit (s := S304) (k0_off1 i) S1.size (k0_off1_inb i)).toLoadRect T0 (Shape.Idx.first (numel1_S1.symm ▸ Nat.one_pos))

/-- The word of the experts' table at the grid point before `i` (the first point's own at the first). -/
abbrev last (T0 : S304.Idx → Elt Bits .i32) (i : grid0.Coords) : BitVec 32 :=
  View.readAt (Elt Bits) (tbM0_0).view (Rect.unit (s := S304) (k0_off2 i) S1.size (k0_off2_inb i)).toLoadRect T0 (Shape.Idx.first (numel1_S1.symm ▸ Nat.one_pos))

/-- The number of used points. -/
abbrev many (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

/-- The point is used and its weights are to be loaded: the first branch's condition. -/
abbrev Fresh (T0 : S304.Idx → Elt Bits .i32) (T1 : S1.Idx → Elt Bits .i32) (i : grid0.Coords) : Prop :=
  (Scalar.cmpi .ne (Scalar.extui (Scalar.andi (Scalar.ori (Scalar.cmpi .eq (BitVec.ofNat 32 (i 0).val) 0#32) (Scalar.cmpi .ne (here T0 i) (last T0 i))) (Scalar.cmpi .slt (BitVec.ofNat 32 (i 0).val) (many T1)))) 0#32) = 1#1

/-- The point is used: the second branch's condition. -/
abbrev Used (T1 : S1.Idx → Elt Bits .i32) (i : grid0.Coords) : Prop := k0_cond2 i (many T1) = 1#1

/-- The point is unused: the third branch's condition. -/
abbrev Idle (T1 : S1.Idx → Elt Bits .i32) (i : grid0.Coords) : Prop := k0_cond3 i (many T1) = 1#1

/-- A bit made a word is not zero exactly when the bit is set. -/
theorem ne_zero_bit (b : BitVec 1) : Scalar.cmpi .ne (Scalar.extui b) 0#32 = b := by revert b; decide

/-- Of two conjoined bits that give one, the second is one. -/
theorem and_right (a b : BitVec 1) : Scalar.andi a b = 1#1 → b = 1#1 := by revert a b; decide

/-- Of two conjoined bits that do not give one where the second is one, the first is not one. -/
theorem and_left (a b : BitVec 1) : ¬Scalar.andi a b = 1#1 → b = 1#1 → ¬a = 1#1 := by revert a b; decide

/-- Two disjoined bits that do not give one are both not one. -/
theorem or_not (a b : BitVec 1) : ¬Scalar.ori a b = 1#1 → ¬a = 1#1 ∧ ¬b = 1#1 := by revert a b; decide

/-- Less is a bit that is the opposite of the bit of at least. -/
theorem sge_bit (x y : BitVec 32) : (Scalar.cmpi .sge x y = 1#1) ↔ ¬(Scalar.cmpi .slt x y = 1#1) := by
  simp only [Scalar.cmpi, IntOp.cmpi, BitVec.slt, BitVec.sle]
  by_cases h : x.toInt < y.toInt <;> simp [h, not_le.mpr, not_lt.mp, le_of_not_gt] <;> omega

/-- A point whose weights are to be loaded is used. -/
theorem used_of_fresh {T0 : S304.Idx → Elt Bits .i32} {T1 : S1.Idx → Elt Bits .i32} {i : grid0.Coords} (h : Fresh T0 T1 i) : Used T1 i := by
  unfold Fresh at h; rw [ne_zero_bit] at h
  unfold Used k0_cond2; dsimp only; rw [ne_zero_bit]
  exact and_right _ _ h

/-- A point is unused exactly when it is not used. -/
theorem idle_iff {T1 : S1.Idx → Elt Bits .i32} {i : grid0.Coords} : Idle T1 i ↔ ¬Used T1 i := by
  unfold Idle Used k0_cond3 k0_cond2; dsimp only; rw [ne_zero_bit, ne_zero_bit]
  exact sge_bit _ _

/-- A used point that loads no weights is not the first, and has the expert of the one before. -/
theorem same_of_not_fresh {T0 : S304.Idx → Elt Bits .i32} {T1 : S1.Idx → Elt Bits .i32} {i : grid0.Coords} (h : ¬Fresh T0 T1 i) (hu : Used T1 i) :
    (i 0).val ≠ 0 ∧ here T0 i = last T0 i := by
  unfold Fresh at h; rw [ne_zero_bit] at h
  unfold Used k0_cond2 at hu; dsimp only at hu; rw [ne_zero_bit] at hu
  obtain ⟨h1, h2⟩ := or_not _ _ (and_left _ _ h hu)
  refine ⟨fun h0 => h1 ?_, ?_⟩
  · rw [h0]; decide
  · by_contra hne
    exact h2 (by show BitVec.ofBool (here T0 i != last T0 i) = 1#1; rw [bne_iff_ne.mpr hne]; rfl)

/-- What a used point computes from its rows, its biases and the three weights kept in scratch. -/
abbrev product (x : S256x1024.Idx → Elt Bits .f32) (g : S1024x1024.Idx → Elt Bits .bf16) (bg : S1x1x1024.Idx → Elt Bits .f32) (u : S1024x1024.Idx → Elt Bits .bf16)
    (bu : S1x1x1024.Idx → Elt Bits .f32) (d : S1024x1024.Idx → Elt Bits .bf16) (bd : S1x1x1024.Idx → Elt Bits .f32) : S256x1024.Idx → Elt Bits .f32 :=
  k0_pay5 x g bg u bu d bd

/-- Equal arguments give equal products. -/
theorem product_congr {x x' : S256x1024.Idx → Elt Bits .f32} {g g' : S1024x1024.Idx → Elt Bits .bf16} {bg bg' : S1x1x1024.Idx → Elt Bits .f32} {u u' : S1024x1024.Idx → Elt Bits .bf16}
    {bu bu' : S1x1x1024.Idx → Elt Bits .f32} {d d' : S1024x1024.Idx → Elt Bits .bf16} {bd bd' : S1x1x1024.Idx → Elt Bits .f32}
    (hx : x = x') (hg : g = g') (hbg : bg = bg') (hu : u = u') (hbu : bu = bu') (hd : d = d') (hbd : bd = bd') :
    product x g bg u bu d bd = product x' g' bg' u' bu' d' bd' := by
  subst hx; subst hg; subst hbg; subst hu; subst hbu; subst hd; subst hbd; rfl

section
variable (c : Dev nD) (i : grid0.Coords)
    (arg3 : Memref sig .tc .vmem S256x1024 .f32) (harg3 : arg3.IsWhole)
    (arg4 : Memref sig .tc .vmem S1x1024x1024 .f32) (harg4 : arg4.IsWhole)
    (arg5 : Memref sig .tc .vmem S1x1x1024 .f32) (harg5 : arg5.IsWhole)
    (arg6 : Memref sig .tc .vmem S1x1024x1024 .f32) (harg6 : arg6.IsWhole)
    (arg7 : Memref sig .tc .vmem S1x1x1024 .f32) (harg7 : arg7.IsWhole)
    (arg8 : Memref sig .tc .vmem S1x1024x1024 .f32) (harg8 : arg8.IsWhole)
    (arg9 : Memref sig .tc .vmem S1x1x1024 .f32) (harg9 : arg9.IsWhole)
    (arg10 : Memref sig .tc .vmem S256x1024 .f32) (harg10 : arg10.IsWhole)
    (T0 : S304.Idx → Elt Bits .i32) (T1 : S1.Idx → Elt Bits .i32)
    (x0 : S256x1024.Idx → Elt Bits .f32)
    (x1 : S1x1024x1024.Idx → Elt Bits .f32)
    (x2 : S1x1x1024.Idx → Elt Bits .f32)
    (x3 : S1x1024x1024.Idx → Elt Bits .f32)
    (x4 : S1x1x1024.Idx → Elt Bits .f32)
    (x5 : S1x1024x1024.Idx → Elt Bits .f32)
    (x6 : S1x1x1024.Idx → Elt Bits .f32)

/-- A point that loads its weights leaves the product with them. -/
theorem out_fresh (hc0 : Fresh T0 T1 i) (h2 : Used T1 i) (h3 : ¬Idle T1 i) :
    out0_A_7 c i arg3 harg3 arg4 harg4 arg5 harg5 arg6 harg6 arg7 harg7 arg8 harg8 arg9 harg9 arg10 harg10 T0 T1 x0 x1 x2 x3 x4 x5 x6 hc0 h2 h3 = product x0 (k0_pay1 x1) x2 (k0_pay2 x3) x4 (k0_pay3 x5) x6 := by
  unfold out0_A_7 kernelRun0_A kernelRun0_A.sl.HO7_1 kernelRun0_A.sl.r_3; dsimp only
  rw [View.read_writes_full]
  exact product_congr (View.readAt_rep_full _ _ _)
    ((View.readCov_full _ _ _ _ _).trans (congrArg k0_pay1 (View.readAt_rep_full _ _ _))) (View.readAt_rep_full _ _ _)
    ((View.readCov_full _ _ _ _ _).trans (congrArg k0_pay2 (View.readAt_rep_full _ _ _))) (View.readAt_rep_full _ _ _)
    ((View.readCov_full _ _ _ _ _).trans (congrArg k0_pay3 (View.readAt_rep_full _ _ _))) (View.readAt_rep_full _ _ _)

/-- A point that loads its weights leaves the first of them in the first scratch, cast. -/
theorem keep0_fresh (hc0 : Fresh T0 T1 i) (h2 : Used T1 i) (h3 : ¬Idle T1 i) :
    scM0_0.view.read (Elt Bits) (kernelRun0_A c i arg3 harg3 arg4 harg4 arg5 harg5 arg6 harg6 arg7 harg7 arg8 harg8 arg9 harg9 arg10 harg10 T0 T1 x0 x1 x2 x3 x4 x5 x6 hc0 h2 h3).2.1 = k0_pay1 x1 := by
  unfold kernelRun0_A kernelRun0_A.sl.HS0_1; dsimp only
  rw [View.read_writes_full]
  exact congrArg k0_pay1 (View.readAt_rep_full _ _ _)

/-- The second likewise. -/
theorem keep1_fresh (hc0 : Fresh T0 T1 i) (h2 : Used T1 i) (h3 : ¬Idle T1 i) :
    scM0_1.view.read (Elt Bits) (kernelRun0_A c i arg3 harg3 arg4 harg4 arg5 harg5 arg6 harg6 arg7 harg7 arg8 harg8 arg9 harg9 arg10 harg10 T0 T1 x0 x1 x2 x3 x4 x5 x6 hc0 h2 h3).2.2.1 = k0_pay2 x3 := by
  unfold kernelRun0_A kernelRun0_A.sl.HS1_1; dsimp only
  rw [View.read_writes_full]
  exact congrArg k0_pay2 (View.readAt_rep_full _ _ _)

/-- The third likewise. -/
theorem keep2_fresh (hc0 : Fresh T0 T1 i) (h2 : Used T1 i) (h3 : ¬Idle T1 i) :
    scM0_2.view.read (Elt Bits) (kernelRun0_A c i arg3 harg3 arg4 harg4 arg5 harg5 arg6 harg6 arg7 harg7 arg8 harg8 arg9 harg9 arg10 harg10 T0 T1 x0 x1 x2 x3 x4 x5 x6 hc0 h2 h3).2.2.2.1 = k0_pay3 x5 := by
  unfold kernelRun0_A kernelRun0_A.sl.HS2_1; dsimp only
  rw [View.read_writes_full]
  exact congrArg k0_pay3 (View.readAt_rep_full _ _ _)

variable (xa0 : Buf (Elt Bits) ((c : Thread nD τ).loc cc0_scratch0)) (xa1 : Buf (Elt Bits) ((c : Thread nD τ).loc cc0_scratch1)) (xa2 : Buf (Elt Bits) ((c : Thread nD τ).loc cc0_scratch2))

/-- A used point that loads no weights leaves the product with the kept ones. -/
theorem out_same (hc0 : ¬Fresh T0 T1 i) (h2 : Used T1 i) (h3 : ¬Idle T1 i) :
    out0_B_7 c i arg3 harg3 arg4 harg4 arg5 harg5 arg6 harg6 arg7 harg7 arg8 harg8 arg9 harg9 arg10 harg10 T0 T1 x0 x1 x2 x3 x4 x5 x6 xa0 xa1 xa2 hc0 h2 h3
      = product x0 (scM0_0.view.read (Elt Bits) xa0) x2 (scM0_1.view.read (Elt Bits) xa1) x4 (scM0_2.view.read (Elt Bits) xa2) x6 := by
  unfold out0_B_7 kernelRun0_B kernelRun0_B.sl.HO7_1 kernelRun0_B.sl.r_3; dsimp only
  rw [View.read_writes_full]
  exact product_congr (View.readAt_rep_full _ _ _) (View.readAt_full _ _ _) (View.readAt_rep_full _ _ _)
    (View.readAt_full _ _ _) (View.readAt_rep_full _ _ _) (View.readAt_full _ _ _) (View.readAt_rep_full _ _ _)

/-- It leaves the kept weights as they were. -/
theorem keep_same (hc0 : ¬Fresh T0 T1 i) (h2 : Used T1 i) (h3 : ¬Idle T1 i) :
    (kernelRun0_B c i arg3 harg3 arg4 harg4 arg5 harg5 arg6 harg6 arg7 harg7 arg8 harg8 arg9 harg9 arg10 harg10 T0 T1 x0 x1 x2 x3 x4 x5 x6 xa0 xa1 xa2 hc0 h2 h3).2.1 = xa0
      ∧ (kernelRun0_B c i arg3 harg3 arg4 harg4 arg5 harg5 arg6 harg6 arg7 harg7 arg8 harg8 arg9 harg9 arg10 harg10 T0 T1 x0 x1 x2 x3 x4 x5 x6 xa0 xa1 xa2 hc0 h2 h3).2.2.1 = xa1
      ∧ (kernelRun0_B c i arg3 harg3 arg4 harg4 arg5 harg5 arg6 harg6 arg7 harg7 arg8 harg8 arg9 harg9 arg10 harg10 T0 T1 x0 x1 x2 x3 x4 x5 x6 xa0 xa1 xa2 hc0 h2 h3).2.2.2.1 = xa2 := by
  unfold kernelRun0_B; exact ⟨rfl, rfl, rfl⟩

/-- An unused point leaves zeros. -/
theorem out_idle (hc0 : ¬Fresh T0 T1 i) (h2 : ¬Used T1 i) (h3 : Idle T1 i) :
    out0_C_7 c i arg3 harg3 arg4 harg4 arg5 harg5 arg6 harg6 arg7 harg7 arg8 harg8 arg9 harg9 arg10 harg10 T0 T1 x0 x1 x2 x3 x4 x5 x6 xa0 xa1 xa2 hc0 h2 h3 = k0_pay4 (F := Bits) := by
  unfold out0_C_7 kernelRun0_C kernelRun0_C.sl.HO7_1; dsimp only
  rw [View.read_writes_full]

end

end Cert.Kernel3.Experts

end
-- ==== Proof.ExpertRunBits.lean ====
module

public import proofs.«01_k».proof.Proof.ExpertBodyBits
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Idealize.ShloMosaic.Lib.Pipeline.ValueKit
public import Idealize.ShloMosaic.Lib.Pointwise

/-! The experts' call from any table of experts below 32 and any number of used points: what each grid point leaves, that every
execution ends, and that the arguments stay. -/

@[expose] public section

set_option maxRecDepth 16384
set_option Elab.async false

noncomputable section

namespace Cert.Kernel3.Experts

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resources: the staging cells'. -/
abbrev EP : Emb (UR sig nD τ) 𝕄 := emb₁

variable (m : (ℓ : Loc nD τ sig) → Buf (Elt Bits) ℓ)

/-- The table of the points' experts. -/
abbrev T0 : S304.Idx → Elt Bits .i32 := m (((0 : Dev nD) : Thread nD τ).loc main_arg0)

/-- The number of used points, as a table of one word. -/
abbrev T1 : S1.Idx → Elt Bits .i32 := m (((0 : Dev nD) : Thread nD τ).loc main_arg1)

/-- The two tables together. -/
def pfM : pre0.Contents (Elt Bits) := fun | ⟨0, _⟩ => T0 m | ⟨1, _⟩ => T1 m | ⟨_ + 2, h⟩ => absurd h (by simp)

/-- Every expert is one of the 32. -/
def Few : Prop := ∀ x : S304.Idx, (T0 m x : BitVec 32).toNat < 32

variable (hok : Few m)

/-- The expert of a point is one of the 32. -/
theorem few_at (h : Few m) (i : grid0.Coords) : (here (T0 m) i).toNat < 32 := h _

/-- Blocks at experts of the 32 lie inside the arrays. -/
theorem ok_few (h : Few m) : ok0 (F := Bits) (pfM m) := by
  have hi := few_at m h
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  all_goals
    match a with
    | ⟨0, _⟩ => show ((here (T0 m) i).toNat + 1) * 1 ≤ 32; have := hi i; omega
    | ⟨1, _⟩ => first | exact (by decide : (0 + 1) * 1024 ≤ 1024) | exact (by decide : (0 + 1) * 1 ≤ 1)
    | ⟨2, _⟩ => exact (by decide : (0 + 1) * 1024 ≤ 1024)

/-- The tables, admissible. -/
def adm : (pcfg0 (F := Bits)).Adm := ⟨pfM m, ok_few m hok⟩

/-- The pipeline at the tables. -/
abbrev cfgA : Pipeline.Cfg sig Λ₀ := cfg0 (F := Bits) (adm m hok)

/-- The one pipeline of the program. -/
abbrev pcs : Fin 1 → Pipeline.Cfg sig Λ₀ := Pipeline.pin (pcfgs (F := Bits)) fun _ => adm m hok

variable (ρ : Dev nD → PrngReg)

/-- A point's coordinates. -/
abbrev crd (t : Fin (cfgA m hok).N) : grid0.Coords := (cfgA m hok).grid.coords t

abbrev ms0_0 (t : Fin (cfgA m hok).N) : Memref sig .tc .vmem S256x1024 .f32 := spec0_0.stage ((cfgA m hok).slots t (0 : Fin 8))
abbrev hs0_0 (t : Fin (cfgA m hok).N) : (ms0_0 m hok t).IsWhole := hstage0_0 (((cfgA m hok).slots t (0 : Fin 8)).cast nbuf0_0)
abbrev ms0_1 (t : Fin (cfgA m hok).N) : Memref sig .tc .vmem S1x1024x1024 .f32 := spec0_1.stage ((cfgA m hok).slots t (1 : Fin 8))
abbrev hs0_1 (t : Fin (cfgA m hok).N) : (ms0_1 m hok t).IsWhole := hstage0_1 (((cfgA m hok).slots t (1 : Fin 8)).cast nbuf0_1)
abbrev ms0_2 (t : Fin (cfgA m hok).N) : Memref sig .tc .vmem S1x1x1024 .f32 := spec0_2.stage ((cfgA m hok).slots t (2 : Fin 8))
abbrev hs0_2 (t : Fin (cfgA m hok).N) : (ms0_2 m hok t).IsWhole := hstage0_2 (((cfgA m hok).slots t (2 : Fin 8)).cast nbuf0_2)
abbrev ms0_3 (t : Fin (cfgA m hok).N) : Memref sig .tc .vmem S1x1024x1024 .f32 := spec0_3.stage ((cfgA m hok).slots t (3 : Fin 8))
abbrev hs0_3 (t : Fin (cfgA m hok).N) : (ms0_3 m hok t).IsWhole := hstage0_3 (((cfgA m hok).slots t (3 : Fin 8)).cast nbuf0_3)
abbrev ms0_4 (t : Fin (cfgA m hok).N) : Memref sig .tc .vmem S1x1x1024 .f32 := spec0_4.stage ((cfgA m hok).slots t (4 : Fin 8))
abbrev hs0_4 (t : Fin (cfgA m hok).N) : (ms0_4 m hok t).IsWhole := hstage0_4 (((cfgA m hok).slots t (4 : Fin 8)).cast nbuf0_4)
abbrev ms0_5 (t : Fin (cfgA m hok).N) : Memref sig .tc .vmem S1x1024x1024 .f32 := spec0_5.stage ((cfgA m hok).slots t (5 : Fin 8))
abbrev hs0_5 (t : Fin (cfgA m hok).N) : (ms0_5 m hok t).IsWhole := hstage0_5 (((cfgA m hok).slots t (5 : Fin 8)).cast nbuf0_5)
abbrev ms0_6 (t : Fin (cfgA m hok).N) : Memref sig .tc .vmem S1x1x1024 .f32 := spec0_6.stage ((cfgA m hok).slots t (6 : Fin 8))
abbrev hs0_6 (t : Fin (cfgA m hok).N) : (ms0_6 m hok t).IsWhole := hstage0_6 (((cfgA m hok).slots t (6 : Fin 8)).cast nbuf0_6)
abbrev ms0_7 (t : Fin (cfgA m hok).N) : Memref sig .tc .vmem S256x1024 .f32 := spec0_7.stage ((cfgA m hok).slots t (7 : Fin 8))
abbrev hs0_7 (t : Fin (cfgA m hok).N) : (ms0_7 m hok t).IsWhole := hstage0_7 (((cfgA m hok).slots t (7 : Fin 8)).cast nbuf0_7)

/-- An input window's block at a point, read off its array at launch. -/
def iblk (c : Dev nD) (w : Fin (cfgA m hok).W) (t : Fin (cfgA m hok).N) : (((cfgA m hok).win w).xblock (crd m hok t)).Idx → Elt Bits ((cfgA m hok).win w).elt :=
  (((cfgA m hok).win w).blk t).view.read (Elt Bits) ((s₀ m ρ).mem (((cfgA m hok).win w).arr.view.loc (c : Thread nD τ)))

/-- The grid is one axis: a point's coordinate is its number. -/
theorem crd_val : ∀ t : Fin grid0.N, (grid0.coords t 0).val = t.val := by decide +kernel

/-- The rows' window and the output's window lie at the point's number. -/
theorem map7_ne : ∀ t : Fin grid0.N, ∀ h : t.val + 1 < grid0.N, cc0_transform_7 (grid0.coords ⟨t.val + 1, h⟩) ≠ cc0_transform_7 (grid0.coords t) := by decide +kernel

/-- The output is written back at every point. -/
theorem flush7 (t : Fin (cfgA m hok).N) : ((cfgA m hok).win (7 : Fin 8)).flush t = true := by
  unfold Pipeline.Window.flush
  rw [Bool.and_eq_true]
  refine ⟨rfl, ?_⟩
  rw [Bool.or_eq_true]
  by_cases h : t.val + 1 < grid0.N
  · right; rw [decide_eq_true_eq]; exact ⟨h, map7_ne t h⟩
  · left; rw [decide_eq_true_eq]; have := t.isLt; show t.val + 1 = grid0.N
    have e : (cfgA m hok).N = grid0.N := rfl
    omega

/-- Whatever the number of used points, one of the last two branches runs. -/
theorem never_idle (i : grid0.Coords) (v : BitVec 32) : (!(k0_cond2 i v == 1#1) && !(k0_cond3 i v == 1#1)) = false := by
  unfold k0_cond2 k0_cond3; dsimp only; rw [ne_zero_bit, ne_zero_bit]
  by_cases h : Scalar.cmpi .slt (BitVec.ofNat 32 (i 0).val) v = 1#1
  · rw [h]; rfl
  · rw [(sge_bit _ _).mpr h]; simp

/-- No point leaves the output alone. -/
theorem idle7 (t : Fin (cfgA m hok).N) : (cfgA m hok).idle (7 : Fin 8) ((cfgA m hok).grid.coords t) = false := never_idle _ _

/-- Before every point the output's buffer holds nothing. -/
theorem fresh7 (t : Fin (cfgA m hok).N) : (cfgA m hok).fresh (7 : Fin 8) t.val = true :=
  Pipeline.Cfg.fresh_tab (cfgA m hok) (7 : Fin 8) (fun _ => true) rfl (fun t => by rw [flush7]; rfl) t.val (Nat.le_of_lt t.isLt)

/-- The expert of a point is one of the 32. -/
theorem here_lt (t : Fin (cfgA m hok).N) : (here (T0 m) (crd m hok t)).toNat < 32 := few_at m hok _

/-- Where input window 1's block lies: at the point's expert. -/
theorem idx1 (t : Fin (cfgA m hok).N) : ((cfgA m hok).win (1 : Fin 8)).index t = ![(here (T0 m) (crd m hok t)).toNat, 0, 0] := rfl

/-- Input window 1's block at an entry. -/
theorem blk1_at (c : Dev nD) (t : Fin (cfgA m hok).N) (d : Fin 1024) (f : Fin 1024) (he : (here (T0 m) (crd m hok t)).toNat < 32) :
    (iblk m hok ρ c (1 : Fin 8) t : S1x1024x1024.Idx → Elt Bits .f32) (ix3 0 d f) = m ((c : Thread nD τ).loc main_arg3) (ix3 ⟨(here (T0 m) (crd m hok t)).toNat, he⟩ d f) := by
  blk_ext [iblk, idx1 m hok t]

/-- Points of one expert have one block of input window 1. -/
theorem blk1_same (c : Dev nD) (s t : Fin (cfgA m hok).N) (h : here (T0 m) (crd m hok s) = here (T0 m) (crd m hok t)) :
    (iblk m hok ρ c (1 : Fin 8) s : S1x1024x1024.Idx → Elt Bits .f32) = iblk m hok ρ c (1 : Fin 8) t := by
  funext x
  rw [eq_ix3 x]
  have h0 : x 0 = (0 : Fin 1) := Subsingleton.elim (α := Fin 1) _ _
  rw [h0, blk1_at m hok ρ c s (x 1) (x 2) (here_lt m hok s), blk1_at m hok ρ c t (x 1) (x 2) (here_lt m hok t)]
  simp only [h]

/-- Where input window 3's block lies: at the point's expert. -/
theorem idx3 (t : Fin (cfgA m hok).N) : ((cfgA m hok).win (3 : Fin 8)).index t = ![(here (T0 m) (crd m hok t)).toNat, 0, 0] := rfl

/-- Input window 3's block at an entry. -/
theorem blk3_at (c : Dev nD) (t : Fin (cfgA m hok).N) (d : Fin 1024) (f : Fin 1024) (he : (here (T0 m) (crd m hok t)).toNat < 32) :
    (iblk m hok ρ c (3 : Fin 8) t : S1x1024x1024.Idx → Elt Bits .f32) (ix3 0 d f) = m ((c : Thread nD τ).loc main_arg5) (ix3 ⟨(here (T0 m) (crd m hok t)).toNat, he⟩ d f) := by
  blk_ext [iblk, idx3 m hok t]

/-- Points of one expert have one block of input window 3. -/
theorem blk3_same (c : Dev nD) (s t : Fin (cfgA m hok).N) (h : here (T0 m) (crd m hok s) = here (T0 m) (crd m hok t)) :
    (iblk m hok ρ c (3 : Fin 8) s : S1x1024x1024.Idx → Elt Bits .f32) = iblk m hok ρ c (3 : Fin 8) t := by
  funext x
  rw [eq_ix3 x]
  have h0 : x 0 = (0 : Fin 1) := Subsingleton.elim (α := Fin 1) _ _
  rw [h0, blk3_at m hok ρ c s (x 1) (x 2) (here_lt m hok s), blk3_at m hok ρ c t (x 1) (x 2) (here_lt m hok t)]
  simp only [h]

/-- Where input window 5's block lies: at the point's expert. -/
theorem idx5 (t : Fin (cfgA m hok).N) : ((cfgA m hok).win (5 : Fin 8)).index t = ![(here (T0 m) (crd m hok t)).toNat, 0, 0] := rfl

/-- Input window 5's block at an entry. -/
theorem blk5_at (c : Dev nD) (t : Fin (cfgA m hok).N) (d : Fin 1024) (f : Fin 1024) (he : (here (T0 m) (crd m hok t)).toNat < 32) :
    (iblk m hok ρ c (5 : Fin 8) t : S1x1024x1024.Idx → Elt Bits .f32) (ix3 0 d f) = m ((c : Thread nD τ).loc main_arg7) (ix3 ⟨(here (T0 m) (crd m hok t)).toNat, he⟩ d f) := by
  blk_ext [iblk, idx5 m hok t]

/-- Points of one expert have one block of input window 5. -/
theorem blk5_same (c : Dev nD) (s t : Fin (cfgA m hok).N) (h : here (T0 m) (crd m hok s) = here (T0 m) (crd m hok t)) :
    (iblk m hok ρ c (5 : Fin 8) s : S1x1024x1024.Idx → Elt Bits .f32) = iblk m hok ρ c (5 : Fin 8) t := by
  funext x
  rw [eq_ix3 x]
  have h0 : x 0 = (0 : Fin 1) := Subsingleton.elim (α := Fin 1) _ _
  rw [h0, blk5_at m hok ρ c s (x 1) (x 2) (here_lt m hok s), blk5_at m hok ρ c t (x 1) (x 2) (here_lt m hok t)]
  simp only [h]

/-- Where input window 2's block lies: at the point's expert. -/
theorem idx2 (t : Fin (cfgA m hok).N) : ((cfgA m hok).win (2 : Fin 8)).index t = ![(here (T0 m) (crd m hok t)).toNat, 0, 0] := rfl

/-- Input window 2's block at an entry. -/
theorem blk2_at (c : Dev nD) (t : Fin (cfgA m hok).N) (d : Fin 1) (f : Fin 1024) (he : (here (T0 m) (crd m hok t)).toNat < 32) :
    (iblk m hok ρ c (2 : Fin 8) t : S1x1x1024.Idx → Elt Bits .f32) (ix3 0 d f) = m ((c : Thread nD τ).loc main_arg4) (ix3 ⟨(here (T0 m) (crd m hok t)).toNat, he⟩ d f) := by
  blk_ext [iblk, idx2 m hok t]

/-- Where input window 4's block lies: at the point's expert. -/
theorem idx4 (t : Fin (cfgA m hok).N) : ((cfgA m hok).win (4 : Fin 8)).index t = ![(here (T0 m) (crd m hok t)).toNat, 0, 0] := rfl

/-- Input window 4's block at an entry. -/
theorem blk4_at (c : Dev nD) (t : Fin (cfgA m hok).N) (d : Fin 1) (f : Fin 1024) (he : (here (T0 m) (crd m hok t)).toNat < 32) :
    (iblk m hok ρ c (4 : Fin 8) t : S1x1x1024.Idx → Elt Bits .f32) (ix3 0 d f) = m ((c : Thread nD τ).loc main_arg6) (ix3 ⟨(here (T0 m) (crd m hok t)).toNat, he⟩ d f) := by
  blk_ext [iblk, idx4 m hok t]

/-- Where input window 6's block lies: at the point's expert. -/
theorem idx6 (t : Fin (cfgA m hok).N) : ((cfgA m hok).win (6 : Fin 8)).index t = ![(here (T0 m) (crd m hok t)).toNat, 0, 0] := rfl

/-- Input window 6's block at an entry. -/
theorem blk6_at (c : Dev nD) (t : Fin (cfgA m hok).N) (d : Fin 1) (f : Fin 1024) (he : (here (T0 m) (crd m hok t)).toNat < 32) :
    (iblk m hok ρ c (6 : Fin 8) t : S1x1x1024.Idx → Elt Bits .f32) (ix3 0 d f) = m ((c : Thread nD τ).loc main_arg8) (ix3 ⟨(here (T0 m) (crd m hok t)).toNat, he⟩ d f) := by
  blk_ext [iblk, idx6 m hok t]

/-- The word of the table at a point's own place. -/
theorem word_here : ∀ t : Fin grid0.N, k0_off1 (grid0.coords t) = ![t.val] := by decide +kernel

/-- The place of the point before. -/
theorem word_last : ∀ t : Fin grid0.N, k0_off2 (grid0.coords t) = ![t.val - 1] := by decide +kernel

/-- Words read at equal places are equal. -/
theorem word_congr (T : S304.Idx → Elt Bits .i32) {o o' : Fin 1 → ℕ} (h : o = o') (b : ∀ a, o a + S1.size a ≤ S304.size a) (b' : ∀ a, o' a + S1.size a ≤ S304.size a) :
    View.readAt (Elt Bits) (tbM0_0).view (Rect.unit (s := S304) o S1.size b).toLoadRect T (Shape.Idx.first (numel1_S1.symm ▸ Nat.one_pos))
      = View.readAt (Elt Bits) (tbM0_0).view (Rect.unit (s := S304) o' S1.size b').toLoadRect T (Shape.Idx.first (numel1_S1.symm ▸ Nat.one_pos)) := by
  subst h; rfl

/-- A point before a used one is used. -/
theorem used_before (v : BitVec 32) (n : ℕ) (hn : n + 1 < 304) (h : Scalar.cmpi .slt (BitVec.ofNat 32 (n + 1)) v = 1#1) : Scalar.cmpi .slt (BitVec.ofNat 32 n) v = 1#1 := by
  simp only [Scalar.cmpi, IntOp.cmpi, BitVec.slt] at h ⊢
  have e1 : (BitVec.ofNat 32 (n + 1)).toInt = n + 1 := by rw [BitVec.toInt_eq_toNat_of_lt] <;> simp only [BitVec.toNat_ofNat] <;> omega
  have e0 : (BitVec.ofNat 32 n).toInt = n := by rw [BitVec.toInt_eq_toNat_of_lt] <;> simp only [BitVec.toNat_ofNat] <;> omega
  rw [e1] at h; rw [e0]
  by_cases hv : ((n : ℤ) + 1) < v.toInt
  · rw [decide_eq_true (show (n : ℤ) < v.toInt by omega)]; rfl
  · rw [decide_eq_false hv] at h; exact absurd h (by decide)

/-- A used point that loads no weights has a point before it, used, of the same expert. -/
theorem before_same (t : Fin (cfgA m hok).N) (hc0 : ¬Fresh (T0 m) (T1 m) (crd m hok t)) (h2 : Used (T1 m) (crd m hok t)) :
    ∃ s : Fin (cfgA m hok).N, s.val + 1 = t.castSucc.val ∧ Used (T1 m) (crd m hok s) ∧ here (T0 m) (crd m hok s) = here (T0 m) (crd m hok t) := by
  obtain ⟨h0, he⟩ := same_of_not_fresh hc0 h2
  have hN : t.val < 304 := lt_of_lt_of_eq t.isLt N_0
  rw [show ((crd m hok t) 0).val = t.val from crd_val t] at h0
  have hs : t.val - 1 < (cfgA m hok).N := lt_of_le_of_lt (Nat.sub_le _ _) t.isLt
  refine ⟨⟨t.val - 1, hs⟩, ?_, ?_, ?_⟩
  · show t.val - 1 + 1 = t.val; omega
  · unfold Used k0_cond2 at h2 ⊢; dsimp only at h2 ⊢; rw [ne_zero_bit] at h2 ⊢
    rw [show ((crd m hok t) 0).val = t.val from crd_val t] at h2
    rw [show ((crd m hok ⟨t.val - 1, hs⟩) 0).val = t.val - 1 from crd_val ⟨t.val - 1, hs⟩]
    refine used_before _ (t.val - 1) (by omega) ?_
    rw [show t.val - 1 + 1 = t.val by omega]; exact h2
  · rw [he]
    exact word_congr (T0 m) ((word_here ⟨t.val - 1, hs⟩).trans (word_last t).symm) _ _

/-- What a point leaves in the output's buffer: the product with its expert's weights where it is used, zeros elsewhere. -/
def done (c : Dev nD) (t : Fin (cfgA m hok).N) : S256x1024.Idx → Elt Bits .f32 :=
  if Used (T1 m) (crd m hok t) then
    product (iblk m hok ρ c (0 : Fin 8) t) (k0_pay1 (F := Bits) (iblk m hok ρ c (1 : Fin 8) t)) (iblk m hok ρ c (2 : Fin 8) t) (k0_pay2 (F := Bits) (iblk m hok ρ c (3 : Fin 8) t)) (iblk m hok ρ c (4 : Fin 8) t)
      (k0_pay3 (F := Bits) (iblk m hok ρ c (5 : Fin 8) t)) (iblk m hok ρ c (6 : Fin 8) t)
  else k0_pay4 (F := Bits)

/-- Before a point: each scratch holds the weights of the point before where that was used (anything elsewhere), and the body's
    halves of the tables. -/
def Phi (c : Dev nD) (t : Fin ((cfgA m hok).N + 1)) : sProp 𝕄 :=
  iprop((∃ a, ⌜∀ s : Fin (cfgA m hok).N, s.val + 1 = t.val → Used (T1 m) (crd m hok s) → scM0_0.view.read (Elt Bits) a = k0_pay1 (F := Bits) (iblk m hok ρ c (1 : Fin 8) s)⌝ ∗ (scM0_0.view.loc (c : Thread nD τ) ↦{fullShare} a)) ∗ (∃ a, ⌜∀ s : Fin (cfgA m hok).N, s.val + 1 = t.val → Used (T1 m) (crd m hok s) → scM0_1.view.read (Elt Bits) a = k0_pay2 (F := Bits) (iblk m hok ρ c (3 : Fin 8) s)⌝ ∗ (scM0_1.view.loc (c : Thread nD τ) ↦{fullShare} a)) ∗ (∃ a, ⌜∀ s : Fin (cfgA m hok).N, s.val + 1 = t.val → Used (T1 m) (crd m hok s) → scM0_2.view.read (Elt Bits) a = k0_pay3 (F := Bits) (iblk m hok ρ c (5 : Fin 8) s)⌝ ∗ (scM0_2.view.loc (c : Thread nD τ) ↦{fullShare} a)) ∗ (tbM0_0.view.loc (c : Thread nD τ) ↦{fullShare.right} T0 m) ∗ (tbM0_1.view.loc (c : Thread nD τ) ↦{fullShare.right} T1 m))

/-- The pipeline's data on a core. -/
def dats (_ : Fin 1) (c : Dev nD) : Dat τ (Elt Bits) Unit ℕ (UR sig nD τ) ℕ (cfgA m hok) c where
  A w := (s₀ m ρ).mem (((cfgA m hok).win w).arr.view.loc (c : Thread nD τ))
  after w t := match w with
    | ⟨0, _⟩ => iblk m hok ρ c (0 : Fin 8) t
    | ⟨1, _⟩ => iblk m hok ρ c (1 : Fin 8) t
    | ⟨2, _⟩ => iblk m hok ρ c (2 : Fin 8) t
    | ⟨3, _⟩ => iblk m hok ρ c (3 : Fin 8) t
    | ⟨4, _⟩ => iblk m hok ρ c (4 : Fin 8) t
    | ⟨5, _⟩ => iblk m hok ρ c (5 : Fin 8) t
    | ⟨6, _⟩ => iblk m hok ρ c (6 : Fin 8) t
    | ⟨7, _⟩ => done m hok ρ c t
  Φ t := Phi m hok ρ c t
  q _ := fullShare
  owed _ := 0

/-- Input window 0 keeps its block. -/
theorem after0_0 (c : Dev nD) (t : Fin (cfgA m hok).N) : (dats m hok ρ 0 c).after (0 : Fin 8) t = iblk m hok ρ c (0 : Fin 8) t := rfl

/-- Input window 1 keeps its block. -/
theorem after0_1 (c : Dev nD) (t : Fin (cfgA m hok).N) : (dats m hok ρ 0 c).after (1 : Fin 8) t = iblk m hok ρ c (1 : Fin 8) t := rfl

/-- Input window 2 keeps its block. -/
theorem after0_2 (c : Dev nD) (t : Fin (cfgA m hok).N) : (dats m hok ρ 0 c).after (2 : Fin 8) t = iblk m hok ρ c (2 : Fin 8) t := rfl

/-- Input window 3 keeps its block. -/
theorem after0_3 (c : Dev nD) (t : Fin (cfgA m hok).N) : (dats m hok ρ 0 c).after (3 : Fin 8) t = iblk m hok ρ c (3 : Fin 8) t := rfl

/-- Input window 4 keeps its block. -/
theorem after0_4 (c : Dev nD) (t : Fin (cfgA m hok).N) : (dats m hok ρ 0 c).after (4 : Fin 8) t = iblk m hok ρ c (4 : Fin 8) t := rfl

/-- Input window 5 keeps its block. -/
theorem after0_5 (c : Dev nD) (t : Fin (cfgA m hok).N) : (dats m hok ρ 0 c).after (5 : Fin 8) t = iblk m hok ρ c (5 : Fin 8) t := rfl

/-- Input window 6 keeps its block. -/
theorem after0_6 (c : Dev nD) (t : Fin (cfgA m hok).N) : (dats m hok ρ 0 c).after (6 : Fin 8) t = iblk m hok ρ c (6 : Fin 8) t := rfl

/-- The output's buffer ends at what the point leaves. -/
theorem after0_7 (c : Dev nD) (t : Fin (cfgA m hok).N) : (dats m hok ρ 0 c).after (7 : Fin 8) t = done m hok ρ c t := rfl

/-- Input window 0 holds its block when the body runs, fetched there or not. -/
theorem before0_0 (c : Dev nD) (t : Fin (cfgA m hok).N) (d) : (dats m hok ρ 0 c).before (0 : Fin 8) t d = iblk m hok ρ c (0 : Fin 8) t :=
  ((dats m hok ρ 0 c).before_in_eq_fetched (0 : Fin 8) rfl (fun _ => rfl) (fun _ _ _ => rfl) (fun t => by rw [after0_0]; unfold Dat.blockOf iblk; rfl) t d).trans
    (by unfold Dat.fetched Dat.blockOf iblk; rfl)

/-- Input window 1 holds its block when the body runs, fetched there or not. -/
theorem before0_1 (c : Dev nD) (t : Fin (cfgA m hok).N) (d) : (dats m hok ρ 0 c).before (1 : Fin 8) t d = iblk m hok ρ c (1 : Fin 8) t :=
  ((dats m hok ρ 0 c).before_in_eq_fetched (1 : Fin 8) rfl (fun _ => rfl) (fun _ _ _ => rfl) (fun t => by rw [after0_1]; unfold Dat.blockOf iblk; rfl) t d).trans
    (by unfold Dat.fetched Dat.blockOf iblk; rfl)

/-- Input window 2 holds its block when the body runs, fetched there or not. -/
theorem before0_2 (c : Dev nD) (t : Fin (cfgA m hok).N) (d) : (dats m hok ρ 0 c).before (2 : Fin 8) t d = iblk m hok ρ c (2 : Fin 8) t :=
  ((dats m hok ρ 0 c).before_in_eq_fetched (2 : Fin 8) rfl (fun _ => rfl) (fun _ _ _ => rfl) (fun t => by rw [after0_2]; unfold Dat.blockOf iblk; rfl) t d).trans
    (by unfold Dat.fetched Dat.blockOf iblk; rfl)

/-- Input window 3 holds its block when the body runs, fetched there or not. -/
theorem before0_3 (c : Dev nD) (t : Fin (cfgA m hok).N) (d) : (dats m hok ρ 0 c).before (3 : Fin 8) t d = iblk m hok ρ c (3 : Fin 8) t :=
  ((dats m hok ρ 0 c).before_in_eq_fetched (3 : Fin 8) rfl (fun _ => rfl) (fun _ _ _ => rfl) (fun t => by rw [after0_3]; unfold Dat.blockOf iblk; rfl) t d).trans
    (by unfold Dat.fetched Dat.blockOf iblk; rfl)

/-- Input window 4 holds its block when the body runs, fetched there or not. -/
theorem before0_4 (c : Dev nD) (t : Fin (cfgA m hok).N) (d) : (dats m hok ρ 0 c).before (4 : Fin 8) t d = iblk m hok ρ c (4 : Fin 8) t :=
  ((dats m hok ρ 0 c).before_in_eq_fetched (4 : Fin 8) rfl (fun _ => rfl) (fun _ _ _ => rfl) (fun t => by rw [after0_4]; unfold Dat.blockOf iblk; rfl) t d).trans
    (by unfold Dat.fetched Dat.blockOf iblk; rfl)

/-- Input window 5 holds its block when the body runs, fetched there or not. -/
theorem before0_5 (c : Dev nD) (t : Fin (cfgA m hok).N) (d) : (dats m hok ρ 0 c).before (5 : Fin 8) t d = iblk m hok ρ c (5 : Fin 8) t :=
  ((dats m hok ρ 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- Input window 6 holds its block when the body runs, fetched there or not. -/
theorem before0_6 (c : Dev nD) (t : Fin (cfgA m hok).N) (d) : (dats m hok ρ 0 c).before (6 : Fin 8) t d = iblk m hok ρ c (6 : Fin 8) t :=
  ((dats m hok ρ 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- The output's buffer holds anything when the body runs. -/
theorem before0_7 (c : Dev nD) (t : Fin (cfgA m hok).N) (d) : (dats m hok ρ 0 c).before (7 : Fin 8) t d = d := by
  rw [(dats m hok ρ 0 c).before_out_traj (7 : Fin 8) rfl (fun _ _ => rfl) (fun t _ _ hf => absurd ((fresh7 m hok t).symm.trans hf) (by decide)) t.val t rfl d]
  rw [fresh7]; rfl

/-- The weights number 1 kept from the point before are the ones of a used point that loads none. -/
theorem kept0 (c : Dev nD) (t : Fin (cfgA m hok).N) (a : Buf (Elt Bits) ((c : Thread nD τ).loc cc0_scratch0))
    (hc0 : ¬Fresh (T0 m) (T1 m) (crd m hok t)) (h2 : Used (T1 m) (crd m hok t))
    (ha : ∀ s : Fin (cfgA m hok).N, s.val + 1 = t.castSucc.val → Used (T1 m) (crd m hok s) → scM0_0.view.read (Elt Bits) a = k0_pay1 (F := Bits) (iblk m hok ρ c (1 : Fin 8) s)) :
    scM0_0.view.read (Elt Bits) a = k0_pay1 (F := Bits) (iblk m hok ρ c (1 : Fin 8) t) := by
  obtain ⟨s, hs, hu, he⟩ := before_same m hok t hc0 h2
  rw [ha s hs hu]
  exact congrArg (k0_pay1 (F := Bits)) (blk1_same m hok ρ c s t he)

/-- The weights number 2 kept from the point before are the ones of a used point that loads none. -/
theorem kept1 (c : Dev nD) (t : Fin (cfgA m hok).N) (a : Buf (Elt Bits) ((c : Thread nD τ).loc cc0_scratch1))
    (hc0 : ¬Fresh (T0 m) (T1 m) (crd m hok t)) (h2 : Used (T1 m) (crd m hok t))
    (ha : ∀ s : Fin (cfgA m hok).N, s.val + 1 = t.castSucc.val → Used (T1 m) (crd m hok s) → scM0_1.view.read (Elt Bits) a = k0_pay2 (F := Bits) (iblk m hok ρ c (3 : Fin 8) s)) :
    scM0_1.view.read (Elt Bits) a = k0_pay2 (F := Bits) (iblk m hok ρ c (3 : Fin 8) t) := by
  obtain ⟨s, hs, hu, he⟩ := before_same m hok t hc0 h2
  rw [ha s hs hu]
  exact congrArg (k0_pay2 (F := Bits)) (blk3_same m hok ρ c s t he)

/-- The weights number 3 kept from the point before are the ones of a used point that loads none. -/
theorem kept2 (c : Dev nD) (t : Fin (cfgA m hok).N) (a : Buf (Elt Bits) ((c : Thread nD τ).loc cc0_scratch2))
    (hc0 : ¬Fresh (T0 m) (T1 m) (crd m hok t)) (h2 : Used (T1 m) (crd m hok t))
    (ha : ∀ s : Fin (cfgA m hok).N, s.val + 1 = t.castSucc.val → Used (T1 m) (crd m hok s) → scM0_2.view.read (Elt Bits) a = k0_pay3 (F := Bits) (iblk m hok ρ c (5 : Fin 8) s)) :
    scM0_2.view.read (Elt Bits) a = k0_pay3 (F := Bits) (iblk m hok ρ c (5 : Fin 8) t) := by
  obtain ⟨s, hs, hu, he⟩ := before_same m hok t hc0 h2
  rw [ha s hs hu]
  exact congrArg (k0_pay3 (F := Bits)) (blk5_same m hok ρ c s t he)

/-- A point that loads its weights keeps number 1 of them. -/
theorem keepA0 (c : Dev nD) (t : Fin (cfgA m hok).N) (hc0 : Fresh (T0 m) (T1 m) (crd m hok t)) (h2 : Used (T1 m) (crd m hok t)) (h3 : ¬Idle (T1 m) (crd m hok t)) :
    ∀ s : Fin (cfgA m hok).N, s.val + 1 = t.succ.val → Used (T1 m) (crd m hok s) → scM0_0.view.read (Elt Bits) (kernelRun0_A c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3).2.1 = k0_pay1 (F := Bits) (iblk m hok ρ c (1 : Fin 8) s) := by
  intro s hs _
  obtain rfl : s = t := Fin.ext (by have := Fin.val_succ t; omega)
  exact keep0_fresh c (crd m hok s) (ms0_0 m hok s) (hs0_0 m hok s) (ms0_1 m hok s) (hs0_1 m hok s) (ms0_2 m hok s) (hs0_2 m hok s) (ms0_3 m hok s) (hs0_3 m hok s) (ms0_4 m hok s) (hs0_4 m hok s) (ms0_5 m hok s) (hs0_5 m hok s) (ms0_6 m hok s) (hs0_6 m hok s) (ms0_7 m hok s) (hs0_7 m hok s) (T0 m) (T1 m) (iblk m hok ρ c (0 : Fin 8) s) (iblk m hok ρ c (1 : Fin 8) s) (iblk m hok ρ c (2 : Fin 8) s) (iblk m hok ρ c (3 : Fin 8) s) (iblk m hok ρ c (4 : Fin 8) s) (iblk m hok ρ c (5 : Fin 8) s) (iblk m hok ρ c (6 : Fin 8) s) hc0 h2 h3

/-- A used point that loads no weights still keeps number 1 of them. -/
theorem keepB0 (c : Dev nD) (t : Fin (cfgA m hok).N) (a0 : Buf (Elt Bits) ((c : Thread nD τ).loc cc0_scratch0)) (a1 : Buf (Elt Bits) ((c : Thread nD τ).loc cc0_scratch1)) (a2 : Buf (Elt Bits) ((c : Thread nD τ).loc cc0_scratch2))
    (hc0 : ¬Fresh (T0 m) (T1 m) (crd m hok t)) (h2 : Used (T1 m) (crd m hok t)) (h3 : ¬Idle (T1 m) (crd m hok t))
    (ha : ∀ s : Fin (cfgA m hok).N, s.val + 1 = t.castSucc.val → Used (T1 m) (crd m hok s) → scM0_0.view.read (Elt Bits) a0 = k0_pay1 (F := Bits) (iblk m hok ρ c (1 : Fin 8) s)) :
    ∀ s : Fin (cfgA m hok).N, s.val + 1 = t.succ.val → Used (T1 m) (crd m hok s) → scM0_0.view.read (Elt Bits) (kernelRun0_B c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3).2.1 = k0_pay1 (F := Bits) (iblk m hok ρ c (1 : Fin 8) s) := by
  intro s hs _
  obtain rfl : s = t := Fin.ext (by have := Fin.val_succ t; omega)
  exact kept0 m hok ρ c s a0 hc0 h2 ha

/-- An unused point keeps nothing to speak of. -/
theorem keepC0 (c : Dev nD) (t : Fin (cfgA m hok).N) (a : Buf (Elt Bits) ((c : Thread nD τ).loc cc0_scratch0)) (h2 : ¬Used (T1 m) (crd m hok t)) :
    ∀ s : Fin (cfgA m hok).N, s.val + 1 = t.succ.val → Used (T1 m) (crd m hok s) → scM0_0.view.read (Elt Bits) a = k0_pay1 (F := Bits) (iblk m hok ρ c (1 : Fin 8) s) := by
  intro s hs hu
  obtain rfl : s = t := Fin.ext (by have := Fin.val_succ t; omega)
  exact absurd hu h2

/-- A point that loads its weights keeps number 2 of them. -/
theorem keepA1 (c : Dev nD) (t : Fin (cfgA m hok).N) (hc0 : Fresh (T0 m) (T1 m) (crd m hok t)) (h2 : Used (T1 m) (crd m hok t)) (h3 : ¬Idle (T1 m) (crd m hok t)) :
    ∀ s : Fin (cfgA m hok).N, s.val + 1 = t.succ.val → Used (T1 m) (crd m hok s) → scM0_1.view.read (Elt Bits) (kernelRun0_A c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3).2.2.1 = k0_pay2 (F := Bits) (iblk m hok ρ c (3 : Fin 8) s) := by
  intro s hs _
  obtain rfl : s = t := Fin.ext (by have := Fin.val_succ t; omega)
  exact keep1_fresh c (crd m hok s) (ms0_0 m hok s) (hs0_0 m hok s) (ms0_1 m hok s) (hs0_1 m hok s) (ms0_2 m hok s) (hs0_2 m hok s) (ms0_3 m hok s) (hs0_3 m hok s) (ms0_4 m hok s) (hs0_4 m hok s) (ms0_5 m hok s) (hs0_5 m hok s) (ms0_6 m hok s) (hs0_6 m hok s) (ms0_7 m hok s) (hs0_7 m hok s) (T0 m) (T1 m) (iblk m hok ρ c (0 : Fin 8) s) (iblk m hok ρ c (1 : Fin 8) s) (iblk m hok ρ c (2 : Fin 8) s) (iblk m hok ρ c (3 : Fin 8) s) (iblk m hok ρ c (4 : Fin 8) s) (iblk m hok ρ c (5 : Fin 8) s) (iblk m hok ρ c (6 : Fin 8) s) hc0 h2 h3

/-- A used point that loads no weights still keeps number 2 of them. -/
theorem keepB1 (c : Dev nD) (t : Fin (cfgA m hok).N) (a0 : Buf (Elt Bits) ((c : Thread nD τ).loc cc0_scratch0)) (a1 : Buf (Elt Bits) ((c : Thread nD τ).loc cc0_scratch1)) (a2 : Buf (Elt Bits) ((c : Thread nD τ).loc cc0_scratch2))
    (hc0 : ¬Fresh (T0 m) (T1 m) (crd m hok t)) (h2 : Used (T1 m) (crd m hok t)) (h3 : ¬Idle (T1 m) (crd m hok t))
    (ha : ∀ s : Fin (cfgA m hok).N, s.val + 1 = t.castSucc.val → Used (T1 m) (crd m hok s) → scM0_1.view.read (Elt Bits) a1 = k0_pay2 (F := Bits) (iblk m hok ρ c (3 : Fin 8) s)) :
    ∀ s : Fin (cfgA m hok).N, s.val + 1 = t.succ.val → Used (T1 m) (crd m hok s) → scM0_1.view.read (Elt Bits) (kernelRun0_B c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3).2.2.1 = k0_pay2 (F := Bits) (iblk m hok ρ c (3 : Fin 8) s) := by
  intro s hs _
  obtain rfl : s = t := Fin.ext (by have := Fin.val_succ t; omega)
  exact kept1 m hok ρ c s a1 hc0 h2 ha

/-- An unused point keeps nothing to speak of. -/
theorem keepC1 (c : Dev nD) (t : Fin (cfgA m hok).N) (a : Buf (Elt Bits) ((c : Thread nD τ).loc cc0_scratch1)) (h2 : ¬Used (T1 m) (crd m hok t)) :
    ∀ s : Fin (cfgA m hok).N, s.val + 1 = t.succ.val → Used (T1 m) (crd m hok s) → scM0_1.view.read (Elt Bits) a = k0_pay2 (F := Bits) (iblk m hok ρ c (3 : Fin 8) s) := by
  intro s hs hu
  obtain rfl : s = t := Fin.ext (by have := Fin.val_succ t; omega)
  exact absurd hu h2

/-- A point that loads its weights keeps number 3 of them. -/
theorem keepA2 (c : Dev nD) (t : Fin (cfgA m hok).N) (hc0 : Fresh (T0 m) (T1 m) (crd m hok t)) (h2 : Used (T1 m) (crd m hok t)) (h3 : ¬Idle (T1 m) (crd m hok t)) :
    ∀ s : Fin (cfgA m hok).N, s.val + 1 = t.succ.val → Used (T1 m) (crd m hok s) → scM0_2.view.read (Elt Bits) (kernelRun0_A c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3).2.2.2.1 = k0_pay3 (F := Bits) (iblk m hok ρ c (5 : Fin 8) s) := by
  intro s hs _
  obtain rfl : s = t := Fin.ext (by have := Fin.val_succ t; omega)
  exact keep2_fresh c (crd m hok s) (ms0_0 m hok s) (hs0_0 m hok s) (ms0_1 m hok s) (hs0_1 m hok s) (ms0_2 m hok s) (hs0_2 m hok s) (ms0_3 m hok s) (hs0_3 m hok s) (ms0_4 m hok s) (hs0_4 m hok s) (ms0_5 m hok s) (hs0_5 m hok s) (ms0_6 m hok s) (hs0_6 m hok s) (ms0_7 m hok s) (hs0_7 m hok s) (T0 m) (T1 m) (iblk m hok ρ c (0 : Fin 8) s) (iblk m hok ρ c (1 : Fin 8) s) (iblk m hok ρ c (2 : Fin 8) s) (iblk m hok ρ c (3 : Fin 8) s) (iblk m hok ρ c (4 : Fin 8) s) (iblk m hok ρ c (5 : Fin 8) s) (iblk m hok ρ c (6 : Fin 8) s) hc0 h2 h3

/-- A used point that loads no weights still keeps number 3 of them. -/
theorem keepB2 (c : Dev nD) (t : Fin (cfgA m hok).N) (a0 : Buf (Elt Bits) ((c : Thread nD τ).loc cc0_scratch0)) (a1 : Buf (Elt Bits) ((c : Thread nD τ).loc cc0_scratch1)) (a2 : Buf (Elt Bits) ((c : Thread nD τ).loc cc0_scratch2))
    (hc0 : ¬Fresh (T0 m) (T1 m) (crd m hok t)) (h2 : Used (T1 m) (crd m hok t)) (h3 : ¬Idle (T1 m) (crd m hok t))
    (ha : ∀ s : Fin (cfgA m hok).N, s.val + 1 = t.castSucc.val → Used (T1 m) (crd m hok s) → scM0_2.view.read (Elt Bits) a2 = k0_pay3 (F := Bits) (iblk m hok ρ c (5 : Fin 8) s)) :
    ∀ s : Fin (cfgA m hok).N, s.val + 1 = t.succ.val → Used (T1 m) (crd m hok s) → scM0_2.view.read (Elt Bits) (kernelRun0_B c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3).2.2.2.1 = k0_pay3 (F := Bits) (iblk m hok ρ c (5 : Fin 8) s) := by
  intro s hs _
  obtain rfl : s = t := Fin.ext (by have := Fin.val_succ t; omega)
  exact kept2 m hok ρ c s a2 hc0 h2 ha

/-- An unused point keeps nothing to speak of. -/
theorem keepC2 (c : Dev nD) (t : Fin (cfgA m hok).N) (a : Buf (Elt Bits) ((c : Thread nD τ).loc cc0_scratch2)) (h2 : ¬Used (T1 m) (crd m hok t)) :
    ∀ s : Fin (cfgA m hok).N, s.val + 1 = t.succ.val → Used (T1 m) (crd m hok s) → scM0_2.view.read (Elt Bits) a = k0_pay3 (F := Bits) (iblk m hok ρ c (5 : Fin 8) s) := by
  intro s hs hu
  obtain rfl : s = t := Fin.ext (by have := Fin.val_succ t; omega)
  exact absurd hu h2

/-- A point that loads its weights leaves its product. -/
theorem doneA (c : Dev nD) (t : Fin (cfgA m hok).N) (hc0 : Fresh (T0 m) (T1 m) (crd m hok t)) (h2 : Used (T1 m) (crd m hok t)) (h3 : ¬Idle (T1 m) (crd m hok t)) :
    out0_A_7 c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3 = done m hok ρ c t := by
  unfold done; rw [if_pos h2]
  exact out_fresh c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3

/-- A used point that loads no weights leaves its product. -/
theorem doneB (c : Dev nD) (t : Fin (cfgA m hok).N) (a0 : Buf (Elt Bits) ((c : Thread nD τ).loc cc0_scratch0)) (a1 : Buf (Elt Bits) ((c : Thread nD τ).loc cc0_scratch1)) (a2 : Buf (Elt Bits) ((c : Thread nD τ).loc cc0_scratch2))
    (hc0 : ¬Fresh (T0 m) (T1 m) (crd m hok t)) (h2 : Used (T1 m) (crd m hok t)) (h3 : ¬Idle (T1 m) (crd m hok t))
    (ha0 : ∀ s : Fin (cfgA m hok).N, s.val + 1 = t.castSucc.val → Used (T1 m) (crd m hok s) → scM0_0.view.read (Elt Bits) a0 = k0_pay1 (F := Bits) (iblk m hok ρ c (1 : Fin 8) s)) (ha1 : ∀ s : Fin (cfgA m hok).N, s.val + 1 = t.castSucc.val → Used (T1 m) (crd m hok s) → scM0_1.view.read (Elt Bits) a1 = k0_pay2 (F := Bits) (iblk m hok ρ c (3 : Fin 8) s)) (ha2 : ∀ s : Fin (cfgA m hok).N, s.val + 1 = t.castSucc.val → Used (T1 m) (crd m hok s) → scM0_2.view.read (Elt Bits) a2 = k0_pay3 (F := Bits) (iblk m hok ρ c (5 : Fin 8) s)) :
    out0_B_7 c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3 = done m hok ρ c t := by
  unfold done; rw [if_pos h2]
  refine (out_same c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3).trans ?_
  exact product_congr rfl (kept0 m hok ρ c t a0 hc0 h2 ha0) rfl (kept1 m hok ρ c t a1 hc0 h2 ha1) rfl (kept2 m hok ρ c t a2 hc0 h2 ha2) rfl

/-- An unused point leaves zeros. -/
theorem doneC (c : Dev nD) (t : Fin (cfgA m hok).N) (a0 : Buf (Elt Bits) ((c : Thread nD τ).loc cc0_scratch0)) (a1 : Buf (Elt Bits) ((c : Thread nD τ).loc cc0_scratch1)) (a2 : Buf (Elt Bits) ((c : Thread nD τ).loc cc0_scratch2))
    (hc0 : ¬Fresh (T0 m) (T1 m) (crd m hok t)) (h2 : ¬Used (T1 m) (crd m hok t)) (h3 : Idle (T1 m) (crd m hok t)) :
    out0_C_7 c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3 = done m hok ρ c t := by
  unfold done; rw [if_neg h2]
  exact out_idle c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3

/-- The body at a point on its staging buffers. -/
abbrev bodyAt0 (t : Fin (cfgA m hok).N) : Prog (TpuEff nD τ sig (Elt Bits) Λ₀ .tc) PUnit :=
  cc0_moe_experts (crd m hok t) (Memref.whole main_arg0) (Memref.isWhole_whole _) (Memref.whole main_arg1) (Memref.isWhole_whole _) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (Memref.whole cc0_scratch0) (Memref.isWhole_whole _) (Memref.whole cc0_scratch1) (Memref.isWhole_whole _) (Memref.whole cc0_scratch2) (Memref.isWhole_whole _)

set_option maxHeartbeats 4800000 in
/-- The body at a point, by the three ways its branches can go. -/
theorem sound_body (c : Dev nD) (t : Fin (cfgA m hok).N) :
    iprop((dats m hok ρ 0 c).Φ t.castSucc ∗ (dats m hok ρ 0 c).owesAt () t.castSucc
        ∗ (∃ d, owns (c : Thread nD τ) (ms0_0 m hok t) fullShare ((dats m hok ρ 0 c).before (0 : Fin 8) t d))
        ∗ (∃ d, owns (c : Thread nD τ) (ms0_1 m hok t) fullShare ((dats m hok ρ 0 c).before (1 : Fin 8) t d))
        ∗ (∃ d, owns (c : Thread nD τ) (ms0_2 m hok t) fullShare ((dats m hok ρ 0 c).before (2 : Fin 8) t d))
        ∗ (∃ d, owns (c : Thread nD τ) (ms0_3 m hok t) fullShare ((dats m hok ρ 0 c).before (3 : Fin 8) t d))
        ∗ (∃ d, owns (c : Thread nD τ) (ms0_4 m hok t) fullShare ((dats m hok ρ 0 c).before (4 : Fin 8) t d))
        ∗ (∃ d, owns (c : Thread nD τ) (ms0_5 m hok t) fullShare ((dats m hok ρ 0 c).before (5 : Fin 8) t d))
        ∗ (∃ d, owns (c : Thread nD τ) (ms0_6 m hok t) fullShare ((dats m hok ρ 0 c).before (6 : Fin 8) t d))
        ∗ (∃ d, owns (c : Thread nD τ) (ms0_7 m hok t) fullShare ((dats m hok ρ 0 c).before (7 : Fin 8) t d)))
      ⊢ wp frame (wpE (defs₀ (F := Bits)) Variants.none c none) Set.univ (bodyAt0 m hok t) fun _ =>
          iprop((dats m hok ρ 0 c).Φ t.succ ∗ (dats m hok ρ 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok ρ 0 c).before w t d))
                  | true => owns (c : Thread nD τ) (((cfgA m hok).win w).stage ((cfgA m hok).slots t w)) fullShare ((dats m hok ρ 0 c).after w t)
                | false => owns (c : Thread nD τ) (((cfgA m hok).win w).stage ((cfgA m hok).slots t w)) fullShare ((dats m hok ρ 0 c).after w t)) := by
  rw [bigSep_W0]
  have i7 := idle7 m hok t
  have f7 := flush7 m hok t
  by_cases hc0 : Fresh (T0 m) (T1 m) (crd m hok t)
  · have h2 := used_of_fresh hc0
    have h3 : ¬Idle (T1 m) (crd m hok t) := fun h => idle_iff.mp h h2
    rewrite [i7]
    simp only [before0_0, before0_1, before0_2, before0_3, before0_4, before0_5, before0_6, before0_7, after0_0, after0_1, after0_2, after0_3, after0_4, after0_5, after0_6]
    rewrite [show (dats m hok ρ 0 c).Φ t.succ = Phi m hok ρ c t.succ from rfl, show (dats m hok ρ 0 c).Φ t.castSucc = Phi m hok ρ c t.castSucc from rfl,
      show (dats m hok ρ 0 c).owesAt () t.succ = (dats m hok ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3).2.2.2.2 a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [H7]; · iexists _; iexact H7
    isplitl [HS0]; · iexact HS0
    isplitl [HS1]; · iexact HS1
    isplitl [HS2]; · iexact HS2
    iintro ⟨H0, H1, H2, H3, H4, H5, H6, HT0, HT1, ⟨%e7, H7⟩, HS0, HS1, HS2⟩
    isplitl [HS0 HS1 HS2 HT0 HT1]
    · isplitl [HS0]
      · iexists _; isplitr; swap
        · iexact HS0
        · ipureintro; exact keepA0 m hok ρ c t hc0 h2 h3
      isplitl [HS1]
      · iexists _; isplitr; swap
        · iexact HS1
        · ipureintro; exact keepA1 m hok ρ c t hc0 h2 h3
      isplitl [HS2]
      · iexists _; isplitr; swap
        · iexact HS2
        · ipureintro; exact keepA2 m hok ρ c t hc0 h2 h3
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    unfold owns; iexists _; isplitr; swap
    · iexact H7
    · ipureintro; exact (View.read_writes_of_cover _ _ _ _ _ (cover0_A_7 c _ _ _ _ _ _ _ _ _ _ _ _ _ _ _ _ _ _ _ _ _ _ _ _ _ _ _ _ _)).trans (doneA m hok ρ c t hc0 h2 h3)
  · by_cases h2 : Used (T1 m) (crd m hok t)
    · have h3 : ¬Idle (T1 m) (crd m hok t) := fun h => idle_iff.mp h h2
      rewrite [i7]
      simp only [before0_0, before0_1, before0_2, before0_3, before0_4, before0_5, before0_6, before0_7, after0_0, after0_1, after0_2, after0_3, after0_4, after0_5, after0_6]
      rewrite [show (dats m hok ρ 0 c).Φ t.succ = Phi m hok ρ c t.succ from rfl, show (dats m hok ρ 0 c).Φ t.castSucc = Phi m hok ρ c t.castSucc from rfl,
        show (dats m hok ρ 0 c).owesAt () t.succ = (dats m hok ρ 0 c).owesAt () t.castSucc from rfl]
      unfold Phi
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [H7]; · iexists _; iexact H7
      isplitl [HS0]; · iexact HS0
      isplitl [HS1]; · iexact HS1
      isplitl [HS2]; · iexact HS2
      iintro ⟨H0, H1, H2, H3, H4, H5, H6, HT0, HT1, ⟨%e7, H7⟩, HS0, HS1, HS2⟩
      isplitl [HS0 HS1 HS2 HT0 HT1]
      · isplitl [HS0]
        · iexists _; isplitr; swap
          · iexact HS0
          · ipureintro; exact keepB0 m hok ρ c t a0 a1 a2 hc0 h2 h3 ha0
        isplitl [HS1]
        · iexists _; isplitr; swap
          · iexact HS1
          · ipureintro; exact keepB1 m hok ρ c t a0 a1 a2 hc0 h2 h3 ha1
        isplitl [HS2]
        · iexists _; isplitr; swap
          · iexact HS2
          · ipureintro; exact keepB2 m hok ρ c t a0 a1 a2 hc0 h2 h3 ha2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact (View.read_writes_of_cover _ _ _ _ _ (cover0_B_7 c _ _ _ _ _ _ _ _ _ _ _ _ _ _ _ _ _ _ _ _ _ _ _ _ _ _ _ _ _ _ _ _)).trans (doneB m hok ρ c t a0 a1 a2 hc0 h2 h3 ha0 ha1 ha2)
    · have h3 : Idle (T1 m) (crd m hok t) := idle_iff.mpr h2
      rewrite [i7]
      simp only [before0_0, before0_1, before0_2, before0_3, before0_4, before0_5, before0_6, before0_7, after0_0, after0_1, after0_2, after0_3, after0_4, after0_5, after0_6]
      rewrite [show (dats m hok ρ 0 c).Φ t.succ = Phi m hok ρ c t.succ from rfl, show (dats m hok ρ 0 c).Φ t.castSucc = Phi m hok ρ c t.castSucc from rfl,
        show (dats m hok ρ 0 c).owesAt () t.succ = (dats m hok ρ 0 c).owesAt () t.castSucc from rfl]
      unfold Phi
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [H7]; · iexists _; iexact H7
      isplitl [HS0]; · iexact HS0
      isplitl [HS1]; · iexact HS1
      isplitl [HS2]; · iexact HS2
      iintro ⟨H0, H1, H2, H3, H4, H5, H6, HT0, HT1, ⟨%e7, H7⟩, HS0, HS1, HS2⟩
      isplitl [HS0 HS1 HS2 HT0 HT1]
      · isplitl [HS0]
        · iexists _; isplitr; swap
          · iexact HS0
          · ipureintro; exact keepC0 m hok ρ c t _ h2
        isplitl [HS1]
        · iexists _; isplitr; swap
          · iexact HS1
          · ipureintro; exact keepC1 m hok ρ c t _ h2
        isplitl [HS2]
        · iexists _; isplitr; swap
          · iexact HS2
          · ipureintro; exact keepC2 m hok ρ c t _ h2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact (View.read_writes_of_cover _ _ _ _ _ (cover0_C_7 c _ _ _ _ _ _ _ _ _ _ _ _ _ _ _ _ _ _ _ _ _ _ _ _ _ _ _ _ _ _ _ _)).trans (doneC m hok ρ c t a0 a1 a2 hc0 h2 h3)

/-- The body's obligation at every point. -/
theorem body_obligation (c : Dev nD) : BodyObligation (dats m hok ρ 0 c) (defs₀ (F := Bits)) Variants.none () Set.univ := fun t => by
  rw [bigSep_W0]
  exact sound_body m hok ρ c t

/-- The rounds library's launch element. -/
def u₀ : UR sig nD τ :=
  initOf (Pipeline.cells (pcs m hok) ((launch0 (F := Bits)).cellOf_inj fun _ => adm m hok))
    (Pipeline.launchToks (pcs m hok) ((launch0 (F := Bits)).cellOf_inj fun _ => adm m hok))

theorem share_eq (c : Dev nD) (w : Fin (cfgA m hok).W) : (dats m hok ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm m hok).1 ∗ Pipeline.scopedRest spec0 c) ⊢ (dats m hok ρ 0 c).Φ 0 := by
  rw [prefHeld_eq, scopedRest0_eq, show (dats m hok ρ 0 c).Φ 0 = Phi m hok ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro s hs; exact absurd hs (Nat.succ_ne_zero _)
  isplitl [HS1]
  · iexists a1; isplitr; swap
    · iexact HS1
    · ipureintro; intro s hs; exact absurd hs (Nat.succ_ne_zero _)
  isplitl [HS2]
  · iexists a2; isplitr; swap
    · iexact HS2
    · ipureintro; intro s hs; exact absurd hs (Nat.succ_ne_zero _)
  isplitl [HT0]
  · iexact HT0
  iexact HT1

/-- at the last point it gives the scratch buffers back (`hout`), the tables let go. -/
theorem phiN_exit (c : Dev nD) : (dats m hok ρ 0 c).Φ (Fin.last (cfgA m hok).N) ⊢ iprop(BI.emp ∗ Pipeline.scopedRest spec0 c) := by
  rw [scopedRest0_eq, show (dats m hok ρ 0 c).Φ (Fin.last (cfgA m hok).N) = Phi m hok ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Bits) → Prop := fun r =>
  ∀ c : Dev nD, (∀ w : Fin (cfgA m hok).W, r.2.mem (((cfgA m hok).win w).arr.view.loc (c : Thread nD τ)) = (dats m hok ρ 0 c).arrAt w (cfgA m hok).N)
    ∧ ∀ j, r.2.mem ((c : Thread nD τ).loc (pre0.ref j)) = (adm m hok).1 j

theorem V_pre (c : Dev nD) (j : Fin 2) : m ((c : Thread nD τ).loc (pre0.ref j)) = (adm m hok).1 j := by
  obtain rfl : c = 0 := Subsingleton.elim _ _
  fin_cases j <;> rfl

set_option backward.isDefEq.respectTransparency.types false in
set_option maxHeartbeats 4000000 in
/-- At the compiled mesh, from any memory with zero counters whose tables and steering words are member `m hok`'s: every weakly
    fair execution of @main on the TensorCores terminates, and every final state has each array at the computed contents,
    and every semaphore counter of the machine at zero. -/
theorem run_main_quiescent : θ_run (defs (F := Bits)) (onTc (τ := τ) (main (F := Bits))) (s₀ m ρ) (fun r => QC m hok ρ r ∧ r.2.sem = fun _ => 0) :=
  Pipeline.θ_run_region_noSem_pf_quiescent pcfgs (fun _ => adm m hok) (dats m hok ρ) () ((launch0 (F := Bits)).cellOf_inj fun _ => adm m hok) (0 : Fin 1)
    (launch0 (F := Bits)).win.to₀ (launch0 (F := Bits)).pre EP defs₀ Variants.none m ρ main
    (hbody := fun c => (body_obligation m hok ρ c).loose) (hne := (launch0 (F := Bits)).block_pos)
    (harr := (launch0 (F := Bits)).arr_whole) (hstage := (launch0 (F := Bits)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m hok ρ) 0 (launch0 (F := Bits)).win.arr_inj c (launch0 (F := Bits)).arr_whole
      (share_eq m hok ρ c) _ _ fun _ => rfl)
    (hpf := V_pre m hok)
    (X := fun _ => iprop(emp)) (Y := fun _ => iprop(emp)) (Z := fun _ => iprop(emp))
    (hX := fun c => by rw [unscopedRestP0_eq]; iintro -; isplitr <;> iempintro)
    (hin := phi0_intro m hok ρ)
    (hout := phiN_exit m hok ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := Bits)) (onTc (τ := τ) (main (F := Bits))) (s₀ m ρ) (QC m hok ρ) :=
  (θ_run defs _ _).mono (fun _ h => h.1) (run_main_quiescent m hok ρ)

include hok in
/-- The argument arrays end unchanged. -/
theorem unchanged :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 0).trans (V_pre m hok c 0).symm, ((h c).2 1).trans (V_pre m hok c 1).symm, ((h c).1 (0 : Fin 8)).trans ((dats m hok ρ 0 c).arrAt_in (0 : Fin 8) rfl _), ((h c).1 (1 : Fin 8)).trans ((dats m hok ρ 0 c).arrAt_in (1 : Fin 8) rfl _), ((h c).1 (2 : Fin 8)).trans ((dats m hok ρ 0 c).arrAt_in (2 : Fin 8) rfl _), ((h c).1 (3 : Fin 8)).trans ((dats m hok ρ 0 c).arrAt_in (3 : Fin 8) rfl _), ((h c).1 (4 : Fin 8)).trans ((dats m hok ρ 0 c).arrAt_in (4 : Fin 8) rfl _), ((h c).1 (5 : Fin 8)).trans ((dats m hok ρ 0 c).arrAt_in (5 : Fin 8) rfl _), ((h c).1 (6 : Fin 8)).trans ((dats m hok ρ 0 c).arrAt_in (6 : Fin 8) rfl _)⟩) (run_main m hok ρ)

include hok in
/-- Every weakly fair execution terminates, nothing faults, every argument array ends unchanged and every semaphore counter
    reads zero at every final state. -/
theorem frame :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m hok ρ) ((θ_run defs _ _).mono (fun _ h => h.2) (run_main_quiescent m hok ρ))

end Cert.Kernel3.Experts

end
-- ==== Proof.ExpertBody.lean ====
module

public import proofs.«01_k».proof.Proof.Gen.Kernel3Ideal.Launch
public import proofs.«01_k».proof.Proof.Gen.Kernel3Ideal.Flash.Runs
public import Idealize.ShloMosaic.Lib.VecWindow

/-! What one grid point of the experts' call leaves behind, by the three ways its three branches can go: the point's expert
differs from the last one's and the point is used; the expert is the last one's and the point is used; the point is unused. -/

@[expose] public section

set_option maxRecDepth 16384

noncomputable section

namespace Cert.Kernel3Ideal.Experts

open Cert.Kernel3Ideal Cert.Kernel3Ideal.Gen
open Idealize.ShloMosaic
open Idealize.ShloMosaic.TcCoe Idealize.ShloMosaic.Tactic
open Idealize.SL Idealize.SL.Sem

/-- The word of the experts' table at grid point `i`. -/
abbrev here (T0 : S304.Idx → Elt Ideal .i32) (i : grid0.Coords) : BitVec 32 :=
  View.readAt (Elt Ideal) (tbM0_0).view (Rect.unit (s := S304) (k0_off1 i) S1.size (k0_off1_inb i)).toLoadRect T0 (Shape.Idx.first (numel1_S1.symm ▸ Nat.one_pos))

/-- The word of the experts' table at the grid point before `i` (the first point's own at the first). -/
abbrev last (T0 : S304.Idx → Elt Ideal .i32) (i : grid0.Coords) : BitVec 32 :=
  View.readAt (Elt Ideal) (tbM0_0).view (Rect.unit (s := S304) (k0_off2 i) S1.size (k0_off2_inb i)).toLoadRect T0 (Shape.Idx.first (numel1_S1.symm ▸ Nat.one_pos))

/-- The number of used points. -/
abbrev many (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

/-- The point is used and its weights are to be loaded: the first branch's condition. -/
abbrev Fresh (T0 : S304.Idx → Elt Ideal .i32) (T1 : S1.Idx → Elt Ideal .i32) (i : grid0.Coords) : Prop :=
  (Scalar.cmpi .ne (Scalar.extui (Scalar.andi (Scalar.ori (Scalar.cmpi .eq (BitVec.ofNat 32 (i 0).val) 0#32) (Scalar.cmpi .ne (here T0 i) (last T0 i))) (Scalar.cmpi .slt (BitVec.ofNat 32 (i 0).val) (many T1)))) 0#32) = 1#1

/-- The point is used: the second branch's condition. -/
abbrev Used (T1 : S1.Idx → Elt Ideal .i32) (i : grid0.Coords) : Prop := k0_cond2 i (many T1) = 1#1

/-- The point is unused: the third branch's condition. -/
abbrev Idle (T1 : S1.Idx → Elt Ideal .i32) (i : grid0.Coords) : Prop := k0_cond3 i (many T1) = 1#1

/-- A bit made a word is not zero exactly when the bit is set. -/
theorem ne_zero_bit (b : BitVec 1) : Scalar.cmpi .ne (Scalar.extui b) 0#32 = b := by revert b; decide

/-- Of two conjoined bits that give one, the second is one. -/
theorem and_right (a b : BitVec 1) : Scalar.andi a b = 1#1 → b = 1#1 := by revert a b; decide

/-- Of two conjoined bits that do not give one where the second is one, the first is not one. -/
theorem and_left (a b : BitVec 1) : ¬Scalar.andi a b = 1#1 → b = 1#1 → ¬a = 1#1 := by revert a b; decide

/-- Two disjoined bits that do not give one are both not one. -/
theorem or_not (a b : BitVec 1) : ¬Scalar.ori a b = 1#1 → ¬a = 1#1 ∧ ¬b = 1#1 := by revert a b; decide

/-- Less is a bit that is the opposite of the bit of at least. -/
theorem sge_bit (x y : BitVec 32) : (Scalar.cmpi .sge x y = 1#1) ↔ ¬(Scalar.cmpi .slt x y = 1#1) := by
  simp only [Scalar.cmpi, IntOp.cmpi, BitVec.slt, BitVec.sle]
  by_cases h : x.toInt < y.toInt <;> simp [h, not_le.mpr, not_lt.mp, le_of_not_gt] <;> omega

/-- A point whose weights are to be loaded is used. -/
theorem used_of_fresh {T0 : S304.Idx → Elt Ideal .i32} {T1 : S1.Idx → Elt Ideal .i32} {i : grid0.Coords} (h : Fresh T0 T1 i) : Used T1 i := by
  unfold Fresh at h; rw [ne_zero_bit] at h
  unfold Used k0_cond2; dsimp only; rw [ne_zero_bit]
  exact and_right _ _ h

/-- A point is unused exactly when it is not used. -/
theorem idle_iff {T1 : S1.Idx → Elt Ideal .i32} {i : grid0.Coords} : Idle T1 i ↔ ¬Used T1 i := by
  unfold Idle Used k0_cond3 k0_cond2; dsimp only; rw [ne_zero_bit, ne_zero_bit]
  exact sge_bit _ _

/-- A used point that loads no weights is not the first, and has the expert of the one before. -/
theorem same_of_not_fresh {T0 : S304.Idx → Elt Ideal .i32} {T1 : S1.Idx → Elt Ideal .i32} {i : grid0.Coords} (h : ¬Fresh T0 T1 i) (hu : Used T1 i) :
    (i 0).val ≠ 0 ∧ here T0 i = last T0 i := by
  unfold Fresh at h; rw [ne_zero_bit] at h
  unfold Used k0_cond2 at hu; dsimp only at hu; rw [ne_zero_bit] at hu
  obtain ⟨h1, h2⟩ := or_not _ _ (and_left _ _ h hu)
  refine ⟨fun h0 => h1 ?_, ?_⟩
  · rw [h0]; decide
  · by_contra hne
    exact h2 (by show BitVec.ofBool (here T0 i != last T0 i) = 1#1; rw [bne_iff_ne.mpr hne]; rfl)

/-- What a used point computes from its rows, its biases and the three weights kept in scratch. -/
abbrev product (x : S256x1024.Idx → Elt Ideal .f32) (g : S1024x1024.Idx → Elt Ideal .bf16) (bg : S1x1x1024.Idx → Elt Ideal .f32) (u : S1024x1024.Idx → Elt Ideal .bf16)
    (bu : S1x1x1024.Idx → Elt Ideal .f32) (d : S1024x1024.Idx → Elt Ideal .bf16) (bd : S1x1x1024.Idx → Elt Ideal .f32) : S256x1024.Idx → Elt Ideal .f32 :=
  k0_pay5 x g bg u bu d bd

/-- Equal arguments give equal products. -/
theorem product_congr {x x' : S256x1024.Idx → Elt Ideal .f32} {g g' : S1024x1024.Idx → Elt Ideal .bf16} {bg bg' : S1x1x1024.Idx → Elt Ideal .f32} {u u' : S1024x1024.Idx → Elt Ideal .bf16}
    {bu bu' : S1x1x1024.Idx → Elt Ideal .f32} {d d' : S1024x1024.Idx → Elt Ideal .bf16} {bd bd' : S1x1x1024.Idx → Elt Ideal .f32}
    (hx : x = x') (hg : g = g') (hbg : bg = bg') (hu : u = u') (hbu : bu = bu') (hd : d = d') (hbd : bd = bd') :
    product x g bg u bu d bd = product x' g' bg' u' bu' d' bd' := by
  subst hx; subst hg; subst hbg; subst hu; subst hbu; subst hd; subst hbd; rfl

section
variable (c : Dev nD) (i : grid0.Coords)
    (arg3 : Memref sig .tc .vmem S256x1024 .f32) (harg3 : arg3.IsWhole)
    (arg4 : Memref sig .tc .vmem S1x1024x1024 .f32) (harg4 : arg4.IsWhole)
    (arg5 : Memref sig .tc .vmem S1x1x1024 .f32) (harg5 : arg5.IsWhole)
    (arg6 : Memref sig .tc .vmem S1x1024x1024 .f32) (harg6 : arg6.IsWhole)
    (arg7 : Memref sig .tc .vmem S1x1x1024 .f32) (harg7 : arg7.IsWhole)
    (arg8 : Memref sig .tc .vmem S1x1024x1024 .f32) (harg8 : arg8.IsWhole)
    (arg9 : Memref sig .tc .vmem S1x1x1024 .f32) (harg9 : arg9.IsWhole)
    (arg10 : Memref sig .tc .vmem S256x1024 .f32) (harg10 : arg10.IsWhole)
    (T0 : S304.Idx → Elt Ideal .i32) (T1 : S1.Idx → Elt Ideal .i32)
    (x0 : S256x1024.Idx → Elt Ideal .f32)
    (x1 : S1x1024x1024.Idx → Elt Ideal .f32)
    (x2 : S1x1x1024.Idx → Elt Ideal .f32)
    (x3 : S1x1024x1024.Idx → Elt Ideal .f32)
    (x4 : S1x1x1024.Idx → Elt Ideal .f32)
    (x5 : S1x1024x1024.Idx → Elt Ideal .f32)
    (x6 : S1x1x1024.Idx → Elt Ideal .f32)

/-- A point that loads its weights leaves the product with them. -/
theorem out_fresh (hc0 : Fresh T0 T1 i) (h2 : Used T1 i) (h3 : ¬Idle T1 i) :
    out0_A_7 c i arg3 harg3 arg4 harg4 arg5 harg5 arg6 harg6 arg7 harg7 arg8 harg8 arg9 harg9 arg10 harg10 T0 T1 x0 x1 x2 x3 x4 x5 x6 hc0 h2 h3 = product x0 (k0_pay1 x1) x2 (k0_pay2 x3) x4 (k0_pay3 x5) x6 := by
  unfold out0_A_7 kernelRun0_A kernelRun0_A.sl.HO7_1 kernelRun0_A.sl.r_3; dsimp only
  rw [View.read_writes_full]
  exact product_congr (View.readAt_rep_full _ _ _)
    ((View.readCov_full _ _ _ _ _).trans (congrArg k0_pay1 (View.readAt_rep_full _ _ _))) (View.readAt_rep_full _ _ _)
    ((View.readCov_full _ _ _ _ _).trans (congrArg k0_pay2 (View.readAt_rep_full _ _ _))) (View.readAt_rep_full _ _ _)
    ((View.readCov_full _ _ _ _ _).trans (congrArg k0_pay3 (View.readAt_rep_full _ _ _))) (View.readAt_rep_full _ _ _)

/-- A point that loads its weights leaves the first of them in the first scratch, cast. -/
theorem keep0_fresh (hc0 : Fresh T0 T1 i) (h2 : Used T1 i) (h3 : ¬Idle T1 i) :
    scM0_0.view.read (Elt Ideal) (kernelRun0_A c i arg3 harg3 arg4 harg4 arg5 harg5 arg6 harg6 arg7 harg7 arg8 harg8 arg9 harg9 arg10 harg10 T0 T1 x0 x1 x2 x3 x4 x5 x6 hc0 h2 h3).2.1 = k0_pay1 x1 := by
  unfold kernelRun0_A kernelRun0_A.sl.HS0_1; dsimp only
  rw [View.read_writes_full]
  exact congrArg k0_pay1 (View.readAt_rep_full _ _ _)

/-- The second likewise. -/
theorem keep1_fresh (hc0 : Fresh T0 T1 i) (h2 : Used T1 i) (h3 : ¬Idle T1 i) :
    scM0_1.view.read (Elt Ideal) (kernelRun0_A c i arg3 harg3 arg4 harg4 arg5 harg5 arg6 harg6 arg7 harg7 arg8 harg8 arg9 harg9 arg10 harg10 T0 T1 x0 x1 x2 x3 x4 x5 x6 hc0 h2 h3).2.2.1 = k0_pay2 x3 := by
  unfold kernelRun0_A kernelRun0_A.sl.HS1_1; dsimp only
  rw [View.read_writes_full]
  exact congrArg k0_pay2 (View.readAt_rep_full _ _ _)

/-- The third likewise. -/
theorem keep2_fresh (hc0 : Fresh T0 T1 i) (h2 : Used T1 i) (h3 : ¬Idle T1 i) :
    scM0_2.view.read (Elt Ideal) (kernelRun0_A c i arg3 harg3 arg4 harg4 arg5 harg5 arg6 harg6 arg7 harg7 arg8 harg8 arg9 harg9 arg10 harg10 T0 T1 x0 x1 x2 x3 x4 x5 x6 hc0 h2 h3).2.2.2.1 = k0_pay3 x5 := by
  unfold kernelRun0_A kernelRun0_A.sl.HS2_1; dsimp only
  rw [View.read_writes_full]
  exact congrArg k0_pay3 (View.readAt_rep_full _ _ _)

variable (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

/-- A used point that loads no weights leaves the product with the kept ones. -/
theorem out_same (hc0 : ¬Fresh T0 T1 i) (h2 : Used T1 i) (h3 : ¬Idle T1 i) :
    out0_B_7 c i arg3 harg3 arg4 harg4 arg5 harg5 arg6 harg6 arg7 harg7 arg8 harg8 arg9 harg9 arg10 harg10 T0 T1 x0 x1 x2 x3 x4 x5 x6 xa0 xa1 xa2 hc0 h2 h3
      = product x0 (scM0_0.view.read (Elt Ideal) xa0) x2 (scM0_1.view.read (Elt Ideal) xa1) x4 (scM0_2.view.read (Elt Ideal) xa2) x6 := by
  unfold out0_B_7 kernelRun0_B kernelRun0_B.sl.HO7_1 kernelRun0_B.sl.r_3; dsimp only
  rw [View.read_writes_full]
  exact product_congr (View.readAt_rep_full _ _ _) (View.readAt_full _ _ _) (View.readAt_rep_full _ _ _)
    (View.readAt_full _ _ _) (View.readAt_rep_full _ _ _) (View.readAt_full _ _ _) (View.readAt_rep_full _ _ _)

/-- It leaves the kept weights as they were. -/
theorem keep_same (hc0 : ¬Fresh T0 T1 i) (h2 : Used T1 i) (h3 : ¬Idle T1 i) :
    (kernelRun0_B c i arg3 harg3 arg4 harg4 arg5 harg5 arg6 harg6 arg7 harg7 arg8 harg8 arg9 harg9 arg10 harg10 T0 T1 x0 x1 x2 x3 x4 x5 x6 xa0 xa1 xa2 hc0 h2 h3).2.1 = xa0
      ∧ (kernelRun0_B c i arg3 harg3 arg4 harg4 arg5 harg5 arg6 harg6 arg7 harg7 arg8 harg8 arg9 harg9 arg10 harg10 T0 T1 x0 x1 x2 x3 x4 x5 x6 xa0 xa1 xa2 hc0 h2 h3).2.2.1 = xa1
      ∧ (kernelRun0_B c i arg3 harg3 arg4 harg4 arg5 harg5 arg6 harg6 arg7 harg7 arg8 harg8 arg9 harg9 arg10 harg10 T0 T1 x0 x1 x2 x3 x4 x5 x6 xa0 xa1 xa2 hc0 h2 h3).2.2.2.1 = xa2 := by
  unfold kernelRun0_B; exact ⟨rfl, rfl, rfl⟩

/-- An unused point leaves zeros. -/
theorem out_idle (hc0 : ¬Fresh T0 T1 i) (h2 : ¬Used T1 i) (h3 : Idle T1 i) :
    out0_C_7 c i arg3 harg3 arg4 harg4 arg5 harg5 arg6 harg6 arg7 harg7 arg8 harg8 arg9 harg9 arg10 harg10 T0 T1 x0 x1 x2 x3 x4 x5 x6 xa0 xa1 xa2 hc0 h2 h3 = k0_pay4 (F := Ideal) := by
  unfold out0_C_7 kernelRun0_C kernelRun0_C.sl.HO7_1; dsimp only
  rw [View.read_writes_full]

end

end Cert.Kernel3Ideal.Experts

end
-- ==== Proof.ExpertRun.lean ====
module

public import proofs.«01_k».proof.Proof.ExpertBody
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
public import Idealize.ShloMosaic.Lib.Pipeline.ValueKit
public import Idealize.ShloMosaic.Lib.Pointwise

/-! The experts' call from any table of experts below 32 and any number of used points: what each grid point leaves, that every
execution ends, and that the arguments stay. -/

@[expose] public section

set_option maxRecDepth 16384
set_option Elab.async false

noncomputable section

namespace Cert.Kernel3Ideal.Experts

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resources: the staging cells'. -/
abbrev EP : Emb (UR sig nD τ) 𝕄 := emb₁

variable (m : (ℓ : Loc nD τ sig) → Buf (Elt Ideal) ℓ)

/-- The table of the points' experts. -/
abbrev T0 : S304.Idx → Elt Ideal .i32 := m (((0 : Dev nD) : Thread nD τ).loc main_arg0)

/-- The number of used points, as a table of one word. -/
abbrev T1 : S1.Idx → Elt Ideal .i32 := m (((0 : Dev nD) : Thread nD τ).loc main_arg1)

/-- The two tables together. -/
def pfM : pre0.Contents (Elt Ideal) := fun | ⟨0, _⟩ => T0 m | ⟨1, _⟩ => T1 m | ⟨_ + 2, h⟩ => absurd h (by simp)

/-- Every expert is one of the 32. -/
def Few : Prop := ∀ x : S304.Idx, (T0 m x : BitVec 32).toNat < 32

variable (hok : Few m)

/-- The expert of a point is one of the 32. -/
theorem few_at (h : Few m) (i : grid0.Coords) : (here (T0 m) i).toNat < 32 := h _

/-- Blocks at experts of the 32 lie inside the arrays. -/
theorem ok_few (h : Few m) : ok0 (F := Ideal) (pfM m) := by
  have hi := few_at m h
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩⟩
  all_goals
    match a with
    | ⟨0, _⟩ => show ((here (T0 m) i).toNat + 1) * 1 ≤ 32; have := hi i; omega
    | ⟨1, _⟩ => first | exact (by decide : (0 + 1) * 1024 ≤ 1024) | exact (by decide : (0 + 1) * 1 ≤ 1)
    | ⟨2, _⟩ => exact (by decide : (0 + 1) * 1024 ≤ 1024)

/-- The tables, admissible. -/
def adm : (pcfg0 (F := Ideal)).Adm := ⟨pfM m, ok_few m hok⟩

/-- The pipeline at the tables. -/
abbrev cfgA : Pipeline.Cfg sig Λ₀ := cfg0 (F := Ideal) (adm m hok)

/-- The one pipeline of the program. -/
abbrev pcs : Fin 1 → Pipeline.Cfg sig Λ₀ := Pipeline.pin (pcfgs (F := Ideal)) fun _ => adm m hok

variable (ρ : Dev nD → PrngReg)

/-- A point's coordinates. -/
abbrev crd (t : Fin (cfgA m hok).N) : grid0.Coords := (cfgA m hok).grid.coords t

abbrev ms0_0 (t : Fin (cfgA m hok).N) : Memref sig .tc .vmem S256x1024 .f32 := spec0_0.stage ((cfgA m hok).slots t (0 : Fin 8))
abbrev hs0_0 (t : Fin (cfgA m hok).N) : (ms0_0 m hok t).IsWhole := hstage0_0 (((cfgA m hok).slots t (0 : Fin 8)).cast nbuf0_0)
abbrev ms0_1 (t : Fin (cfgA m hok).N) : Memref sig .tc .vmem S1x1024x1024 .f32 := spec0_1.stage ((cfgA m hok).slots t (1 : Fin 8))
abbrev hs0_1 (t : Fin (cfgA m hok).N) : (ms0_1 m hok t).IsWhole := hstage0_1 (((cfgA m hok).slots t (1 : Fin 8)).cast nbuf0_1)
abbrev ms0_2 (t : Fin (cfgA m hok).N) : Memref sig .tc .vmem S1x1x1024 .f32 := spec0_2.stage ((cfgA m hok).slots t (2 : Fin 8))
abbrev hs0_2 (t : Fin (cfgA m hok).N) : (ms0_2 m hok t).IsWhole := hstage0_2 (((cfgA m hok).slots t (2 : Fin 8)).cast nbuf0_2)
abbrev ms0_3 (t : Fin (cfgA m hok).N) : Memref sig .tc .vmem S1x1024x1024 .f32 := spec0_3.stage ((cfgA m hok).slots t (3 : Fin 8))
abbrev hs0_3 (t : Fin (cfgA m hok).N) : (ms0_3 m hok t).IsWhole := hstage0_3 (((cfgA m hok).slots t (3 : Fin 8)).cast nbuf0_3)
abbrev ms0_4 (t : Fin (cfgA m hok).N) : Memref sig .tc .vmem S1x1x1024 .f32 := spec0_4.stage ((cfgA m hok).slots t (4 : Fin 8))
abbrev hs0_4 (t : Fin (cfgA m hok).N) : (ms0_4 m hok t).IsWhole := hstage0_4 (((cfgA m hok).slots t (4 : Fin 8)).cast nbuf0_4)
abbrev ms0_5 (t : Fin (cfgA m hok).N) : Memref sig .tc .vmem S1x1024x1024 .f32 := spec0_5.stage ((cfgA m hok).slots t (5 : Fin 8))
abbrev hs0_5 (t : Fin (cfgA m hok).N) : (ms0_5 m hok t).IsWhole := hstage0_5 (((cfgA m hok).slots t (5 : Fin 8)).cast nbuf0_5)
abbrev ms0_6 (t : Fin (cfgA m hok).N) : Memref sig .tc .vmem S1x1x1024 .f32 := spec0_6.stage ((cfgA m hok).slots t (6 : Fin 8))
abbrev hs0_6 (t : Fin (cfgA m hok).N) : (ms0_6 m hok t).IsWhole := hstage0_6 (((cfgA m hok).slots t (6 : Fin 8)).cast nbuf0_6)
abbrev ms0_7 (t : Fin (cfgA m hok).N) : Memref sig .tc .vmem S256x1024 .f32 := spec0_7.stage ((cfgA m hok).slots t (7 : Fin 8))
abbrev hs0_7 (t : Fin (cfgA m hok).N) : (ms0_7 m hok t).IsWhole := hstage0_7 (((cfgA m hok).slots t (7 : Fin 8)).cast nbuf0_7)

/-- An input window's block at a point, read off its array at launch. -/
def iblk (c : Dev nD) (w : Fin (cfgA m hok).W) (t : Fin (cfgA m hok).N) : (((cfgA m hok).win w).xblock (crd m hok t)).Idx → Elt Ideal ((cfgA m hok).win w).elt :=
  (((cfgA m hok).win w).blk t).view.read (Elt Ideal) ((s₀ m ρ).mem (((cfgA m hok).win w).arr.view.loc (c : Thread nD τ)))

/-- The grid is one axis: a point's coordinate is its number. -/
theorem crd_val : ∀ t : Fin grid0.N, (grid0.coords t 0).val = t.val := by decide +kernel

/-- The rows' window and the output's window lie at the point's number. -/
theorem map7_ne : ∀ t : Fin grid0.N, ∀ h : t.val + 1 < grid0.N, cc0_transform_7 (grid0.coords ⟨t.val + 1, h⟩) ≠ cc0_transform_7 (grid0.coords t) := by decide +kernel

/-- The output is written back at every point. -/
theorem flush7 (t : Fin (cfgA m hok).N) : ((cfgA m hok).win (7 : Fin 8)).flush t = true := by
  unfold Pipeline.Window.flush
  rw [Bool.and_eq_true]
  refine ⟨rfl, ?_⟩
  rw [Bool.or_eq_true]
  by_cases h : t.val + 1 < grid0.N
  · right; rw [decide_eq_true_eq]; exact ⟨h, map7_ne t h⟩
  · left; rw [decide_eq_true_eq]; have := t.isLt; show t.val + 1 = grid0.N
    have e : (cfgA m hok).N = grid0.N := rfl
    omega

/-- Whatever the number of used points, one of the last two branches runs. -/
theorem never_idle (i : grid0.Coords) (v : BitVec 32) : (!(k0_cond2 i v == 1#1) && !(k0_cond3 i v == 1#1)) = false := by
  unfold k0_cond2 k0_cond3; dsimp only; rw [ne_zero_bit, ne_zero_bit]
  by_cases h : Scalar.cmpi .slt (BitVec.ofNat 32 (i 0).val) v = 1#1
  · rw [h]; rfl
  · rw [(sge_bit _ _).mpr h]; simp

/-- No point leaves the output alone. -/
theorem idle7 (t : Fin (cfgA m hok).N) : (cfgA m hok).idle (7 : Fin 8) ((cfgA m hok).grid.coords t) = false := never_idle _ _

/-- Before every point the output's buffer holds nothing. -/
theorem fresh7 (t : Fin (cfgA m hok).N) : (cfgA m hok).fresh (7 : Fin 8) t.val = true :=
  Pipeline.Cfg.fresh_tab (cfgA m hok) (7 : Fin 8) (fun _ => true) rfl (fun t => by rw [flush7]; rfl) t.val (Nat.le_of_lt t.isLt)

/-- The expert of a point is one of the 32. -/
theorem here_lt (t : Fin (cfgA m hok).N) : (here (T0 m) (crd m hok t)).toNat < 32 := few_at m hok _

/-- Two stacks of one array are equal where their entries are. -/
theorem stack_ext {α : Type} {f g : S1x1024x1024.Idx → α} (h : ∀ d e : Fin 1024, f (ix3 0 d e) = g (ix3 0 d e)) : f = g := by
  funext x
  rw [eq_ix3 x, show x 0 = (0 : Fin 1) from Subsingleton.elim (α := Fin 1) _ _]
  exact h _ _

/-- Where input window 1's block lies: at the point's expert. -/
theorem idx1 (t : Fin (cfgA m hok).N) : ((cfgA m hok).win (1 : Fin 8)).index t = ![(here (T0 m) (crd m hok t)).toNat, 0, 0] := rfl

/-- Input window 1's block at an entry. -/
theorem blk1_at (c : Dev nD) (t : Fin (cfgA m hok).N) (d : Fin 1024) (f : Fin 1024) (he : (here (T0 m) (crd m hok t)).toNat < 32) :
    (iblk m hok ρ c (1 : Fin 8) t : S1x1024x1024.Idx → Elt Ideal .f32) (ix3 0 d f) = m ((c : Thread nD τ).loc main_arg3) (ix3 ⟨(here (T0 m) (crd m hok t)).toNat, he⟩ d f) := by
  blk_ext [iblk, idx1 m hok t]

/-- Points of one expert have one block of input window 1. -/
theorem blk1_same (c : Dev nD) (s t : Fin (cfgA m hok).N) (h : here (T0 m) (crd m hok s) = here (T0 m) (crd m hok t)) :
    (iblk m hok ρ c (1 : Fin 8) s : S1x1024x1024.Idx → Elt Ideal .f32) = iblk m hok ρ c (1 : Fin 8) t := by
  refine stack_ext fun d e => ?_
  rw [blk1_at m hok ρ c s d e (here_lt m hok s), blk1_at m hok ρ c t d e (here_lt m hok t)]
  simp only [h]

/-- Where input window 3's block lies: at the point's expert. -/
theorem idx3 (t : Fin (cfgA m hok).N) : ((cfgA m hok).win (3 : Fin 8)).index t = ![(here (T0 m) (crd m hok t)).toNat, 0, 0] := rfl

/-- Input window 3's block at an entry. -/
theorem blk3_at (c : Dev nD) (t : Fin (cfgA m hok).N) (d : Fin 1024) (f : Fin 1024) (he : (here (T0 m) (crd m hok t)).toNat < 32) :
    (iblk m hok ρ c (3 : Fin 8) t : S1x1024x1024.Idx → Elt Ideal .f32) (ix3 0 d f) = m ((c : Thread nD τ).loc main_arg5) (ix3 ⟨(here (T0 m) (crd m hok t)).toNat, he⟩ d f) := by
  blk_ext [iblk, idx3 m hok t]

/-- Points of one expert have one block of input window 3. -/
theorem blk3_same (c : Dev nD) (s t : Fin (cfgA m hok).N) (h : here (T0 m) (crd m hok s) = here (T0 m) (crd m hok t)) :
    (iblk m hok ρ c (3 : Fin 8) s : S1x1024x1024.Idx → Elt Ideal .f32) = iblk m hok ρ c (3 : Fin 8) t := by
  refine stack_ext fun d e => ?_
  rw [blk3_at m hok ρ c s d e (here_lt m hok s), blk3_at m hok ρ c t d e (here_lt m hok t)]
  simp only [h]

/-- Where input window 5's block lies: at the point's expert. -/
theorem idx5 (t : Fin (cfgA m hok).N) : ((cfgA m hok).win (5 : Fin 8)).index t = ![(here (T0 m) (crd m hok t)).toNat, 0, 0] := rfl

/-- Input window 5's block at an entry. -/
theorem blk5_at (c : Dev nD) (t : Fin (cfgA m hok).N) (d : Fin 1024) (f : Fin 1024) (he : (here (T0 m) (crd m hok t)).toNat < 32) :
    (iblk m hok ρ c (5 : Fin 8) t : S1x1024x1024.Idx → Elt Ideal .f32) (ix3 0 d f) = m ((c : Thread nD τ).loc main_arg7) (ix3 ⟨(here (T0 m) (crd m hok t)).toNat, he⟩ d f) := by
  blk_ext [iblk, idx5 m hok t]

/-- Points of one expert have one block of input window 5. -/
theorem blk5_same (c : Dev nD) (s t : Fin (cfgA m hok).N) (h : here (T0 m) (crd m hok s) = here (T0 m) (crd m hok t)) :
    (iblk m hok ρ c (5 : Fin 8) s : S1x1024x1024.Idx → Elt Ideal .f32) = iblk m hok ρ c (5 : Fin 8) t := by
  refine stack_ext fun d e => ?_
  rw [blk5_at m hok ρ c s d e (here_lt m hok s), blk5_at m hok ρ c t d e (here_lt m hok t)]
  simp only [h]

/-- Where input window 2's block lies: at the point's expert. -/
theorem idx2 (t : Fin (cfgA m hok).N) : ((cfgA m hok).win (2 : Fin 8)).index t = ![(here (T0 m) (crd m hok t)).toNat, 0, 0] := rfl

/-- Input window 2's block at an entry. -/
theorem blk2_at (c : Dev nD) (t : Fin (cfgA m hok).N) (d : Fin 1) (f : Fin 1024) (he : (here (T0 m) (crd m hok t)).toNat < 32) :
    (iblk m hok ρ c (2 : Fin 8) t : S1x1x1024.Idx → Elt Ideal .f32) (ix3 0 d f) = m ((c : Thread nD τ).loc main_arg4) (ix3 ⟨(here (T0 m) (crd m hok t)).toNat, he⟩ d f) := by
  blk_ext [iblk, idx2 m hok t]

/-- Where input window 4's block lies: at the point's expert. -/
theorem idx4 (t : Fin (cfgA m hok).N) : ((cfgA m hok).win (4 : Fin 8)).index t = ![(here (T0 m) (crd m hok t)).toNat, 0, 0] := rfl

/-- Input window 4's block at an entry. -/
theorem blk4_at (c : Dev nD) (t : Fin (cfgA m hok).N) (d : Fin 1) (f : Fin 1024) (he : (here (T0 m) (crd m hok t)).toNat < 32) :
    (iblk m hok ρ c (4 : Fin 8) t : S1x1x1024.Idx → Elt Ideal .f32) (ix3 0 d f) = m ((c : Thread nD τ).loc main_arg6) (ix3 ⟨(here (T0 m) (crd m hok t)).toNat, he⟩ d f) := by
  blk_ext [iblk, idx4 m hok t]

/-- Where input window 6's block lies: at the point's expert. -/
theorem idx6 (t : Fin (cfgA m hok).N) : ((cfgA m hok).win (6 : Fin 8)).index t = ![(here (T0 m) (crd m hok t)).toNat, 0, 0] := rfl

/-- Input window 6's block at an entry. -/
theorem blk6_at (c : Dev nD) (t : Fin (cfgA m hok).N) (d : Fin 1) (f : Fin 1024) (he : (here (T0 m) (crd m hok t)).toNat < 32) :
    (iblk m hok ρ c (6 : Fin 8) t : S1x1x1024.Idx → Elt Ideal .f32) (ix3 0 d f) = m ((c : Thread nD τ).loc main_arg8) (ix3 ⟨(here (T0 m) (crd m hok t)).toNat, he⟩ d f) := by
  blk_ext [iblk, idx6 m hok t]

/-- The word of the table at a point's own place. -/
theorem word_here : ∀ t : Fin grid0.N, k0_off1 (grid0.coords t) = ![t.val] := by decide +kernel

/-- The place of the point before. -/
theorem word_last : ∀ t : Fin grid0.N, k0_off2 (grid0.coords t) = ![t.val - 1] := by decide +kernel

/-- Words read at equal places are equal. -/
theorem word_congr (T : S304.Idx → Elt Ideal .i32) {o o' : Fin 1 → ℕ} (h : o = o') (b : ∀ a, o a + S1.size a ≤ S304.size a) (b' : ∀ a, o' a + S1.size a ≤ S304.size a) :
    View.readAt (Elt Ideal) (tbM0_0).view (Rect.unit (s := S304) o S1.size b).toLoadRect T (Shape.Idx.first (numel1_S1.symm ▸ Nat.one_pos))
      = View.readAt (Elt Ideal) (tbM0_0).view (Rect.unit (s := S304) o' S1.size b').toLoadRect T (Shape.Idx.first (numel1_S1.symm ▸ Nat.one_pos)) := by
  subst h; rfl

/-- A point before a used one is used. -/
theorem used_before (v : BitVec 32) (n : ℕ) (hn : n + 1 < 304) (h : Scalar.cmpi .slt (BitVec.ofNat 32 (n + 1)) v = 1#1) : Scalar.cmpi .slt (BitVec.ofNat 32 n) v = 1#1 := by
  simp only [Scalar.cmpi, IntOp.cmpi, BitVec.slt] at h ⊢
  have e1 : (BitVec.ofNat 32 (n + 1)).toInt = n + 1 := by rw [BitVec.toInt_eq_toNat_of_lt] <;> simp only [BitVec.toNat_ofNat] <;> omega
  have e0 : (BitVec.ofNat 32 n).toInt = n := by rw [BitVec.toInt_eq_toNat_of_lt] <;> simp only [BitVec.toNat_ofNat] <;> omega
  rw [e1] at h; rw [e0]
  by_cases hv : ((n : ℤ) + 1) < v.toInt
  · rw [decide_eq_true (show (n : ℤ) < v.toInt by omega)]; rfl
  · rw [decide_eq_false hv] at h; exact absurd h (by decide)

/-- A used point that loads no weights has a point before it, used, of the same expert. -/
theorem before_same (t : Fin (cfgA m hok).N) (hc0 : ¬Fresh (T0 m) (T1 m) (crd m hok t)) (h2 : Used (T1 m) (crd m hok t)) :
    ∃ s : Fin (cfgA m hok).N, s.val + 1 = t.castSucc.val ∧ Used (T1 m) (crd m hok s) ∧ here (T0 m) (crd m hok s) = here (T0 m) (crd m hok t) := by
  obtain ⟨h0, he⟩ := same_of_not_fresh hc0 h2
  have hN : t.val < 304 := lt_of_lt_of_eq t.isLt N_0
  rw [show ((crd m hok t) 0).val = t.val from crd_val t] at h0
  have hs : t.val - 1 < (cfgA m hok).N := lt_of_le_of_lt (Nat.sub_le _ _) t.isLt
  refine ⟨⟨t.val - 1, hs⟩, ?_, ?_, ?_⟩
  · show t.val - 1 + 1 = t.val; omega
  · unfold Used k0_cond2 at h2 ⊢; dsimp only at h2 ⊢; rw [ne_zero_bit] at h2 ⊢
    rw [show ((crd m hok t) 0).val = t.val from crd_val t] at h2
    rw [show ((crd m hok ⟨t.val - 1, hs⟩) 0).val = t.val - 1 from crd_val ⟨t.val - 1, hs⟩]
    refine used_before _ (t.val - 1) (by omega) ?_
    rw [show t.val - 1 + 1 = t.val by omega]; exact h2
  · rw [he]
    exact word_congr (T0 m) ((word_here ⟨t.val - 1, hs⟩).trans (word_last t).symm) _ _

/-- At step `k` the value `v` is the one, `g`, of the point before, where that was used. -/
def Held {α : Type} (k : ℕ) (v : α) (g : Fin (cfgA m hok).N → α) : Prop :=
  ∀ s : Fin (cfgA m hok).N, s.val + 1 = k → Used (T1 m) (crd m hok s) → v = g s

/-- A value that a point makes its own is held after it. -/
theorem held_own {α : Type} (t : Fin (cfgA m hok).N) {v : α} {g : Fin (cfgA m hok).N → α} (h : v = g t) : Held m hok t.succ.val v g := by
  intro s hs _
  obtain rfl : s = t := Fin.ext (by have := Fin.val_succ t; omega)
  exact h

/-- After an unused point anything is held. -/
theorem held_idle {α : Type} (t : Fin (cfgA m hok).N) {v : α} {g : Fin (cfgA m hok).N → α} (h2 : ¬Used (T1 m) (crd m hok t)) : Held m hok t.succ.val v g := by
  intro s hs hu
  obtain rfl : s = t := Fin.ext (by have := Fin.val_succ t; omega)
  exact absurd hu h2

/-- What a used point that loads no weights finds held is its own, where points of one expert have one value. -/
theorem held_same {α : Type} (t : Fin (cfgA m hok).N) {v : α} {g : Fin (cfgA m hok).N → α} (hc0 : ¬Fresh (T0 m) (T1 m) (crd m hok t)) (h2 : Used (T1 m) (crd m hok t))
    (hg : ∀ s t, here (T0 m) (crd m hok s) = here (T0 m) (crd m hok t) → g s = g t) (h : Held m hok t.castSucc.val v g) : v = g t := by
  obtain ⟨s, hs, hu, he⟩ := before_same m hok t hc0 h2
  exact (h s hs hu).trans (hg s t he)

/-- The first of a point's weights, as kept. -/
abbrev own0 (c : Dev nD) (t : Fin (cfgA m hok).N) : S1024x1024.Idx → Elt Ideal .bf16 := k0_pay1 (F := Ideal) (iblk m hok ρ c (1 : Fin 8) t)

/-- The second of a point's weights, as kept. -/
abbrev own1 (c : Dev nD) (t : Fin (cfgA m hok).N) : S1024x1024.Idx → Elt Ideal .bf16 := k0_pay2 (F := Ideal) (iblk m hok ρ c (3 : Fin 8) t)

/-- The third of a point's weights, as kept. -/
abbrev own2 (c : Dev nD) (t : Fin (cfgA m hok).N) : S1024x1024.Idx → Elt Ideal .bf16 := k0_pay3 (F := Ideal) (iblk m hok ρ c (5 : Fin 8) t)

/-- What a point leaves in the output's buffer: the product with its expert's weights where it is used, zeros elsewhere. -/
def done (c : Dev nD) (t : Fin (cfgA m hok).N) : S256x1024.Idx → Elt Ideal .f32 :=
  if Used (T1 m) (crd m hok t) then
    product (iblk m hok ρ c (0 : Fin 8) t) (k0_pay1 (F := Ideal) (iblk m hok ρ c (1 : Fin 8) t)) (iblk m hok ρ c (2 : Fin 8) t) (k0_pay2 (F := Ideal) (iblk m hok ρ c (3 : Fin 8) t)) (iblk m hok ρ c (4 : Fin 8) t)
      (k0_pay3 (F := Ideal) (iblk m hok ρ c (5 : Fin 8) t)) (iblk m hok ρ c (6 : Fin 8) t)
  else k0_pay4 (F := Ideal)

/-- Before a point: each scratch holds the weights of the point before where that was used (anything elsewhere), and the body's
    halves of the tables. -/
def Phi (c : Dev nD) (t : Fin ((cfgA m hok).N + 1)) : sProp 𝕄 :=
  iprop((∃ a, ⌜Held m hok t.val (scM0_0.view.read (Elt Ideal) a) (own0 m hok ρ c)⌝ ∗ (scM0_0.view.loc (c : Thread nD τ) ↦{fullShare} a)) ∗ (∃ a, ⌜Held m hok t.val (scM0_1.view.read (Elt Ideal) a) (own1 m hok ρ c)⌝ ∗ (scM0_1.view.loc (c : Thread nD τ) ↦{fullShare} a)) ∗ (∃ a, ⌜Held m hok t.val (scM0_2.view.read (Elt Ideal) a) (own2 m hok ρ c)⌝ ∗ (scM0_2.view.loc (c : Thread nD τ) ↦{fullShare} a)) ∗ (tbM0_0.view.loc (c : Thread nD τ) ↦{fullShare.right} T0 m) ∗ (tbM0_1.view.loc (c : Thread nD τ) ↦{fullShare.right} T1 m))

/-- The pipeline's data on a core. -/
def dats (_ : Fin 1) (c : Dev nD) : Dat τ (Elt Ideal) Unit ℕ (UR sig nD τ) ℕ (cfgA m hok) c where
  A w := (s₀ m ρ).mem (((cfgA m hok).win w).arr.view.loc (c : Thread nD τ))
  after w t := match w with
    | ⟨0, _⟩ => iblk m hok ρ c (0 : Fin 8) t
    | ⟨1, _⟩ => iblk m hok ρ c (1 : Fin 8) t
    | ⟨2, _⟩ => iblk m hok ρ c (2 : Fin 8) t
    | ⟨3, _⟩ => iblk m hok ρ c (3 : Fin 8) t
    | ⟨4, _⟩ => iblk m hok ρ c (4 : Fin 8) t
    | ⟨5, _⟩ => iblk m hok ρ c (5 : Fin 8) t
    | ⟨6, _⟩ => iblk m hok ρ c (6 : Fin 8) t
    | ⟨7, _⟩ => done m hok ρ c t
  Φ t := Phi m hok ρ c t
  q _ := fullShare
  owed _ := 0

/-- Input window 0 keeps its block. -/
theorem after0_0 (c : Dev nD) (t : Fin (cfgA m hok).N) : (dats m hok ρ 0 c).after (0 : Fin 8) t = iblk m hok ρ c (0 : Fin 8) t := rfl

/-- Input window 1 keeps its block. -/
theorem after0_1 (c : Dev nD) (t : Fin (cfgA m hok).N) : (dats m hok ρ 0 c).after (1 : Fin 8) t = iblk m hok ρ c (1 : Fin 8) t := rfl

/-- Input window 2 keeps its block. -/
theorem after0_2 (c : Dev nD) (t : Fin (cfgA m hok).N) : (dats m hok ρ 0 c).after (2 : Fin 8) t = iblk m hok ρ c (2 : Fin 8) t := rfl

/-- Input window 3 keeps its block. -/
theorem after0_3 (c : Dev nD) (t : Fin (cfgA m hok).N) : (dats m hok ρ 0 c).after (3 : Fin 8) t = iblk m hok ρ c (3 : Fin 8) t := rfl

/-- Input window 4 keeps its block. -/
theorem after0_4 (c : Dev nD) (t : Fin (cfgA m hok).N) : (dats m hok ρ 0 c).after (4 : Fin 8) t = iblk m hok ρ c (4 : Fin 8) t := rfl

/-- Input window 5 keeps its block. -/
theorem after0_5 (c : Dev nD) (t : Fin (cfgA m hok).N) : (dats m hok ρ 0 c).after (5 : Fin 8) t = iblk m hok ρ c (5 : Fin 8) t := rfl

/-- Input window 6 keeps its block. -/
theorem after0_6 (c : Dev nD) (t : Fin (cfgA m hok).N) : (dats m hok ρ 0 c).after (6 : Fin 8) t = iblk m hok ρ c (6 : Fin 8) t := rfl

/-- The output's buffer ends at what the point leaves. -/
theorem after0_7 (c : Dev nD) (t : Fin (cfgA m hok).N) : (dats m hok ρ 0 c).after (7 : Fin 8) t = done m hok ρ c t := rfl

/-- Input window 0 holds its block when the body runs, fetched there or not. -/
theorem before0_0 (c : Dev nD) (t : Fin (cfgA m hok).N) (d) : (dats m hok ρ 0 c).before (0 : Fin 8) t d = iblk m hok ρ c (0 : Fin 8) t :=
  ((dats m hok ρ 0 c).before_in_eq_fetched (0 : Fin 8) rfl (fun _ => rfl) (fun _ _ _ => rfl) (fun t => by rw [after0_0]; unfold Dat.blockOf iblk; rfl) t d).trans
    (by unfold Dat.fetched Dat.blockOf iblk; rfl)

/-- Input window 1 holds its block when the body runs, fetched there or not. -/
theorem before0_1 (c : Dev nD) (t : Fin (cfgA m hok).N) (d) : (dats m hok ρ 0 c).before (1 : Fin 8) t d = iblk m hok ρ c (1 : Fin 8) t :=
  ((dats m hok ρ 0 c).before_in_eq_fetched (1 : Fin 8) rfl (fun _ => rfl) (fun _ _ _ => rfl) (fun t => by rw [after0_1]; unfold Dat.blockOf iblk; rfl) t d).trans
    (by unfold Dat.fetched Dat.blockOf iblk; rfl)

/-- Input window 2 holds its block when the body runs, fetched there or not. -/
theorem before0_2 (c : Dev nD) (t : Fin (cfgA m hok).N) (d) : (dats m hok ρ 0 c).before (2 : Fin 8) t d = iblk m hok ρ c (2 : Fin 8) t :=
  ((dats m hok ρ 0 c).before_in_eq_fetched (2 : Fin 8) rfl (fun _ => rfl) (fun _ _ _ => rfl) (fun t => by rw [after0_2]; unfold Dat.blockOf iblk; rfl) t d).trans
    (by unfold Dat.fetched Dat.blockOf iblk; rfl)

/-- Input window 3 holds its block when the body runs, fetched there or not. -/
theorem before0_3 (c : Dev nD) (t : Fin (cfgA m hok).N) (d) : (dats m hok ρ 0 c).before (3 : Fin 8) t d = iblk m hok ρ c (3 : Fin 8) t :=
  ((dats m hok ρ 0 c).before_in_eq_fetched (3 : Fin 8) rfl (fun _ => rfl) (fun _ _ _ => rfl) (fun t => by rw [after0_3]; unfold Dat.blockOf iblk; rfl) t d).trans
    (by unfold Dat.fetched Dat.blockOf iblk; rfl)

/-- Input window 4 holds its block when the body runs, fetched there or not. -/
theorem before0_4 (c : Dev nD) (t : Fin (cfgA m hok).N) (d) : (dats m hok ρ 0 c).before (4 : Fin 8) t d = iblk m hok ρ c (4 : Fin 8) t :=
  ((dats m hok ρ 0 c).before_in_eq_fetched (4 : Fin 8) rfl (fun _ => rfl) (fun _ _ _ => rfl) (fun t => by rw [after0_4]; unfold Dat.blockOf iblk; rfl) t d).trans
    (by unfold Dat.fetched Dat.blockOf iblk; rfl)

/-- Input window 5 holds its block when the body runs, fetched there or not. -/
theorem before0_5 (c : Dev nD) (t : Fin (cfgA m hok).N) (d) : (dats m hok ρ 0 c).before (5 : Fin 8) t d = iblk m hok ρ c (5 : Fin 8) t :=
  ((dats m hok ρ 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- Input window 6 holds its block when the body runs, fetched there or not. -/
theorem before0_6 (c : Dev nD) (t : Fin (cfgA m hok).N) (d) : (dats m hok ρ 0 c).before (6 : Fin 8) t d = iblk m hok ρ c (6 : Fin 8) t :=
  ((dats m hok ρ 0 c).before_in_eq_fetched (6 : Fin 8) rfl (fun _ => rfl) (fun _ _ _ => rfl) (fun t => by rw [after0_6]; unfold Dat.blockOf iblk; rfl) t d).trans
    (by unfold Dat.fetched Dat.blockOf iblk; rfl)

/-- The output's buffer holds anything when the body runs. -/
theorem before0_7 (c : Dev nD) (t : Fin (cfgA m hok).N) (d) : (dats m hok ρ 0 c).before (7 : Fin 8) t d = d := by
  rw [(dats m hok ρ 0 c).before_out_traj (7 : Fin 8) rfl (fun _ _ => rfl) (fun t _ _ hf => absurd ((fresh7 m hok t).symm.trans hf) (by decide)) t.val t rfl d]
  rw [fresh7]; rfl

/-- The first of the kept weights is the one of a used point that loads none. -/
theorem kept0 (c : Dev nD) (t : Fin (cfgA m hok).N) {v : S1024x1024.Idx → Elt Ideal .bf16} (hc0 : ¬Fresh (T0 m) (T1 m) (crd m hok t)) (h2 : Used (T1 m) (crd m hok t))
    (h : Held m hok t.castSucc.val v (own0 m hok ρ c)) : v = own0 m hok ρ c t :=
  held_same m hok t hc0 h2 (fun s t he => congrArg k0_pay1 (blk1_same m hok ρ c s t he)) h

/-- The second of the kept weights is the one of a used point that loads none. -/
theorem kept1 (c : Dev nD) (t : Fin (cfgA m hok).N) {v : S1024x1024.Idx → Elt Ideal .bf16} (hc0 : ¬Fresh (T0 m) (T1 m) (crd m hok t)) (h2 : Used (T1 m) (crd m hok t))
    (h : Held m hok t.castSucc.val v (own1 m hok ρ c)) : v = own1 m hok ρ c t :=
  held_same m hok t hc0 h2 (fun s t he => congrArg k0_pay2 (blk3_same m hok ρ c s t he)) h

/-- The third of the kept weights is the one of a used point that loads none. -/
theorem kept2 (c : Dev nD) (t : Fin (cfgA m hok).N) {v : S1024x1024.Idx → Elt Ideal .bf16} (hc0 : ¬Fresh (T0 m) (T1 m) (crd m hok t)) (h2 : Used (T1 m) (crd m hok t))
    (h : Held m hok t.castSucc.val v (own2 m hok ρ c)) : v = own2 m hok ρ c t :=
  held_same m hok t hc0 h2 (fun s t he => congrArg k0_pay3 (blk5_same m hok ρ c s t he)) h

/-- A point that loads its weights leaves its product. -/
theorem doneA (c : Dev nD) (t : Fin (cfgA m hok).N) (hc0 : Fresh (T0 m) (T1 m) (crd m hok t)) (h2 : Used (T1 m) (crd m hok t)) (h3 : ¬Idle (T1 m) (crd m hok t)) :
    out0_A_7 c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3 = done m hok ρ c t := by
  unfold done; rw [if_pos h2]
  exact out_fresh c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3

/-- A used point that loads no weights leaves its product. -/
theorem doneB (c : Dev nD) (t : Fin (cfgA m hok).N) (a0 : Buf (Elt Ideal) ((c : Thread nD τ).loc cc0_scratch0)) (a1 : Buf (Elt Ideal) ((c : Thread nD τ).loc cc0_scratch1)) (a2 : Buf (Elt Ideal) ((c : Thread nD τ).loc cc0_scratch2))
    (hc0 : ¬Fresh (T0 m) (T1 m) (crd m hok t)) (h2 : Used (T1 m) (crd m hok t)) (h3 : ¬Idle (T1 m) (crd m hok t))
    (ha0 : Held m hok t.castSucc.val (scM0_0.view.read (Elt Ideal) a0) (own0 m hok ρ c)) (ha1 : Held m hok t.castSucc.val (scM0_1.view.read (Elt Ideal) a1) (own1 m hok ρ c)) (ha2 : Held m hok t.castSucc.val (scM0_2.view.read (Elt Ideal) a2) (own2 m hok ρ c)) :
    out0_B_7 c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3 = done m hok ρ c t := by
  unfold done; rw [if_pos h2]
  refine (out_same c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3).trans ?_
  exact product_congr rfl (kept0 m hok ρ c t hc0 h2 ha0) rfl (kept1 m hok ρ c t hc0 h2 ha1) rfl (kept2 m hok ρ c t hc0 h2 ha2) rfl

/-- An unused point leaves zeros. -/
theorem doneC (c : Dev nD) (t : Fin (cfgA m hok).N) (a0 : Buf (Elt Ideal) ((c : Thread nD τ).loc cc0_scratch0)) (a1 : Buf (Elt Ideal) ((c : Thread nD τ).loc cc0_scratch1)) (a2 : Buf (Elt Ideal) ((c : Thread nD τ).loc cc0_scratch2))
    (hc0 : ¬Fresh (T0 m) (T1 m) (crd m hok t)) (h2 : ¬Used (T1 m) (crd m hok t)) (h3 : Idle (T1 m) (crd m hok t)) :
    out0_C_7 c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3 = done m hok ρ c t := by
  unfold done; rw [if_neg h2]
  exact out_idle c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3

/-- The body at a point on its staging buffers. -/
abbrev bodyAt0 (t : Fin (cfgA m hok).N) : Prog (TpuEff nD τ sig (Elt Ideal) Λ₀ .tc) PUnit :=
  cc0_moe_experts (crd m hok t) (Memref.whole main_arg0) (Memref.isWhole_whole _) (Memref.whole main_arg1) (Memref.isWhole_whole _) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (Memref.whole cc0_scratch0) (Memref.isWhole_whole _) (Memref.whole cc0_scratch1) (Memref.isWhole_whole _) (Memref.whole cc0_scratch2) (Memref.isWhole_whole _)

set_option maxHeartbeats 4800000 in
/-- The body at a point, by the three ways its branches can go. -/
theorem sound_body (c : Dev nD) (t : Fin (cfgA m hok).N) :
    iprop((dats m hok ρ 0 c).Φ t.castSucc ∗ (dats m hok ρ 0 c).owesAt () t.castSucc
        ∗ (∃ d, owns (c : Thread nD τ) (ms0_0 m hok t) fullShare ((dats m hok ρ 0 c).before (0 : Fin 8) t d))
        ∗ (∃ d, owns (c : Thread nD τ) (ms0_1 m hok t) fullShare ((dats m hok ρ 0 c).before (1 : Fin 8) t d))
        ∗ (∃ d, owns (c : Thread nD τ) (ms0_2 m hok t) fullShare ((dats m hok ρ 0 c).before (2 : Fin 8) t d))
        ∗ (∃ d, owns (c : Thread nD τ) (ms0_3 m hok t) fullShare ((dats m hok ρ 0 c).before (3 : Fin 8) t d))
        ∗ (∃ d, owns (c : Thread nD τ) (ms0_4 m hok t) fullShare ((dats m hok ρ 0 c).before (4 : Fin 8) t d))
        ∗ (∃ d, owns (c : Thread nD τ) (ms0_5 m hok t) fullShare ((dats m hok ρ 0 c).before (5 : Fin 8) t d))
        ∗ (∃ d, owns (c : Thread nD τ) (ms0_6 m hok t) fullShare ((dats m hok ρ 0 c).before (6 : Fin 8) t d))
        ∗ (∃ d, owns (c : Thread nD τ) (ms0_7 m hok t) fullShare ((dats m hok ρ 0 c).before (7 : Fin 8) t d)))
      ⊢ wp frame (wpE (defs₀ (F := Ideal)) Variants.none c none) Set.univ (bodyAt0 m hok t) fun _ =>
          iprop((dats m hok ρ 0 c).Φ t.succ ∗ (dats m hok ρ 0 c).owesAt () t.succ
            ∗ bigSep Finset.univ fun w : Fin (cfgA m hok).W =>
                match (cfgA m hok).idle w ((cfgA m hok).grid.coords t) with
                | true =>
                  match ((cfgA m hok).win w).flush t with
                  | false => iprop(∃ d, owns (c : Thread nD τ) (((cfgA m hok).win w).stage ((cfgA m hok).slots t w)) fullShare ((dats m hok ρ 0 c).before w t d))
                  | true => owns (c : Thread nD τ) (((cfgA m hok).win w).stage ((cfgA m hok).slots t w)) fullShare ((dats m hok ρ 0 c).after w t)
                | false => owns (c : Thread nD τ) (((cfgA m hok).win w).stage ((cfgA m hok).slots t w)) fullShare ((dats m hok ρ 0 c).after w t)) := by
  rw [bigSep_W0]
  have i7 := idle7 m hok t
  have f7 := flush7 m hok t
  by_cases hc0 : Fresh (T0 m) (T1 m) (crd m hok t)
  · have h2 := used_of_fresh hc0
    have h3 : ¬Idle (T1 m) (crd m hok t) := fun h => idle_iff.mp h h2
    rewrite [i7]
    simp only [before0_0, before0_1, before0_2, before0_3, before0_4, before0_5, before0_6, before0_7, after0_0, after0_1, after0_2, after0_3, after0_4, after0_5, after0_6]
    rewrite [show (dats m hok ρ 0 c).Φ t.succ = Phi m hok ρ c t.succ from rfl, show (dats m hok ρ 0 c).Φ t.castSucc = Phi m hok ρ c t.castSucc from rfl,
      show (dats m hok ρ 0 c).owesAt () t.succ = (dats m hok ρ 0 c).owesAt () t.castSucc from rfl]
    unfold Phi
    iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3).2.2.2.2 a0 a1 a2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [HT0]; · iexact HT0
    isplitl [HT1]; · iexact HT1
    isplitl [H7]; · iexists _; iexact H7
    isplitl [HS0]; · iexact HS0
    isplitl [HS1]; · iexact HS1
    isplitl [HS2]; · iexact HS2
    iintro ⟨H0, H1, H2, H3, H4, H5, H6, HT0, HT1, ⟨%e7, H7⟩, HS0, HS1, HS2⟩
    isplitl [HS0 HS1 HS2 HT0 HT1]
    · isplitl [HS0]
      · iexists _; isplitr; swap
        · iexact HS0
        · ipureintro; exact held_own m hok t (keep0_fresh c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3)
      isplitl [HS1]
      · iexists _; isplitr; swap
        · iexact HS1
        · ipureintro; exact held_own m hok t (keep1_fresh c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3)
      isplitl [HS2]
      · iexists _; isplitr; swap
        · iexact HS2
        · ipureintro; exact held_own m hok t (keep2_fresh c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) hc0 h2 h3)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    isplitl [H5]
    · iapply owns_of_rep; iexact H5
    isplitl [H6]
    · iapply owns_of_rep; iexact H6
    unfold owns; iexists _; isplitr; swap
    · iexact H7
    · ipureintro; exact (View.read_writes_of_cover _ _ _ _ _ (cover0_A_7 c _ _ _ _ _ _ _ _ _ _ _ _ _ _ _ _ _ _ _ _ _ _ _ _ _ _ _ _ _)).trans (doneA m hok ρ c t hc0 h2 h3)
  · by_cases h2 : Used (T1 m) (crd m hok t)
    · have h3 : ¬Idle (T1 m) (crd m hok t) := fun h => idle_iff.mp h h2
      rewrite [i7]
      simp only [before0_0, before0_1, before0_2, before0_3, before0_4, before0_5, before0_6, before0_7, after0_0, after0_1, after0_2, after0_3, after0_4, after0_5, after0_6]
      rewrite [show (dats m hok ρ 0 c).Φ t.succ = Phi m hok ρ c t.succ from rfl, show (dats m hok ρ 0 c).Φ t.castSucc = Phi m hok ρ c t.castSucc from rfl,
        show (dats m hok ρ 0 c).owesAt () t.succ = (dats m hok ρ 0 c).owesAt () t.castSucc from rfl]
      unfold Phi
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [H7]; · iexists _; iexact H7
      isplitl [HS0]; · iexact HS0
      isplitl [HS1]; · iexact HS1
      isplitl [HS2]; · iexact HS2
      iintro ⟨H0, H1, H2, H3, H4, H5, H6, HT0, HT1, ⟨%e7, H7⟩, HS0, HS1, HS2⟩
      isplitl [HS0 HS1 HS2 HT0 HT1]
      · isplitl [HS0]
        · iexists _; isplitr; swap
          · iexact HS0
          · ipureintro; exact held_own m hok t (kept0 m hok ρ c t hc0 h2 ha0)
        isplitl [HS1]
        · iexists _; isplitr; swap
          · iexact HS1
          · ipureintro; exact held_own m hok t (kept1 m hok ρ c t hc0 h2 ha1)
        isplitl [HS2]
        · iexists _; isplitr; swap
          · iexact HS2
          · ipureintro; exact held_own m hok t (kept2 m hok ρ c t hc0 h2 ha2)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact (View.read_writes_of_cover _ _ _ _ _ (cover0_B_7 c _ _ _ _ _ _ _ _ _ _ _ _ _ _ _ _ _ _ _ _ _ _ _ _ _ _ _ _ _ _ _ _)).trans (doneB m hok ρ c t a0 a1 a2 hc0 h2 h3 ha0 ha1 ha2)
    · have h3 : Idle (T1 m) (crd m hok t) := idle_iff.mpr h2
      rewrite [i7]
      simp only [before0_0, before0_1, before0_2, before0_3, before0_4, before0_5, before0_6, before0_7, after0_0, after0_1, after0_2, after0_3, after0_4, after0_5, after0_6]
      rewrite [show (dats m hok ρ 0 c).Φ t.succ = Phi m hok ρ c t.succ from rfl, show (dats m hok ρ 0 c).Φ t.castSucc = Phi m hok ρ c t.castSucc from rfl,
        show (dats m hok ρ 0 c).owesAt () t.succ = (dats m hok ρ 0 c).owesAt () t.castSucc from rfl]
      unfold Phi
      iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (crd m hok t) (ms0_0 m hok t) (hs0_0 m hok t) (ms0_1 m hok t) (hs0_1 m hok t) (ms0_2 m hok t) (hs0_2 m hok t) (ms0_3 m hok t) (hs0_3 m hok t) (ms0_4 m hok t) (hs0_4 m hok t) (ms0_5 m hok t) (hs0_5 m hok t) (ms0_6 m hok t) (hs0_6 m hok t) (ms0_7 m hok t) (hs0_7 m hok t) (T0 m) (T1 m) (iblk m hok ρ c (0 : Fin 8) t) (iblk m hok ρ c (1 : Fin 8) t) (iblk m hok ρ c (2 : Fin 8) t) (iblk m hok ρ c (3 : Fin 8) t) (iblk m hok ρ c (4 : Fin 8) t) (iblk m hok ρ c (5 : Fin 8) t) (iblk m hok ρ c (6 : Fin 8) t) a0 a1 a2 hc0 h2 h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [HT0]; · iexact HT0
      isplitl [HT1]; · iexact HT1
      isplitl [H7]; · iexists _; iexact H7
      isplitl [HS0]; · iexact HS0
      isplitl [HS1]; · iexact HS1
      isplitl [HS2]; · iexact HS2
      iintro ⟨H0, H1, H2, H3, H4, H5, H6, HT0, HT1, ⟨%e7, H7⟩, HS0, HS1, HS2⟩
      isplitl [HS0 HS1 HS2 HT0 HT1]
      · isplitl [HS0]
        · iexists _; isplitr; swap
          · iexact HS0
          · ipureintro; exact held_idle m hok t h2
        isplitl [HS1]
        · iexists _; isplitr; swap
          · iexact HS1
          · ipureintro; exact held_idle m hok t h2
        isplitl [HS2]
        · iexists _; isplitr; swap
          · iexact HS2
          · ipureintro; exact held_idle m hok t h2
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      isplitl [H5]
      · iapply owns_of_rep; iexact H5
      isplitl [H6]
      · iapply owns_of_rep; iexact H6
      unfold owns; iexists _; isplitr; swap
      · iexact H7
      · ipureintro; exact (View.read_writes_of_cover _ _ _ _ _ (cover0_C_7 c _ _ _ _ _ _ _ _ _ _ _ _ _ _ _ _ _ _ _ _ _ _ _ _ _ _ _ _ _ _ _ _)).trans (doneC m hok ρ c t a0 a1 a2 hc0 h2 h3)

/-- The body's obligation at every point. -/
theorem body_obligation (c : Dev nD) : BodyObligation (dats m hok ρ 0 c) (defs₀ (F := Ideal)) Variants.none () Set.univ := fun t => by
  rw [bigSep_W0]
  exact sound_body m hok ρ c t

/-- The rounds library's launch element. -/
def u₀ : UR sig nD τ :=
  initOf (Pipeline.cells (pcs m hok) ((launch0 (F := Ideal)).cellOf_inj fun _ => adm m hok))
    (Pipeline.launchToks (pcs m hok) ((launch0 (F := Ideal)).cellOf_inj fun _ => adm m hok))

theorem share_eq (c : Dev nD) (w : Fin (cfgA m hok).W) : (dats m hok ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm m hok).1 ∗ Pipeline.scopedRest spec0 c) ⊢ (dats m hok ρ 0 c).Φ 0 := by
  rw [prefHeld_eq, scopedRest0_eq, show (dats m hok ρ 0 c).Φ 0 = Phi m hok ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; intro s hs; exact absurd hs (Nat.succ_ne_zero _)
  isplitl [HS1]
  · iexists a1; isplitr; swap
    · iexact HS1
    · ipureintro; intro s hs; exact absurd hs (Nat.succ_ne_zero _)
  isplitl [HS2]
  · iexists a2; isplitr; swap
    · iexact HS2
    · ipureintro; intro s hs; exact absurd hs (Nat.succ_ne_zero _)
  isplitl [HT0]
  · iexact HT0
  iexact HT1

/-- at the last point it gives the scratch buffers back (`hout`), the tables let go. -/
theorem phiN_exit (c : Dev nD) : (dats m hok ρ 0 c).Φ (Fin.last (cfgA m hok).N) ⊢ iprop(BI.emp ∗ Pipeline.scopedRest spec0 c) := by
  rw [scopedRest0_eq, show (dats m hok ρ 0 c).Φ (Fin.last (cfgA m hok).N) = Phi m hok ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- The physical post: every array at what the library computes, every table at what the pipeline ran at. -/
def QC : PUnit × MemSt nD τ sig (Elt Ideal) → Prop := fun r =>
  ∀ c : Dev nD, (∀ w : Fin (cfgA m hok).W, r.2.mem (((cfgA m hok).win w).arr.view.loc (c : Thread nD τ)) = (dats m hok ρ 0 c).arrAt w (cfgA m hok).N)
    ∧ ∀ j, r.2.mem ((c : Thread nD τ).loc (pre0.ref j)) = (adm m hok).1 j

theorem V_pre (c : Dev nD) (j : Fin 2) : m ((c : Thread nD τ).loc (pre0.ref j)) = (adm m hok).1 j := by
  obtain rfl : c = 0 := Subsingleton.elim _ _
  fin_cases j <;> rfl

set_option backward.isDefEq.respectTransparency.types false in
set_option maxHeartbeats 4000000 in
/-- At the compiled mesh, from any memory with zero counters whose tables and steering words are member `m hok`'s: every weakly
    fair execution of @main on the TensorCores terminates, and every final state has each array at the computed contents,
    and every semaphore counter of the machine at zero. -/
theorem run_main_quiescent : θ_run (defs (F := Ideal)) (onTc (τ := τ) (main (F := Ideal))) (s₀ m ρ) (fun r => QC m hok ρ r ∧ r.2.sem = fun _ => 0) :=
  Pipeline.θ_run_region_noSem_pf_quiescent pcfgs (fun _ => adm m hok) (dats m hok ρ) () ((launch0 (F := Ideal)).cellOf_inj fun _ => adm m hok) (0 : Fin 1)
    (launch0 (F := Ideal)).win.to₀ (launch0 (F := Ideal)).pre EP defs₀ Variants.none m ρ main
    (hbody := fun c => (body_obligation m hok ρ c).loose) (hne := (launch0 (F := Ideal)).block_pos)
    (harr := (launch0 (F := Ideal)).arr_whole) (hstage := (launch0 (F := Ideal)).stage_whole) (howed := fun _ _ => rfl)
    (u₀ := u₀ m hok) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs m hok) (dats m hok ρ) 0 (launch0 (F := Ideal)).win.arr_inj c (launch0 (F := Ideal)).arr_whole
      (share_eq m hok ρ c) _ _ fun _ => rfl)
    (hpf := V_pre m hok)
    (X := fun _ => iprop(emp)) (Y := fun _ => iprop(emp)) (Z := fun _ => iprop(emp))
    (hX := fun c => by rw [unscopedRestP0_eq]; iintro -; isplitr <;> iempintro)
    (hin := phi0_intro m hok ρ)
    (hout := phiN_exit m hok ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main : θ_run (defs (F := Ideal)) (onTc (τ := τ) (main (F := Ideal))) (s₀ m ρ) (QC m hok ρ) :=
  (θ_run defs _ _).mono (fun _ h => h.1) (run_main_quiescent m hok ρ)

include hok in
/-- The argument arrays end unchanged. -/
theorem unchanged :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 0).trans (V_pre m hok c 0).symm, ((h c).2 1).trans (V_pre m hok c 1).symm, ((h c).1 (0 : Fin 8)).trans ((dats m hok ρ 0 c).arrAt_in (0 : Fin 8) rfl _), ((h c).1 (1 : Fin 8)).trans ((dats m hok ρ 0 c).arrAt_in (1 : Fin 8) rfl _), ((h c).1 (2 : Fin 8)).trans ((dats m hok ρ 0 c).arrAt_in (2 : Fin 8) rfl _), ((h c).1 (3 : Fin 8)).trans ((dats m hok ρ 0 c).arrAt_in (3 : Fin 8) rfl _), ((h c).1 (4 : Fin 8)).trans ((dats m hok ρ 0 c).arrAt_in (4 : Fin 8) rfl _), ((h c).1 (5 : Fin 8)).trans ((dats m hok ρ 0 c).arrAt_in (5 : Fin 8) rfl _), ((h c).1 (6 : Fin 8)).trans ((dats m hok ρ 0 c).arrAt_in (6 : Fin 8) rfl _)⟩) (run_main m hok ρ)

include hok in
/-- Every weakly fair execution terminates, nothing faults, every argument array ends unchanged and every semaphore counter
    reads zero at every final state. -/
theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m hok ρ) ((θ_run defs _ _).mono (fun _ h => h.2) (run_main_quiescent m hok ρ))

end Cert.Kernel3Ideal.Experts

end
-- ==== Proof.ExpertSpec.lean ====
module

public import proofs.«01_k».proof.Proof.Spec
public import proofs.«01_k».proof.Proof.Gen.Pre_experts
public import Idealize.ShloMosaic.Lib.Tactic
public import Idealize.ShloMosaic.Lib.Pipeline.ValueKit
public import Idealize.ShloMosaic.Lib.Pointwise

@[expose] public section

noncomputable section

/-! The experts' products as a function of the arguments' entries, and the precondition read entry by entry. -/

namespace Cert.Experts

open Idealize.ShloMosaic

/-- The gated unit: the second product limited to between −7 and 7 and increased by one, times the first limited to at most 7,
times the sigmoid of 1.702 times that. -/
def unit (p q : EReal) : EReal :=
  (min (Ideal.ofBits .f32 0x40E00000#32) (max (Ideal.ofBits .f32 0xC0E00000#32) q) + Ideal.ofBits .f32 0x3F800000#32)
    * min p (Ideal.ofBits .f32 0x40E00000#32)
    * Ideal.logistic (Ideal.ofBits .f32 0x3FD9DB23#32 * min p (Ideal.ofBits .f32 0x40E00000#32))

/-- A row's product with column `n` of expert `e`'s weights, and its bias. -/
def line (x : Fin 1024 → EReal) (w : (⟨3, ![32, 1024, 1024]⟩ : Shape).Idx → EReal) (b : (⟨3, ![32, 1, 1024]⟩ : Shape).Idx → EReal)
    (e : Fin 32) (n : Fin 1024) : EReal :=
  (∑ d : Fin 1024, x d * w (ix3 e d n)) + b (ix3 e 0 n)

/-- Lane `n` of expert `e`'s result for a row. -/
def expert (x : Fin 1024 → EReal) (wg : (⟨3, ![32, 1024, 1024]⟩ : Shape).Idx → EReal) (bg : (⟨3, ![32, 1, 1024]⟩ : Shape).Idx → EReal)
    (wu : (⟨3, ![32, 1024, 1024]⟩ : Shape).Idx → EReal) (bu : (⟨3, ![32, 1, 1024]⟩ : Shape).Idx → EReal)
    (wd : (⟨3, ![32, 1024, 1024]⟩ : Shape).Idx → EReal) (bd : (⟨3, ![32, 1, 1024]⟩ : Shape).Idx → EReal) (e : Fin 32) (n : Fin 1024) : EReal :=
  line (fun f => unit (line x wg bg e f) (line x wu bu e f)) wd bd e n

/-- The block that row `r` lies in. -/
def block (r : Fin 77824) : Fin 304 := ⟨r.val / 256, by have := r.isLt; omega⟩

/-- The expert a word names. -/
def named (w : BitVec 32) : Fin 32 := ⟨min w.toNat 31, by omega⟩

/-- A word below 32 names the expert it is. -/
theorem named_eq (w : BitVec 32) (h : w.toNat < 32) : named w = ⟨w.toNat, h⟩ := Fin.ext (by show min w.toNat 31 = w.toNat; omega)

/-- The experts' result at row `r` and lane `n`: the row's block's expert's, where the block is used, and zero elsewhere. -/
def value (T : (⟨1, ![304]⟩ : Shape).Idx → BitVec 32) (U : (⟨1, ![1]⟩ : Shape).Idx → BitVec 32)
    (x : (⟨2, ![77824, 1024]⟩ : Shape).Idx → EReal)
    (wg : (⟨3, ![32, 1024, 1024]⟩ : Shape).Idx → EReal) (bg : (⟨3, ![32, 1, 1024]⟩ : Shape).Idx → EReal)
    (wu : (⟨3, ![32, 1024, 1024]⟩ : Shape).Idx → EReal) (bu : (⟨3, ![32, 1, 1024]⟩ : Shape).Idx → EReal)
    (wd : (⟨3, ![32, 1024, 1024]⟩ : Shape).Idx → EReal) (bd : (⟨3, ![32, 1, 1024]⟩ : Shape).Idx → EReal)
    (r : Fin 77824) (n : Fin 1024) : EReal :=
  if IntOp.cmpi .slt (BitVec.ofNat 32 (block r).val) (U (ix1 0)) = 1#1 then
    expert (fun d => x (ix2 r d)) wg bg wu bu wd bd (named (T (ix1 (block r)))) n
  else 0

/-- A word that is at least zero and below 32, both read signed, is below 32. -/
theorem below (w : BitVec 32) (h1 : (0#32).sle w = true) (h2 : w.slt 32#32 = true) : w.toNat < 32 := by
  have hs : w.slt 32#32 = true := h2
  rw [BitVec.sle_iff_toInt_le] at h1
  rw [BitVec.slt_iff_toInt_lt] at h2
  have e0 : (0#32).toInt = 0 := by decide
  have e32 : (32#32).toInt = 32 := by decide
  rw [e0] at h1
  rw [e32] at h2
  rw [BitVec.toInt_eq_toNat_cond] at h1 h2
  have := w.isLt
  split_ifs at h1 h2 <;> omega

section Pre

variable {F : FTy → Type} [FloatOps F]

/-- The precondition, read entry by entry: every word of the table is below 32. -/
theorem few_of_pre (T : IVec Cert.Pre_experts.S304 32) (U : IVec Cert.Pre_experts.S1 32) (x : FVec F Cert.Pre_experts.S77824x1024 .f32)
    (wg : FVec F Cert.Pre_experts.S32x1024x1024 .f32) (bg : FVec F Cert.Pre_experts.S32x1x1024 .f32)
    (wu : FVec F Cert.Pre_experts.S32x1024x1024 .f32) (bu : FVec F Cert.Pre_experts.S32x1x1024 .f32)
    (wd : FVec F Cert.Pre_experts.S32x1024x1024 .f32) (bd : FVec F Cert.Pre_experts.S32x1x1024 .f32)
    (h : Cert.Pre_experts.fn (F := F) T U x wg bg wu bu wd bd ix0 = 1#1) (i : Cert.Pre_experts.S304.Idx) : (T i : BitVec 32).toNat < 32 := by
  pointwise [Cert.Pre_experts.fn] at h
  have e : ∀ k : Fin 304, IntOp.andi (IntOp.cmpi CmpIPredicate.sge (T (ix1 k)) 0#32) (IntOp.cmpi CmpIPredicate.slt (T (ix1 k)) 32#32)
      = BitVec.ofBool (decide ((0#32).sle (T (ix1 k)) = true ∧ (T (ix1 k) : BitVec 32).slt 32#32 = true)) := fun k => by
    show BitVec.ofBool ((0#32).sle (T (ix1 k))) &&& BitVec.ofBool ((T (ix1 k) : BitVec 32).slt 32#32) = _
    cases (0#32).sle (T (ix1 k)) <;> cases (T (ix1 k) : BitVec 32).slt 32#32 <;> rfl
  simp only [e] at h
  rw [eq_ix1 i]
  obtain ⟨h1, h2⟩ := Cert.Attn.fold_and _ _ h (i 0) (Finset.mem_univ _)
  exact below _ h1 h2

end Pre

end Cert.Experts

end
-- ==== Proof.ExpertEntry.lean ====
module

public import proofs.«01_k».proof.Proof.ExpertRun
public import proofs.«01_k».proof.Proof.ExpertSpec
public import Idealize.ShloMosaic.Lib.KernelVsHost

@[expose] public section

set_option maxRecDepth 16384

noncomputable section

/-! The experts' call's output array, entry by entry. -/

namespace Cert.Kernel3Ideal.Experts

open Cert.Kernel3Ideal Cert.Kernel3Ideal.Gen Idealize.ShloMosaic Idealize.ShloMosaic.TcCoe Idealize.SL.Sem
open Cert.Experts

section Arrays

variable {F : FTy → Type} [FloatOps F]

/-- A block of rows' products with a matrix of weights, and its bias. -/
def lines (x : FVec F S256x1024 .bf16) (w : FVec F S1024x1024 .bf16) (b : FVec F S1x1x1024 .f32) : FVec F S256x1024 .f32 :=
  addf (matmul dot_S256x1024_S1024x1024_S256x1024_1_0_0_1_n_n none x w (constant S256x1024 .f32 0x00000000#32))
    (broadcastTo S256x1024 (shapeCast S1x1024 b shapeCasts_S1x1x1024_S1x1024) broadcasts_S1x1024_S256x1024)

/-- The first products limited to at most 7. -/
def capped (p : FVec F S256x1024 .f32) : FVec F S256x1024 .f32 :=
  minimumf p (broadcast S256x1024 (Scalar.ofBits .f32 0x40E00000#32))

/-- The gated units of a block of rows. -/
def units (p q : FVec F S256x1024 .f32) : FVec F S256x1024 .bf16 :=
  truncf .bf16 (mulf (mulf (addf (minimumf (broadcast S256x1024 (Scalar.ofBits .f32 0x40E00000#32))
      (maximumf (broadcast S256x1024 (Scalar.ofBits .f32 0xC0E00000#32)) q)) (broadcast S256x1024 (Scalar.ofBits .f32 0x3F800000#32))) (capped p))
    (logistic (mulf (broadcast S256x1024 (Scalar.ofBits .f32 0x3FD9DB23#32)) (capped p)))) bitsLt_bf16_f32

/-- A point's product is these arrays one after another. -/
theorem pay5_eq (x : FVec F S256x1024 .f32) (g : FVec F S1024x1024 .bf16) (bg : FVec F S1x1x1024 .f32) (u : FVec F S1024x1024 .bf16)
    (bu : FVec F S1x1x1024 .f32) (d : FVec F S1024x1024 .bf16) (bd : FVec F S1x1x1024 .f32) :
    k0_pay5 x g bg u bu d bd
      = lines (units (lines (truncf .bf16 x bitsLt_bf16_f32) g bg) (lines (truncf .bf16 x bitsLt_bf16_f32) u bu)) d bd := rfl

end Arrays

/-- The products with a matrix at an entry. -/
theorem lines_at (x : FVec Ideal S256x1024 .bf16) (w : FVec Ideal S1024x1024 .bf16) (b : FVec Ideal S1x1x1024 .f32) (r : Fin 256) (n : Fin 1024) :
    lines x w b (ix2 r n) = (∑ d : Fin 1024, x (ix2 r d) * w (ix2 d n)) + b (ix3 0 0 n) := by
  pointwise [lines]

/-- The gated units at an entry. -/
theorem units_at (p q : FVec Ideal S256x1024 .f32) (r : Fin 256) (n : Fin 1024) : units p q (ix2 r n) = unit (p (ix2 r n)) (q (ix2 r n)) := by
  pointwise [units, capped, unit]

/-- The first weights kept, at an entry. -/
theorem pay1_at (w : FVec Ideal S1x1024x1024 .f32) (d f : Fin 1024) : k0_pay1 (F := Ideal) w (ix2 d f) = w (ix3 0 d f) := by
  pointwise [k0_pay1]

/-- The second weights kept, at an entry. -/
theorem pay2_at (w : FVec Ideal S1x1024x1024 .f32) (d f : Fin 1024) : k0_pay2 (F := Ideal) w (ix2 d f) = w (ix3 0 d f) := by
  pointwise [k0_pay2]

/-- The third weights kept, at an entry. -/
theorem pay3_at (w : FVec Ideal S1x1024x1024 .f32) (d f : Fin 1024) : k0_pay3 (F := Ideal) w (ix2 d f) = w (ix3 0 d f) := by
  pointwise [k0_pay3]

/-- An unused point's zeros. -/
theorem pay4_at (r : Fin 256) (n : Fin 1024) : k0_pay4 (F := Ideal) (ix2 r n) = 0 := by
  pointwise [k0_pay4]

variable (m : (ℓ : Loc nD τ sig) → Buf (Elt Ideal) ℓ) (hok : Few m) (ρ : Dev nD → PrngReg)

/-- The rows' window lies at the point's number. -/
theorem map0 : ∀ t : Fin grid0.N, cc0_transform_0 (grid0.coords t) = ![t.val, 0] := by decide +kernel

/-- The output's window lies at the point's number. -/
theorem map7 : ∀ t : Fin grid0.N, cc0_transform_7 (grid0.coords t) = ![t.val, 0] := by decide +kernel

/-- Where a block of rows lies. -/
theorem idx0 (t : Fin (cfgA m hok).N) : ((cfgA m hok).win (0 : Fin 8)).index t = ![t.val, 0] := map0 t

/-- Where a block of the output lies. -/
theorem idx7 (t : Fin (cfgA m hok).N) : ((cfgA m hok).win (7 : Fin 8)).index t = ![t.val, 0] := map7 t

/-- A block of rows at an entry. -/
theorem blk0_at (c : Dev nD) (t : Fin (cfgA m hok).N) (r : Fin 256) (d : Fin 1024) (hr : t.val * 256 + r.val < 77824) :
    (iblk m hok ρ c (0 : Fin 8) t : S256x1024.Idx → Elt Ideal .f32) (ix2 r d)
      = m ((c : Thread nD τ).loc main_arg2) (ix2 ⟨t.val * 256 + r.val, hr⟩ d) := by
  blk_ext [iblk, idx0 m hok t]

/-- The word of the experts' table at a point. -/
theorem here_eq (t : Fin (cfgA m hok).N) (ht : t.val < 304) : here (T0 m) (crd m hok t) = T0 m (ix1 ⟨t.val, ht⟩) := by
  refine congrArg (T0 m) (funext fun a => Fin.ext ?_)
  match a with
  | ⟨0, _⟩ =>
    have h := congrFun (word_here t) (0 : Fin 1)
    show k0_off1 (grid0.coords t) 0 + 0 * 1 = t.val
    rw [h]
    rfl

/-- The number of used points. -/
theorem many_eq : many (T1 m) = T1 m (ix1 0) := by
  refine congrArg (T1 m) (funext fun a => Fin.ext ?_)
  match a with
  | ⟨0, _⟩ => rfl

/-- A point is used when its number is below the number of used points. -/
theorem used_eq (t : Fin (cfgA m hok).N) : Used (T1 m) (crd m hok t) ↔ IntOp.cmpi .slt (BitVec.ofNat 32 t.val) (T1 m (ix1 0)) = 1#1 := by
  have h : k0_cond2 (crd m hok t) (many (T1 m)) = Scalar.cmpi .slt (BitVec.ofNat 32 (crd m hok t 0).val) (many (T1 m)) := ne_zero_bit _
  rw [show (crd m hok t 0).val = t.val from crd_val t, many_eq] at h
  show k0_cond2 (crd m hok t) (many (T1 m)) = 1#1 ↔ _
  rw [many_eq, h]
  rfl

/-- What a point leaves in the output's buffer, at an entry. -/
theorem done_at (c : Dev nD) (t : Fin (cfgA m hok).N) (r : Fin 256) (n : Fin 1024) (hr : t.val * 256 + r.val < 77824) :
    done m hok ρ c t (ix2 r n) = value (T0 m) (T1 m) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)) ⟨t.val * 256 + r.val, hr⟩ n := by
  have ht : t.val < 304 := t.isLt
  have hb : block ⟨t.val * 256 + r.val, hr⟩ = ⟨t.val, ht⟩ := Fin.ext (by show (t.val * 256 + r.val) / 256 = t.val; omega)
  have he : (here (T0 m) (crd m hok t)).toNat < 32 := here_lt m hok t
  have hn : named (T0 m (ix1 (⟨t.val, ht⟩ : Fin 304))) = ⟨(here (T0 m) (crd m hok t)).toNat, he⟩ := by
    rw [← here_eq m hok t ht]
    exact named_eq _ he
  unfold done value
  rw [hb, hn]
  by_cases hu : Used (T1 m) (crd m hok t)
  · rw [if_pos hu, if_pos ((used_eq m hok t).mp hu)]
    refine (congrFun (pay5_eq (F := Ideal) _ _ _ _ _ _ _) (ix2 r n)).trans ?_
    rw [lines_at]
    unfold expert line
    rw [blk6_at m hok ρ c t 0 n he]
    refine congrArg (· + _) (Finset.sum_congr rfl fun f _ => ?_)
    rw [units_at, lines_at, lines_at, pay3_at, blk5_at m hok ρ c t f n he, blk2_at m hok ρ c t 0 f he, blk4_at m hok ρ c t 0 f he]
    refine congrArg (· * _) (congrArg₂ unit (congrArg (· + _) (Finset.sum_congr rfl fun d _ => ?_)) (congrArg (· + _) (Finset.sum_congr rfl fun d _ => ?_)))
    · rw [pay1_at, blk1_at m hok ρ c t d f he]
      exact congrArg (· * _) (blk0_at m hok ρ c t r d hr)
    · rw [pay2_at, blk3_at m hok ρ c t d f he]
      exact congrArg (· * _) (blk0_at m hok ρ c t r d hr)
  · rw [if_neg hu, if_neg (fun h => hu ((used_eq m hok t).mpr h)), pay4_at]

/-- The written blocks cover the output. -/
theorem covers : ((cfgA m hok).win (7 : Fin 8)).Covers := by
  refine ⟨fun a => ?_, fun β => ?_⟩
  · match a with
    | ⟨0, _⟩ => exact (by decide : 0 < 256)
    | ⟨1, _⟩ => exact (by decide : 0 < 1024)
  · have n0 : ((cfgA m hok).win (7 : Fin 8)).nblk (0 : Fin 2) = 304 := (by decide : (77824 + 256 - 1) / 256 = 304)
    have n1 : ((cfgA m hok).win (7 : Fin 8)).nblk (1 : Fin 2) = 1 := (by decide : (1024 + 1024 - 1) / 1024 = 1)
    have h0 : (β (0 : Fin 2)).val < 304 := lt_of_lt_of_eq (β (0 : Fin 2)).isLt n0
    have h1 : (β (1 : Fin 2)).val < 1 := lt_of_lt_of_eq (β (1 : Fin 2)).isLt n1
    refine ⟨⟨(β (0 : Fin 2)).val, h0⟩, flush7 m hok _, fun a => ⟨?_, Or.inl ?_⟩⟩
    · rw [idx7]
      match a with
      | ⟨0, _⟩ => rfl
      | ⟨1, _⟩ => show 0 = (β (1 : Fin 2)).val; omega
    · rfl

/-- The output's entries. -/
def result (c : Dev nD) : FVec Ideal S77824x1024 .f32 := fun i =>
  value (T0 m) (T1 m) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (i 0) (i 1)

/-- The output after the run. -/
theorem array7 (c : Dev nD) : (dats m hok ρ 0 c).arrAt (7 : Fin 8) (cfgA m hok).N = result m c := by
  refine (dats m hok ρ 0 c).arrAt_eq_of_covers (7 : Fin 8) _ (covers m hok) fun t hf y => ?_
  have ht : t.val < 304 := t.isLt
  have hy0 : (y (0 : Fin 2)).val < 256 := (y (0 : Fin 2)).isLt
  have hr : t.val * 256 + (y (0 : Fin 2)).val < 77824 := by omega
  have e0 := ((cfgA m hok).win (7 : Fin 8)).rect_emb_val t y (0 : Fin 2)
  have e1 := ((cfgA m hok).win (7 : Fin 8)).rect_emb_val t y (1 : Fin 2)
  rw [idx7 m hok t] at e0 e1
  have hy : y = ix2 (y (0 : Fin 2) : Fin 256) (y (1 : Fin 2) : Fin 1024) := eq_ix2 y
  have hemb : (((cfgA m hok).win (7 : Fin 8)).blk t).view.emb y = ix2 (⟨t.val * 256 + (y (0 : Fin 2)).val, hr⟩ : Fin 77824) (y (1 : Fin 2) : Fin 1024) := by
    refine funext fun a => Fin.ext ?_
    match a with
    | ⟨0, _⟩ => exact e0
    | ⟨1, _⟩ => exact e1.trans (by show 0 * 1024 + (y (1 : Fin 2)).val = (y (1 : Fin 2)).val; omega)
  refine Eq.trans ?_ (congrArg (result m c) hemb.symm)
  exact Eq.trans (congrArg (done m hok ρ c t) hy) (done_at m hok ρ c t (y (0 : Fin 2)) (y (1 : Fin 2)) hr)

end Cert.Kernel3Ideal.Experts

end
-- ==== Proof.ExpertRef.lean ====
module

public import proofs.«01_k».proof.Proof.Gen.Reference3Ideal.Run
public import proofs.«01_k».proof.Proof.ExpertSpec
public import Idealize.ShloMosaic.Lib.KernelVsHost

@[expose] public section

set_option maxRecDepth 16384

noncomputable section

/-! The experts' reference, entry by entry. -/

namespace Cert.Reference3Ideal.Experts

open Cert.Reference3Ideal Cert.Reference3Ideal.Gen Cert.Reference3Ideal.Value Idealize.ShloMosaic Idealize.ShloMosaic.TcCoe Idealize.SL.Sem
open Cert.Experts

section Arrays

variable {F : FTy → Type} [FloatOps F]

/-- The experts' places in the weights, a negative one counted from the end. -/
def places (T : IVec S304 32) : IVec S304x1 32 :=
  broadcastInDim S304x1 ![0] bcast_S304_S304x1_0 (select (cmpi .slt T (broadcastInDim S304 ![] bcast_S_S304 (constantI S_ 32 0#32)))
    (addi T (broadcastInDim S304 ![] bcast_S_S304 (constantI S_ 32 32#32))) T)

/-- The blocks' experts' weights. -/
def weights (w : FVec F S32x1024x1024 .f32) (T : IVec S304 32) : FVec F S304x1024x1024 .f32 :=
  Host.gather gather_S32x1024x1024_S304x1_S304x1024x1024_12_0_n_n_0_1_110241024 w (places T)

/-- The blocks' experts' biases. -/
def biases (b : FVec F S32x1x1024 .f32) (T : IVec S304 32) : FVec F S304x1x1024 .f32 :=
  Host.gather gather_S32x1x1024_S304x1_S304x1x1024_12_0_n_n_0_1_111024 b (places T)

/-- The blocks' products with their experts' weights, and their biases. -/
def lines (x : FVec F S304x256x1024 .f32) (w : FVec F S32x1024x1024 .f32) (b : FVec F S32x1x1024 .f32) (T : IVec S304 32) : FVec F S304x256x1024 .f32 :=
  addf (Host.dotGeneral dot_S304x256x1024_S304x1024x1024_S304x256x1024_2_1_1_2_0_0 none x (weights w T))
    (broadcastInDim S304x256x1024 ![0, 1, 2] bcast_S304x1x1024_S304x256x1024_0_1_2 (biases b T))

/-- A number at every entry. -/
def all (b : BitVec 32) : FVec F S304x256x1024 .f32 := broadcastInDim S304x256x1024 ![] bcast_S_S304x256x1024 (constant S_ .f32 b)

/-- The first products limited to at most 7. -/
def capped (p : FVec F S304x256x1024 .f32) : FVec F S304x256x1024 .f32 := minimumf p (all 0x40E00000#32)

/-- The gated units. -/
def units (p q : FVec F S304x256x1024 .f32) : FVec F S304x256x1024 .f32 :=
  mulf (mulf (addf (minimumf (broadcastInDim S304x256x1024 ![] bcast_S_S304x256x1024 (id (constant S_ .f32 0x40E00000#32)))
      (maximumf (broadcastInDim S304x256x1024 ![] bcast_S_S304x256x1024 (id (constant S_ .f32 0xC0E00000#32))) q)) (all 0x3F800000#32)) (capped p))
    (Host.divf (all 0x3F800000#32) (addf (all 0x3F800000#32) (Host.exp (Host.negf (mulf (all 0x3FD9DB23#32) (capped p))))))

/-- The results of the used blocks, and zeros elsewhere, as rows. -/
def masked (U : IVec S1 32) (y : FVec F S304x256x1024 .f32) : FVec F S77824x1024 .f32 :=
  shapeCast _ (select (broadcastInDim S304x256x1024 ![0, 1, 2] bcast_S304x1x1_S304x256x1024_0_1_2 (broadcastInDim S304x1x1 ![0] bcast_S304_S304x1x1_0
      (cmpi .slt (iotaInDim S304 32 0) (broadcastInDim S304 ![] bcast_S_S304 (shapeCast _ U shapeCasts_S1_S_)))))
    y (broadcastInDim S304x256x1024 ![] bcast_S_S304x256x1024 (id (constant S_ .f32 0x00000000#32)))) shapeCasts_S304x256x1024_S77824x1024

/-- The rows in blocks. -/
def blocks (x : FVec F S77824x1024 .f32) : FVec F S304x256x1024 .f32 := shapeCast _ x shapeCasts_S77824x1024_S304x256x1024

/-- The reference's result is these arrays one after another. -/
theorem res_eq (m : (ℓ : Loc nD τ sig) → Buf (Elt F) ℓ) (c : Dev nD) :
    res_main_v73 m c = masked (m ((c.tc : Thread nD τ).loc main_arg1))
      (lines (units (lines (blocks (m ((c.tc : Thread nD τ).loc main_arg2))) (m ((c.tc : Thread nD τ).loc main_arg3))
          (m ((c.tc : Thread nD τ).loc main_arg4)) (m ((c.tc : Thread nD τ).loc main_arg0)))
        (lines (blocks (m ((c.tc : Thread nD τ).loc main_arg2))) (m ((c.tc : Thread nD τ).loc main_arg5))
          (m ((c.tc : Thread nD τ).loc main_arg6)) (m ((c.tc : Thread nD τ).loc main_arg0))))
      (m ((c.tc : Thread nD τ).loc main_arg7)) (m ((c.tc : Thread nD τ).loc main_arg8)) (m ((c.tc : Thread nD τ).loc main_arg0))) :=
  rfl

end Arrays

/-- The dimension numbers that pick whole stacks by a column of words. -/
abbrev stackDims (N n B C : ℕ) (wf : GatherDims.WF ⟨3, ![N, B, C]⟩ ⟨2, ![n, 1]⟩ ⟨3, ![n, B, C]⟩ [1, 2] [0] [] [0] [] 1 ![1, B, C]) :
    GatherDims ⟨3, ![N, B, C]⟩ ⟨2, ![n, 1]⟩ ⟨3, ![n, B, C]⟩ where
  offsetDims := [1, 2]
  collapsedSliceDims := [0]
  operandBatchingDims := []
  startIndicesBatchingDims := []
  startIndexMap := [0]
  indexVectorDim := 1
  sliceSizes := ![1, B, C]
  wf := wf

/-- Arrays stacked on the first axis, read at the stacks that a column of words below their number names. -/
theorem stack_at {α : Type} {N n B C : ℕ} (wf : GatherDims.WF ⟨3, ![N, B, C]⟩ ⟨2, ![n, 1]⟩ ⟨3, ![n, B, C]⟩ [1, 2] [0] [] [0] [] 1 ![1, B, C])
    (x : (⟨3, ![N, B, C]⟩ : Shape).Idx → α) (idx : IVec ⟨2, ![n, 1]⟩ 32) (t : Fin n) (r : Fin B) (l : Fin C) (b : Fin N)
    (hb : idx (ix2 t (0 : Fin 1)) = BitVec.ofNat 32 b.val) (hN : N < 2 ^ 31) :
    Host.gather (stackDims N n B C wf) x idx (ix3 t r l) = x (ix3 b r l) := by
  unfold Host.gather
  refine congrArg x (funext fun a => Fin.ext ?_)
  show (stackDims N n B C wf).start (ix3 t r l) idx a + (stackDims N n B C wf).batchCoord (ix3 t r l) a
      + (stackDims N n B C wf).offCoord (ix3 t r l) a = _
  rw [GatherDims.batchCoord_eq_zero _ _ _ List.not_mem_nil, Nat.add_zero]
  match a with
  | ⟨0, _⟩ =>
    have hm : (0 : Fin 3) ∈ (stackDims N n B C wf).startIndexMap := List.mem_singleton.mpr rfl
    have hk : (0 : Fin 3) ∉ (stackDims N n B C wf).sKept := fun h => ((GatherDims.mem_sKept _ _).mp h).1 (List.mem_singleton.mpr rfl)
    refine (congrArg (_ + ·) (GatherDims.offCoord_eq_zero _ _ _ hk)).trans ?_
    rw [Nat.add_zero]
    unfold GatherDims.start
    refine (dif_pos hm).trans ?_
    have hsi : (stackDims N n B C wf).siIdx (ix3 t r l) ⟨List.idxOf (0 : Fin 3) (stackDims N n B C wf).startIndexMap,
        List.idxOf_lt_length_iff.2 hm⟩ = ix2 t (0 : Fin 1) := by
      funext b'
      refine Fin.ext ?_
      match b' with
      | ⟨0, _⟩ => rfl
      | ⟨1, _⟩ => rfl
    have hbl := b.isLt
    have ht : (BitVec.ofNat 32 b.val).toNat = b.val := Nat.mod_eq_of_lt (by omega)
    refine (congrArg (fun w : BitVec 32 => min w.toInt.toNat (N - 1)) ((congrArg idx hsi).trans hb)).trans ?_
    show min (BitVec.ofNat 32 b.val).toInt.toNat (N - 1) = b.val
    rw [BitVec.toInt_eq_toNat_of_lt (by omega), ht]
    omega
  | ⟨1, _⟩ =>
    have hm : (1 : Fin 3) ∉ (stackDims N n B C wf).startIndexMap := (by decide : (1 : Fin 3) ∉ ([0] : List (Fin 3)))
    unfold GatherDims.start
    refine (congrArg (· + _) (dif_neg hm)).trans ?_
    exact Nat.zero_add _
  | ⟨2, _⟩ =>
    have hm : (2 : Fin 3) ∉ (stackDims N n B C wf).startIndexMap := (by decide : (2 : Fin 3) ∉ ([0] : List (Fin 3)))
    unfold GatherDims.start
    refine (congrArg (· + _) (dif_neg hm)).trans ?_
    exact Nat.zero_add _

/-- A word of the table that is below 32, as a place. -/
theorem places_at (T : IVec S304 32) (t : Fin 304) (h : (T (ix1 t) : BitVec 32).toNat < 32) :
    places T (ix2 t 0) = BitVec.ofNat 32 (named (T (ix1 t))).val := by
  have hs : IntOp.cmpi .slt (T (ix1 t)) 0#32 ≠ 1#1 := by
    have h0 : ¬(T (ix1 t) : BitVec 32).slt 0#32 = true := by
      rw [BitVec.slt_iff_toInt_lt, BitVec.toInt_eq_toNat_of_lt (by omega)]
      have e0 : (0#32).toInt = 0 := by decide
      omega
    show BitVec.ofBool ((T (ix1 t) : BitVec 32).slt 0#32) ≠ 1#1
    rw [Bool.eq_false_iff.mpr h0]
    decide
  rw [named_eq _ h]
  pointwise [places]
  refine (if_neg hs).trans (BitVec.eq_of_toNat_eq ?_)
  exact (Nat.mod_eq_of_lt (T (ix1 t) : BitVec 32).isLt).symm

/-- The rows in blocks at an entry. -/
theorem blocks_at (x : FVec Ideal S77824x1024 .f32) (t : Fin 304) (r : Fin 256) (d : Fin 1024) :
    blocks x (ix3 t r d) = x (ix2 ⟨t.val * 256 + r.val, by omega⟩ d) := by
  pointwise [blocks]

/-- The gated units at an entry. -/
theorem units_at (p q : FVec Ideal S304x256x1024 .f32) (t : Fin 304) (r : Fin 256) (n : Fin 1024) :
    units p q (ix3 t r n) = unit (p (ix3 t r n)) (q (ix3 t r n)) := by
  pointwise [units, capped, all, unit]
  rfl

/-- The blocks' products at an entry. -/
theorem lines_at (x : FVec Ideal S304x256x1024 .f32) (w : FVec Ideal S32x1024x1024 .f32) (b : FVec Ideal S32x1x1024 .f32) (T : IVec S304 32)
    (t : Fin 304) (r : Fin 256) (n : Fin 1024) (h : (T (ix1 t) : BitVec 32).toNat < 32) :
    lines x w b T (ix3 t r n) = line (fun d => x (ix3 t r d)) w b (named (T (ix1 t))) n := by
  have hw : ∀ d : Fin 1024, weights w T (ix3 t d n) = w (ix3 (named (T (ix1 t))) d n) := fun d =>
    stack_at gather_S32x1024x1024_S304x1_S304x1024x1024_12_0_n_n_0_1_110241024.wf w _ t d n _ (places_at T t h) (by decide)
  have hb : biases b T (ix3 t 0 n) = b (ix3 (named (T (ix1 t))) 0 n) :=
    stack_at gather_S32x1x1024_S304x1_S304x1x1024_12_0_n_n_0_1_111024.wf b _ t 0 n _ (places_at T t h) (by decide)
  unfold line
  rw [← hb, Finset.sum_congr rfl fun d _ => congrArg (x (ix3 t r d) * ·) (hw d).symm]
  pointwise [lines]

/-- The used blocks' results as rows, at an entry. -/
theorem masked_at (U : IVec S1 32) (y : FVec Ideal S304x256x1024 .f32) (r : Fin 77824) (n : Fin 1024) :
    masked U y (ix2 r n) = if IntOp.cmpi .slt (BitVec.ofNat 32 (block r).val) (U (ix1 0)) = 1#1 then
      y (ix3 (block r) ⟨r.val % 256, by omega⟩ n) else 0 := by
  have z : (id (constant S_ .f32 0x00000000#32) ix0 : Ideal .f32) = 0 := by
    show (constant S_ .f32 0x00000000#32 ix0 : Ideal .f32) = 0
    pointwise
  pointwise [masked]
  rw [z]
  rfl

/-- The reference's result at an entry. -/
theorem value_at (T : IVec S304 32) (U : IVec S1 32) (x : FVec Ideal S77824x1024 .f32) (wg : FVec Ideal S32x1024x1024 .f32)
    (bg : FVec Ideal S32x1x1024 .f32) (wu : FVec Ideal S32x1024x1024 .f32) (bu : FVec Ideal S32x1x1024 .f32)
    (wd : FVec Ideal S32x1024x1024 .f32) (bd : FVec Ideal S32x1x1024 .f32) (h : ∀ i, (T i : BitVec 32).toNat < 32)
    (r : Fin 77824) (n : Fin 1024) :
    masked U (lines (units (lines (blocks x) wg bg T) (lines (blocks x) wu bu T)) wd bd T) (ix2 r n)
      = value T U x wg bg wu bu wd bd r n := by
  rw [masked_at]
  unfold value
  refine if_congr Iff.rfl ?_ rfl
  have hr : r.val % 256 < 256 := Nat.mod_lt _ (by decide)
  have hx : ∀ d : Fin 1024, blocks x (ix3 (block r) ⟨r.val % 256, hr⟩ d) = x (ix2 r d) := fun d => by
    rw [blocks_at]
    refine congrArg (fun k => x (ix2 k d)) (Fin.ext ?_)
    show r.val / 256 * 256 + r.val % 256 = r.val
    omega
  have hu : ∀ f : Fin 1024, units (lines (blocks x) wg bg T) (lines (blocks x) wu bu T) (ix3 (block r) ⟨r.val % 256, hr⟩ f)
      = unit (line (fun d => x (ix2 r d)) wg bg (named (T (ix1 (block r)))) f) (line (fun d => x (ix2 r d)) wu bu (named (T (ix1 (block r)))) f) :=
    fun f => by
      rw [units_at, lines_at _ _ _ _ _ _ _ (h _), lines_at _ _ _ _ _ _ _ (h _), funext hx]
  rw [lines_at _ _ _ _ _ _ _ (h _), funext hu]
  rfl

/-- The reference's run, its result as a function of the arguments' entries and its arguments unchanged. -/
theorem run_entries (m : (ℓ : Loc nD τ sig) → Buf (Elt Ideal) ℓ) (ρ : Dev nD → PrngReg)
    (T : Dev nD → IVec S304 32) (U : Dev nD → IVec S1 32) (x : Dev nD → FVec Ideal S77824x1024 .f32) (wg : Dev nD → FVec Ideal S32x1024x1024 .f32)
    (bg : Dev nD → FVec Ideal S32x1x1024 .f32) (wu : Dev nD → FVec Ideal S32x1024x1024 .f32) (bu : Dev nD → FVec Ideal S32x1x1024 .f32)
    (wd : Dev nD → FVec Ideal S32x1024x1024 .f32) (bd : Dev nD → FVec Ideal S32x1x1024 .f32)
    (h : ∀ c i, (T c i : BitVec 32).toNat < 32)
    (e : ∀ c : Dev nD, m ((c.tc : Thread nD τ).loc main_arg0) = T c ∧ m ((c.tc : Thread nD τ).loc main_arg1) = U c
      ∧ m ((c.tc : Thread nD τ).loc main_arg2) = x c ∧ m ((c.tc : Thread nD τ).loc main_arg3) = wg c
      ∧ m ((c.tc : Thread nD τ).loc main_arg4) = bg c ∧ m ((c.tc : Thread nD τ).loc main_arg5) = wu c
      ∧ m ((c.tc : Thread nD τ).loc main_arg6) = bu c ∧ m ((c.tc : Thread nD τ).loc main_arg7) = wd c
      ∧ m ((c.tc : Thread nD τ).loc main_arg8) = bd c) :
    θ_run (defs (F := Ideal)) (onTc (τ := τ) (main (F := Ideal))) ⟨m, fun _ => 0, ρ⟩ (fun r => ∀ c : Dev nD,
      r.2.mem ((c.tc : Thread nD τ).loc main_v73)
        = (fun i => value (T c) (U c) (x c) (wg c) (bg c) (wu c) (bu c) (wd c) (bd c) (i 0) (i 1) : FVec Ideal S77824x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r hr c => ⟨?_, (hr c).2⟩) (run (F := Ideal) m ρ)
  obtain ⟨e0, e1, e2, e3, e4, e5, e6, e7, e8⟩ := e c
  have hc := h c
  refine (hr c).1.trans ((res_eq m c).trans ?_)
  generalize T c = T' at e0 hc ⊢
  generalize U c = U' at e1 ⊢
  generalize x c = x' at e2 ⊢
  generalize wg c = wg' at e3 ⊢
  generalize bg c = bg' at e4 ⊢
  generalize wu c = wu' at e5 ⊢
  generalize bu c = bu' at e6 ⊢
  generalize wd c = wd' at e7 ⊢
  generalize bd c = bd' at e8 ⊢
  subst e0 e1 e2 e3 e4 e5 e6 e7 e8
  refine funext fun i => ?_
  rw [eq_ix2 i]
  exact value_at _ _ _ _ _ _ _ _ _ hc (i 0) (i 1)

end Cert.Reference3Ideal.Experts

end
-- ==== Proof.lean ====
module

public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.KernelIdeal.Value
public import proofs.«01_k».proof.Proof.Gen.ReferenceIdeal.Run
public import proofs.«01_k».proof.Proof.KernelValue
public import proofs.«01_k».proof.Proof.RefValue
public import proofs.«01_k».proof.Proof.ProjKernel
public import proofs.«01_k».proof.Proof.ProjRef
public import proofs.«01_k».proof.Proof.ExpertRunBits
public import proofs.«01_k».proof.Proof.ExpertEntry
public import proofs.«01_k».proof.Proof.ExpertRef
public import proofs.«01_k».proof.Proof.Gen.Reference3Ideal.Run
public import proofs.«01_k».proof.Proof.Gen.Pre_experts
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference runs to its end, its arguments unchanged and every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => ⟨(h c).2.1, (h c).2.2.1, (h c).2.2.2⟩, Idealize.ShloMosaic.sem_eq_zero_of_no_sems (by decide) r.2⟩)
    (Cert.ReferenceIdeal.Value.run (F := Ideal) m ρ)

/-- The kernel's and the reference's results are the same attention, for finite arguments. -/
theorem same_result : Cert.algebraic_KernelIdeal_ReferenceIdeal_pre_finite := by
  intro m g m' g' hpre hagree
  refine ⟨fun c => (Cert.KernelIdeal.Gen.dats m 0 c).arrAt 4 Cert.KernelIdeal.cfg0.N,
    Cert.KernelIdeal.Value.run_blocks m g, ?_⟩
  refine (θ_run Cert.ReferenceIdeal.defs _ _).mono (fun r h c => ⟨?_, (h c).2⟩) (Cert.ReferenceIdeal.Value.run (F := Ideal) m' g')
  obtain ⟨hq, hv, hl⟩ := Cert.Attn.finite_of_pre _ _ _ (congrFun (hpre c) ix0)
  refine (h c).1.trans (Eq.trans ?_ (Cert.KernelIdeal.Attn.array m c _ _ _ rfl rfl rfl hq hv hl).symm)
  obtain ⟨e0, e1, e2⟩ := hagree c
  refine funext fun i => ?_
  rw [eq_ix3 i]
  exact Cert.ReferenceIdeal.Attn.value_at m' c _ _ _ e0 e1 e2 hq hv hl (i 0) (i 1) (i 2)

/-- The projection's reference runs to its end, its arguments unchanged and every semaphore at zero. -/
theorem reference2_frame (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
        ∧ r.2.sem = fun _ => 0) :=
  (θ_run Cert.Reference2Ideal.defs _ _).mono
    (fun r h => ⟨fun c => (h c).2.2.2.2, Idealize.ShloMosaic.sem_eq_zero_of_no_sems (by decide) r.2⟩)
    (Cert.Reference2Ideal.Value.run (F := Ideal) m ρ)

/-- The kernel's and the reference's four results of the projection are equal, for all arguments. -/
theorem same_projection : Cert.algebraic_Kernel2Ideal_Reference2Ideal := by
  intro m g m' g' _ hagree
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N,
    Cert.Kernel2Ideal.Value.run_blocks m g, ?_⟩
  refine (θ_run Cert.Reference2Ideal.defs _ _).mono (fun r h c => ?_)
    (Cert.Reference2Ideal.Proj.run_entries m' g' _ _ _ _ _ hagree)
  obtain ⟨r0, r1, r2, r3, rest⟩ := h c
  exact ⟨r0.trans (Cert.Kernel2Ideal.Proj.array5 m c).symm, r1.trans (Cert.Kernel2Ideal.Proj.array6 m c).symm,
    r2.trans (Cert.Kernel2Ideal.Proj.array7 m c).symm, r3.trans (Cert.Kernel2Ideal.Proj.array8 m c).symm, rest⟩

/-- The experts' reference runs to its end, its arguments unchanged and every semaphore at zero. -/
theorem reference3_frame (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
        ∧ r.2.sem = fun _ => 0) :=
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The precondition bounds the words of the kernel's table. -/
theorem few_bits (m : (ℓ : Loc Cert.Kernel3.nD Cert.Kernel3.τ Cert.Kernel3.sig) → Buf (Elt Bits) ℓ) (h : Cert.Pre_Kernel3 m) :
    Cert.Kernel3.Experts.Few m := fun i => Cert.Experts.few_of_pre _ _ _ _ _ _ _ _ _ (congrFun (h 0) ix0) i

/-- The precondition bounds the words of the ideal kernel's table. -/
theorem few_ideal (m : (ℓ : Loc Cert.Kernel3Ideal.nD Cert.Kernel3Ideal.τ Cert.Kernel3Ideal.sig) → Buf (Elt Ideal) ℓ) (h : Cert.Pre_Kernel3Ideal m) :
    Cert.Kernel3Ideal.Experts.Few m := fun i => Cert.Experts.few_of_pre _ _ _ _ _ _ _ _ _ (congrFun (h 0) ix0) i

/-- The kernel's and the reference's rows through the experts are equal, for all arguments whose table names experts. -/
theorem same_experts : Cert.algebraic_Kernel3Ideal_Reference3Ideal := by
  intro m g m' g' hpre hagree
  have few := few_ideal m hpre
  refine ⟨fun c => Cert.Kernel3Ideal.Experts.result m c, ?_, ?_⟩
  · refine (θ_run Cert.Kernel3Ideal.defs _ _).mono (fun r h c => ⟨?_, h.2 c⟩)
      (θ_run_and (Cert.Kernel3Ideal.Experts.run_main m few g) (Cert.Kernel3Ideal.Experts.unchanged m few g))
    exact ((h.1 c).1 (7 : Fin 8)).trans (Cert.Kernel3Ideal.Experts.array7 m few g c)
  · refine (θ_run Cert.Reference3Ideal.defs _ _).mono (fun r h c => ⟨(h c).1.trans ?_, (h c).2⟩)
      (Cert.Reference3Ideal.Experts.run_entries m' g' _ _ _ _ _ _ _ _ _ (fun c i => ?_) hagree)
    · obtain rfl : c = 0 := Subsingleton.elim _ _
      exact few i
    · obtain rfl : c = 0 := Subsingleton.elim _ _
      rfl

/-- The certificate's claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_experts.Gen.facts,
  fun m ρ _ => Cert.Kernel.Gen.frame m ρ, fun m ρ _ => Cert.KernelIdeal.Gen.frame m ρ, fun m ρ _ => Cert.KernelIdeal.Gen.frame m ρ,
  fun m ρ _ => reference_frame m ρ, fun m ρ _ => reference_frame m ρ,
  fun m ρ _ => Cert.Kernel2.Gen.frame m ρ, fun m ρ _ => Cert.Kernel2Ideal.Gen.frame m ρ, fun m ρ _ => reference2_frame m ρ,
  fun m ρ h => Cert.Kernel3.Experts.frame m (few_bits m h) ρ, fun m ρ h => Cert.Kernel3Ideal.Experts.frame m (few_ideal m h) ρ,
  fun m ρ _ => reference3_frame m ρ, fun m ρ _ => reference3_frame m ρ,
  trivial, same_result, trivial, same_projection, trivial, same_experts⟩

end Cert.Proof

end
